-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S8192x4096 : Shape := ⟨2, ![8192, 4096]⟩
abbrev S4096x64 : Shape := ⟨2, ![4096, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x4096x64 : Shape := ⟨3, ![8, 4096, 64]⟩
abbrev S8x64 : Shape := ⟨2, ![8, 64]⟩
abbrev S8x64x64 : Shape := ⟨3, ![8, 64, 64]⟩
abbrev S8x64x256 : Shape := ⟨3, ![8, 64, 256]⟩
abbrev S8x256 : Shape := ⟨2, ![8, 256]⟩
abbrev S8192x64 : Shape := ⟨2, ![8192, 64]⟩
abbrev S1x64 : Shape := ⟨2, ![1, 64]⟩
abbrev S_ : Shape := ⟨0, ![]⟩
abbrev S1x8 : Shape := ⟨2, ![1, 8]⟩
abbrev S8192x1 : Shape := ⟨2, ![8192, 1]⟩
abbrev S1x16 : Shape := ⟨2, ![1, 16]⟩
abbrev S128x1 : Shape := ⟨2, ![128, 1]⟩
abbrev S512x64 : Shape := ⟨2, ![512, 64]⟩
abbrev S512x1 : Shape := ⟨2, ![512, 1]⟩
abbrev S512x8 : Shape := ⟨2, ![512, 8]⟩
abbrev S512 : Shape := ⟨1, ![512]⟩
abbrev S512x512 : Shape := ⟨2, ![512, 512]⟩
abbrev S1x1 : Shape := ⟨2, ![1, 1]⟩
abbrev S1x9 : Shape := ⟨2, ![1, 9]⟩
abbrev S1x2 : Shape := ⟨2, ![1, 2]⟩
abbrev S1x10 : Shape := ⟨2, ![1, 10]⟩
abbrev S1x4 : Shape := ⟨2, ![1, 4]⟩
abbrev S1x12 : Shape := ⟨2, ![1, 12]⟩
abbrev S128x8 : Shape := ⟨2, ![128, 8]⟩
abbrev S128 : Shape := ⟨1, ![128]⟩
abbrev S8192 : Shape := ⟨1, ![8192]⟩
abbrev S16 : Shape := ⟨1, ![16]⟩
abbrev S12288x4096 : Shape := ⟨2, ![12288, 4096]⟩
abbrev S256 : Shape := ⟨1, ![256]⟩
abbrev S16x4096 : Shape := ⟨2, ![16, 4096]⟩
abbrev S16x128 : Shape := ⟨2, ![16, 128]⟩
abbrev S12288x128 : Shape := ⟨2, ![12288, 128]⟩
abbrev S8x1x64 : Shape := ⟨3, ![8, 1, 64]⟩
abbrev S8x1x256 : Shape := ⟨3, ![8, 1, 256]⟩
abbrev S12288x256 : Shape := ⟨2, ![12288, 256]⟩
abbrev S512x4096 : Shape := ⟨2, ![512, 4096]⟩
abbrev S1x4096x64 : Shape := ⟨3, ![1, 4096, 64]⟩
abbrev S1 : Shape := ⟨1, ![1]⟩
abbrev S1x1x64 : Shape := ⟨3, ![1, 1, 64]⟩
abbrev S1x64x64 : Shape := ⟨3, ![1, 64, 64]⟩
abbrev S1x64x256 : Shape := ⟨3, ![1, 64, 256]⟩
abbrev S1x1x256 : Shape := ⟨3, ![1, 1, 256]⟩
abbrev S512x256 : Shape := ⟨2, ![512, 256]⟩
abbrev S64x256 : Shape := ⟨2, ![64, 256]⟩
abbrev S1x256 : Shape := ⟨2, ![1, 256]⟩
abbrev S12288x2x128 : Shape := ⟨3, ![12288, 2, 128]⟩
abbrev S8192x2x128 : Shape := ⟨3, ![8192, 2, 128]⟩
abbrev S128x2x128 : Shape := ⟨3, ![128, 2, 128]⟩
abbrev S8192x256 : Shape := ⟨2, ![8192, 256]⟩

abbrev nBuf : Table → Nat
  | .hbm => 43
  | .local .tc .vmem => 35
  | .local .tc .smem => 1
  | .local .scVector .vmem => 13
  | _ => 0

abbrev bufTy : (tb : Table) → Fin (nBuf tb) → BufTy
  | .hbm, ⟨0, _⟩ => ⟨S8192x4096, .f32⟩
  | .hbm, ⟨1, _⟩ => ⟨S4096x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S8x4096x64, .f32⟩
  | .hbm, ⟨10, _⟩ => ⟨S8x64, .f32⟩
  | .hbm, ⟨11, _⟩ => ⟨S8x64x64, .f32⟩
  | .hbm, ⟨12, _⟩ => ⟨S8x64, .f32⟩
  | .hbm, ⟨13, _⟩ => ⟨S8x64x64, .f32⟩
  | .hbm, ⟨14, _⟩ => ⟨S8x64, .f32⟩
  | .hbm, ⟨15, _⟩ => ⟨S8x64x256, .f32⟩
  | .hbm, ⟨16, _⟩ => ⟨S8x256, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S8192x64, .f32⟩
  | .hbm, ⟨24, _⟩ => ⟨S1x64, .f32⟩
  | .hbm, ⟨25, _⟩ => ⟨S1x64, .f32⟩
  | .hbm, ⟨26, _⟩ => ⟨S1x8, .f32⟩
  | .hbm, ⟨27, _⟩ => ⟨S8192x1, .i32⟩
  | .hbm, ⟨28, _⟩ => ⟨S8192x1, .i32⟩
  | .hbm, ⟨29, _⟩ => ⟨S1x16, .i32⟩
  | .hbm, ⟨30, _⟩ => ⟨S128x1, .i32⟩
  | .hbm, ⟨31, _⟩ => ⟨S8192, .i32⟩
  | .hbm, ⟨32, _⟩ => ⟨S8192, .i32⟩
  | .hbm, ⟨33, _⟩ => ⟨S16, .i32⟩
  | .hbm, ⟨34, _⟩ => ⟨S12288x4096, .f32⟩
  | .hbm, ⟨35, _⟩ => ⟨S8x1x64, .f32⟩
  | .hbm, ⟨36, _⟩ => ⟨S8x1x64, .f32⟩
  | .hbm, ⟨37, _⟩ => ⟨S8x1x64, .f32⟩
  | .hbm, ⟨38, _⟩ => ⟨S8x1x256, .f32⟩
  | .hbm, ⟨39, _⟩ => ⟨S12288x256, .f32⟩
  | .hbm, ⟨40, _⟩ => ⟨S12288x2x128, .f32⟩
  | .hbm, ⟨41, _⟩ => ⟨S8192x2x128, .f32⟩
  | .hbm, ⟨42, _⟩ => ⟨S8192x256, .f32⟩
  | .local .tc .vmem, ⟨0, _⟩ => ⟨S512x64, .f32⟩
  | .local .tc .vmem, ⟨1, _⟩ => ⟨S512x64, .f32⟩
  | .local .tc .vmem, ⟨2, _⟩ => ⟨S64x64, .f32⟩
  | .local .tc .vmem, ⟨3, _⟩ => ⟨S1x64, .f32⟩
  | .local .tc .vmem, ⟨4, _⟩ => ⟨S64x64, .f32⟩
  | .local .tc .vmem, ⟨5, _⟩ => ⟨S1x64, .f32⟩
  | .local .tc .vmem, ⟨6, _⟩ => ⟨S64x8, .f32⟩
  | .local .tc .vmem, ⟨7, _⟩ => ⟨S1x8, .f32⟩
  | .local .tc .vmem, ⟨8, _⟩ => ⟨S512x1, .i32⟩
  | .local .tc .vmem, ⟨9, _⟩ => ⟨S512x1, .i32⟩
  | .local .tc .vmem, ⟨10, _⟩ => ⟨S512x1, .i32⟩
  | .local .tc .vmem, ⟨11, _⟩ => ⟨S512x1, .i32⟩
  | .local .tc .vmem, ⟨12, _⟩ => ⟨S1x16, .i32⟩
  | .local .tc .vmem, ⟨13, _⟩ => ⟨S128x1, .i32⟩
  | .local .tc .vmem, ⟨14, _⟩ => ⟨S1x8, .f32⟩
  | .local .tc .vmem, ⟨15, _⟩ => ⟨S512x4096, .f32⟩
  | .local .tc .vmem, ⟨16, _⟩ => ⟨S512x4096, .f32⟩
  | .local .tc .vmem, ⟨17, _⟩ => ⟨S1x4096x64, .f32⟩
  | .local .tc .vmem, ⟨18, _⟩ => ⟨S1x4096x64, .f32⟩
  | .local .tc .vmem, ⟨19, _⟩ => ⟨S1x1x64, .f32⟩
  | .local .tc .vmem, ⟨20, _⟩ => ⟨S1x1x64, .f32⟩
  | .local .tc .vmem, ⟨21, _⟩ => ⟨S1x64x64, .f32⟩
  | .local .tc .vmem, ⟨22, _⟩ => ⟨S1x64x64, .f32⟩
  | .local .tc .vmem, ⟨23, _⟩ => ⟨S1x1x64, .f32⟩
  | .local .tc .vmem, ⟨24, _⟩ => ⟨S1x1x64, .f32⟩
  | .local .tc .vmem, ⟨25, _⟩ => ⟨S1x64x64, .f32⟩
  | .local .tc .vmem, ⟨26, _⟩ => ⟨S1x64x64, .f32⟩
  | .local .tc .vmem, ⟨27, _⟩ => ⟨S1x1x64, .f32⟩
  | .local .tc .vmem, ⟨28, _⟩ => ⟨S1x1x64, .f32⟩
  | .local .tc .vmem, ⟨29, _⟩ => ⟨S1x64x256, .f32⟩
  | .local .tc .vmem, ⟨30, _⟩ => ⟨S1x64x256, .f32⟩
  | .local .tc .vmem, ⟨31, _⟩ => ⟨S1x1x256, .f32⟩
  | .local .tc .vmem, ⟨32, _⟩ => ⟨S1x1x256, .f32⟩
  | .local .tc .vmem, ⟨33, _⟩ => ⟨S512x256, .f32⟩
  | .local .tc .vmem, ⟨34, _⟩ => ⟨S512x256, .f32⟩
  | .local .tc .smem, ⟨0, _⟩ => ⟨S128, .i32⟩
  | .local .scVector .vmem, ⟨0, _⟩ => ⟨S256, .i32⟩
  | .local .scVector .vmem, ⟨1, _⟩ => ⟨S256, .i32⟩
  | .local .scVector .vmem, ⟨2, _⟩ => ⟨S256, .i32⟩
  | .local .scVector .vmem, ⟨3, _⟩ => ⟨S16, .i32⟩
  | .local .scVector .vmem, ⟨4, _⟩ => ⟨S16, .i32⟩
  | .local .scVector .vmem, ⟨5, _⟩ => ⟨S16x4096, .f32⟩
  | .local .scVector .vmem, ⟨6, _⟩ => ⟨S256, .i32⟩
  | .local .scVector .vmem, ⟨7, _⟩ => ⟨S256, .i32⟩
  | .local .scVector .vmem, ⟨8, _⟩ => ⟨S256, .i32⟩
  | .local .scVector .vmem, ⟨9, _⟩ => ⟨S16, .i32⟩
  | .local .scVector .vmem, ⟨10, _⟩ => ⟨S16, .i32⟩
  | .local .scVector .vmem, ⟨11, _⟩ => ⟨S128x2x128, .f32⟩
  | .local .scVector .vmem, ⟨12, _⟩ => ⟨S128x2x128, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => false
  | ⟨40, _⟩ => false
  | ⟨41, _⟩ => false
  | ⟨42, _⟩ => false
  | ⟨43, _⟩ => false
  | ⟨44, _⟩ => false
  | ⟨45, _⟩ => false
  | _ => false

abbrev sig : RefSig :=
  ofTables nBuf rfl bufTy 4 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v13 : Ref sig .tc := ⟨.smem, 0, rfl⟩
abbrev main_arg0_scv : Ref sig .scVector := ⟨.hbm, 0, rfl⟩
abbrev main_v9_scv : Ref sig .scVector := ⟨.hbm, 31, rfl⟩
abbrev main_v10_scv : Ref sig .scVector := ⟨.hbm, 32, rfl⟩
abbrev main_v11_scv : Ref sig .scVector := ⟨.hbm, 33, rfl⟩
abbrev main_v12_scv : Ref sig .scVector := ⟨.hbm, 34, rfl⟩
abbrev main_v19_scv : Ref sig .scVector := ⟨.hbm, 40, rfl⟩
abbrev main_v20_scv : Ref sig .scVector := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc3_scratch0 : Ref sig .scVector := ⟨.vmem, 6, rfl⟩
abbrev cc3_scratch1 : Ref sig .scVector := ⟨.vmem, 7, rfl⟩
abbrev cc3_scratch2 : Ref sig .scVector := ⟨.vmem, 8, rfl⟩
abbrev cc3_scratch3 : Ref sig .scVector := ⟨.vmem, 9, rfl⟩
abbrev cc3_scratch4 : Ref sig .scVector := ⟨.vmem, 10, rfl⟩
abbrev cc3_scratch5 : Ref sig .scVector := ⟨.vmem, 11, rfl⟩
abbrev cc3_scratch6 : Ref sig .scVector := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc2_sem8_0 : DmaSem sig := 35
abbrev cc2_sem8_1 : DmaSem sig := 36
abbrev cc2_sem9_0 : DmaSem sig := 37
abbrev cc2_sem9_1 : DmaSem sig := 38
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x16 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k1_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k1_off2 (k1_t1 : Fin k1_t1_loop.trips) : Fin 1 → Nat :=
  let c0_i32_8 : BitVec 32 := 0#32
  let c0_i32 : BitVec 32 := 0#32
  let c1_i32 : BitVec 32 := 1#32
  let arg14 : BitVec 32 := Scf.iv c0_i32 c1_i32 k1_t1
  let c16_i32_7 : BitVec 32 := 16#32
  let v16 : BitVec 32 := Scalar.muli arg14 c16_i32_7
  let v17 : BitVec 32 := Scalar.addi c0_i32_8 v16
  let v18 : Index := Scalar.indexCast v17
  ![v18.toNat]

def k1_chk1 (v19 : IVec S16 32) : Prop :=
  (∀ a x, ((![v19] : Fin 1 → IVec S16 32) a x).toNat < S16.size a)
theorem k1_idx1_inb : ∀ (v19 : IVec S16 32) (k1_hw1 : k1_chk1 v19), ∀ a x, ((![v19] : Fin 1 → IVec S16 32) a x).toNat < S16.size a := fun v19 k1_hw1 => k1_hw1
def k1_off3 (k1_t1 : Fin k1_t1_loop.trips) : Fin 1 → Nat :=
  let c0_i32_8 : BitVec 32 := 0#32
  let c0_i32 : BitVec 32 := 0#32
  let c1_i32 : BitVec 32 := 1#32
  let arg14 : BitVec 32 := Scf.iv c0_i32 c1_i32 k1_t1
  let c16_i32_7 : BitVec 32 := 16#32
  let v16 : BitVec 32 := Scalar.muli arg14 c16_i32_7
  let v17 : BitVec 32 := Scalar.addi c0_i32_8 v16
  let v21 : Index := Scalar.indexCast v17
  ![v21.toNat]
@[reducible] def k1_t2_loop : Scf.Loop 32 :=
  let c0_i32_3 : BitVec 32 := 0#32
  let c16_i32_4 : BitVec 32 := 16#32
  let v15 : BitVec 32 := Scalar.addi c0_i32_3 c16_i32_4
  let c1_i32_5 : BitVec 32 := 1#32
  ⟨c0_i32_3, v15, c1_i32_5⟩
def k1_off4 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_8 : BitVec 32 := 0#32
  let c0_i32_3 : BitVec 32 := 0#32
  let c1_i32_5 : BitVec 32 := 1#32
  let arg14 : BitVec 32 := Scf.iv c0_i32_3 c1_i32_5 k1_t2
  let c16_i32_7 : BitVec 32 := 16#32
  let v16 : BitVec 32 := Scalar.muli arg14 c16_i32_7
  let v17 : BitVec 32 := Scalar.addi c0_i32_8 v16
  let v18 : BitVec 32 := Scalar.addi v2 v17
  let c0_i32_12_r3 : BitVec 32 := 0#32
  ![v18.toNat, 0]
@[reducible] def k1_t3_loop : Scf.Loop 32 :=
  let c0_i32_9 : BitVec 32 := 0#32
  let c32_i32 : BitVec 32 := 32#32
  let v19 : BitVec 32 := Scalar.addi c0_i32_9 c32_i32
  let c1_i32_10 : BitVec 32 := 1#32
  ⟨c0_i32_9, v19, c1_i32_10⟩
def k1_off5 (k1_t3 : Fin k1_t3_loop.trips) : Fin 2 → Nat :=
  let c0_i32_13 : BitVec 32 := 0#32
  let c0_i32_12 : BitVec 32 := 0#32
  let c0_i32_9 : BitVec 32 := 0#32
  let c1_i32_10 : BitVec 32 := 1#32
  let arg15 : BitVec 32 := Scf.iv c0_i32_9 c1_i32_10 k1_t3
  let c128_i32 : BitVec 32 := 128#32
  let v20 : BitVec 32 := Scalar.muli arg15 c128_i32
  let v21 : BitVec 32 := Scalar.addi c0_i32_12 v20
  ![0, v21.toNat]
def k1_off6 (k1_t2 : Fin k1_t2_loop.trips) : Fin 1 → Nat :=
  let c0_i32_8 : BitVec 32 := 0#32
  let c0_i32_3 : BitVec 32 := 0#32
  let c1_i32_5 : BitVec 32 := 1#32
  let arg14 : BitVec 32 := Scf.iv c0_i32_3 c1_i32_5 k1_t2
  let c16_i32_7 : BitVec 32 := 16#32
  let v16 : BitVec 32 := Scalar.muli arg14 c16_i32_7
  let v17 : BitVec 32 := Scalar.addi c0_i32_8 v16
  ![v17.toNat]
def k1_off7 (k1_t3 : Fin k1_t3_loop.trips) : Fin 2 → Nat :=
  let c0_i32_14 : BitVec 32 := 0#32
  let c0_i32_12 : BitVec 32 := 0#32
  let c0_i32_9 : BitVec 32 := 0#32
  let c1_i32_10 : BitVec 32 := 1#32
  let arg15 : BitVec 32 := Scf.iv c0_i32_9 c1_i32_10 k1_t3
  let c128_i32 : BitVec 32 := 128#32
  let v20 : BitVec 32 := Scalar.muli arg15 c128_i32
  let v21 : BitVec 32 := Scalar.addi c0_i32_12 v20
  ![0, v21.toNat]
abbrev grid2 : Pipeline.Grid := ⟨1, ![24], ![false]⟩

abbrev pre2 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_5 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_6 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_7 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_8 (k2_off1_inb : ∀ i : grid2.Coords, ∀ a, (k2_off1 i) a + S1.size a ≤ S128.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S128) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x64x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k3_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k3_off2 (k3_t1 : Fin k3_t1_loop.trips) : Fin 1 → Nat :=
  let c0_i32_20 : BitVec 32 := 0#32
  let c0_i32 : BitVec 32 := 0#32
  let c1_i32 : BitVec 32 := 1#32
  let arg16 : BitVec 32 := Scf.iv c0_i32 c1_i32 k3_t1
  let c16_i32_19 : BitVec 32 := 16#32
  let v24 : BitVec 32 := Scalar.muli arg16 c16_i32_19
  let v25 : BitVec 32 := Scalar.addi c0_i32_20 v24
  let v26 : Index := Scalar.indexCast v25
  ![v26.toNat]

def k3_chk1 (v27 : IVec S16 32) : Prop :=
  (∀ a x, ((![v27] : Fin 1 → IVec S16 32) a x).toNat < S16.size a)
theorem k3_idx1_inb : ∀ (v27 : IVec S16 32) (k3_hw1 : k3_chk1 v27), ∀ a x, ((![v27] : Fin 1 → IVec S16 32) a x).toNat < S16.size a := fun v27 k3_hw1 => k3_hw1
def k3_off3 (k3_t1 : Fin k3_t1_loop.trips) : Fin 1 → Nat :=
  let c0_i32_20 : BitVec 32 := 0#32
  let c0_i32 : BitVec 32 := 0#32
  let c1_i32 : BitVec 32 := 1#32
  let arg16 : BitVec 32 := Scf.iv c0_i32 c1_i32 k3_t1
  let c16_i32_19 : BitVec 32 := 16#32
  let v24 : BitVec 32 := Scalar.muli arg16 c16_i32_19
  let v25 : BitVec 32 := Scalar.addi c0_i32_20 v24
  let v29 : Index := Scalar.indexCast v25
  ![v29.toNat]
def k3_off4 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_19_r3 : BitVec 32 := 0#32
  let c0_i32_20_r3 : BitVec 32 := 0#32
  ![v2.toNat, 0, 0]
def k3_off5 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_18 : BitVec 32 := 128#32
  let v23 : BitVec 32 := Scalar.addi v2 c128_i32_18
  let c0_i32_19_r4 : BitVec 32 := 0#32
  let c0_i32_20_r4 : BitVec 32 := 0#32
  ![v23.toNat, 0, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8192x4096 : Shape := ⟨2, ![8192, 4096]⟩
abbrev S4096x64 : Shape := ⟨2, ![4096, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S8x4096x64 : Shape := ⟨3, ![8, 4096, 64]⟩
abbrev S8x64 : Shape := ⟨2, ![8, 64]⟩
abbrev S8x64x64 : Shape := ⟨3, ![8, 64, 64]⟩
abbrev S8x64x256 : Shape := ⟨3, ![8, 64, 256]⟩
abbrev S8x256 : Shape := ⟨2, ![8, 256]⟩
abbrev S8192x64 : Shape := ⟨2, ![8192, 64]⟩
abbrev S1x64 : Shape := ⟨2, ![1, 64]⟩
abbrev S_ : Shape := ⟨0, ![]⟩
abbrev S8192x8 : Shape := ⟨2, ![8192, 8]⟩
abbrev S1x8 : Shape := ⟨2, ![1, 8]⟩
abbrev S8192 : Shape := ⟨1, ![8192]⟩
abbrev S8192x1 : Shape := ⟨2, ![8192, 1]⟩
abbrev S8x64x8192 : Shape := ⟨3, ![8, 64, 8192]⟩
abbrev S8x8192x64 : Shape := ⟨3, ![8, 8192, 64]⟩
abbrev S8x1x64 : Shape := ⟨3, ![8, 1, 64]⟩
abbrev S8x8192x256 : Shape := ⟨3, ![8, 8192, 256]⟩
abbrev S8x1x256 : Shape := ⟨3, ![8, 1, 256]⟩
abbrev S8192x2 : Shape := ⟨2, ![8192, 2]⟩
abbrev S8192x256 : Shape := ⟨2, ![8192, 256]⟩

abbrev nBuf : Space → Nat
  | .hbm => 106
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S8x4096x64, .f32⟩
  | .hbm, ⟨10, _⟩ => ⟨S8x64, .f32⟩
  | .hbm, ⟨11, _⟩ => ⟨S8x64x64, .f32⟩
  | .hbm, ⟨12, _⟩ => ⟨S8x64, .f32⟩
  | .hbm, ⟨13, _⟩ => ⟨S8x64x64, .f32⟩
  | .hbm, ⟨14, _⟩ => ⟨S8x64, .f32⟩
  | .hbm, ⟨15, _⟩ => ⟨S8x64x256, .f32⟩
  | .hbm, ⟨16, _⟩ => ⟨S8x256, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S1x64, .f32⟩
  | .hbm, ⟨33, _⟩ => ⟨S8192x64, .f32⟩
  | .hbm, ⟨34, _⟩ => ⟨S8192x64, .f32⟩
  | .hbm, ⟨35, _⟩ => ⟨S_, .f32⟩
  | .hbm, ⟨36, _⟩ => ⟨S8192x64, .f32⟩
  | .hbm, ⟨37, _⟩ => ⟨S8192x64, .f32⟩
  | .hbm, ⟨38, _⟩ => ⟨S8192x8, .f32⟩
  | .hbm, ⟨39, _⟩ => ⟨S1x8, .f32⟩
  | .hbm, ⟨40, _⟩ => ⟨S8192x8, .f32⟩
  | .hbm, ⟨41, _⟩ => ⟨S8192x8, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x8, .f32⟩
  | .hbm, ⟨55, _⟩ => ⟨S8192x8, .f32⟩
  | .hbm, ⟨56, _⟩ => ⟨S8192x8, .i32⟩
  | .hbm, ⟨57, _⟩ => ⟨S_, .f32⟩
  | .hbm, ⟨58, _⟩ => ⟨S_, .i32⟩
  | .hbm, ⟨59, _⟩ => ⟨S8192, .f32⟩
  | .hbm, ⟨60, _⟩ => ⟨S8192, .i32⟩
  | .hbm, ⟨61, _⟩ => ⟨S8x64x8192, .f32⟩
  | .hbm, ⟨62, _⟩ => ⟨S8x8192x64, .f32⟩
  | .hbm, ⟨63, _⟩ => ⟨S8x1x64, .f32⟩
  | .hbm, ⟨64, _⟩ => ⟨S8x8192x64, .f32⟩
  | .hbm, ⟨65, _⟩ => ⟨S8x8192x64, .f32⟩
  | .hbm, ⟨66, _⟩ => ⟨S_, .f32⟩
  | .hbm, ⟨67, _⟩ => ⟨S8x8192x64, .f32⟩
  | .hbm, ⟨68, _⟩ => ⟨S8x8192x64, .f32⟩
  | .hbm, ⟨69, _⟩ => ⟨S8x8192x64, .f32⟩
  | .hbm, ⟨70, _⟩ => ⟨S8x1x64, .f32⟩
  | .hbm, ⟨71, _⟩ => ⟨S8x8192x64, .f32⟩
  | .hbm, ⟨72, _⟩ => ⟨S8x8192x64, .f32⟩
  | .hbm, ⟨73, _⟩ => ⟨S_, .f32⟩
  | .hbm, ⟨74, _⟩ => ⟨S8x8192x64, .f32⟩
  | .hbm, ⟨75, _⟩ => ⟨S8x8192x64, .f32⟩
  | .hbm, ⟨76, _⟩ => ⟨S8x8192x64, .f32⟩
  | .hbm, ⟨77, _⟩ => ⟨S8x1x64, .f32⟩
  | .hbm, ⟨78, _⟩ => ⟨S8x8192x64, .f32⟩
  | .hbm, ⟨79, _⟩ => ⟨S8x8192x64, .f32⟩
  | .hbm, ⟨80, _⟩ => ⟨S_, .f32⟩
  | .hbm, ⟨81, _⟩ => ⟨S8x8192x64, .f32⟩
  | .hbm, ⟨82, _⟩ => ⟨S8x8192x64, .f32⟩
  | .hbm, ⟨83, _⟩ => ⟨S8x8192x256, .f32⟩
  | .hbm, ⟨84, _⟩ => ⟨S8x1x256, .f32⟩
  | .hbm, ⟨85, _⟩ => ⟨S8x8192x256, .f32⟩
  | .hbm, ⟨86, _⟩ => ⟨S8x8192x256, .f32⟩
  | .hbm, ⟨87, _⟩ => ⟨S8192, .i32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S_, .i32⟩
  | .hbm, ⟨96, _⟩ => ⟨S8192, .i32⟩
  | .hbm, ⟨97, _⟩ => ⟨S8192, .i1⟩
  | .hbm, ⟨98, _⟩ => ⟨S_, .i32⟩
  | .hbm, ⟨99, _⟩ => ⟨S8192, .i32⟩
  | .hbm, ⟨100, _⟩ => ⟨S8192, .i32⟩
  | .hbm, ⟨101, _⟩ => ⟨S8192, .i32⟩
  | .hbm, ⟨102, _⟩ => ⟨S8192x1, .i32⟩
  | .hbm, ⟨103, _⟩ => ⟨S8192x1, .i32⟩
  | .hbm, ⟨104, _⟩ => ⟨S8192x2, .i32⟩
  | .hbm, ⟨105, _⟩ => ⟨S8192x256, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call2_cst : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_cst_0 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_v0 : Ref sig .tc := ⟨.hbm, 56, rfl⟩
abbrev main_call3_cst : Ref sig .tc := ⟨.hbm, 57, rfl⟩
abbrev main_call3_c : Ref sig .tc := ⟨.hbm, 58, rfl⟩
abbrev main_call3_v1_0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call4_cst : Ref sig .tc := ⟨.hbm, 66, rfl⟩
abbrev main_call4_v0 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call5_cst : Ref sig .tc := ⟨.hbm, 73, rfl⟩
abbrev main_call5_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call6_cst : Ref sig .tc := ⟨.hbm, 80, rfl⟩
abbrev main_call6_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c : Ref sig .tc := ⟨.hbm, 88, rfl⟩
abbrev main_v52 : Ref sig .tc := ⟨.hbm, 89, rfl⟩
abbrev main_v53 : Ref sig .tc := ⟨.hbm, 90, rfl⟩
abbrev main_c_2 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_c_3 : Ref sig .tc := ⟨.hbm, 95, rfl⟩
abbrev main_v57 : Ref sig .tc := ⟨.hbm, 96, rfl⟩
abbrev main_v58 : Ref sig .tc := ⟨.hbm, 97, rfl⟩
abbrev main_c_4 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩

abbrev nD : Nat := 1
abbrev τ : Topo := Topo.v7x

variable {F : FTy → Type} [FloatOps F]
-- ==== Proof.Common.lean ====
/-
  What both SparseCore calls' proofs share: the program as the launch theorem sees it, the resource
  algebra, a tile's coordinates, and the routing mathematics of the dispatch: which row of the sorted
  array a token goes to.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.ShareLeaves
public import Idealize.ShloMosaic.Lib.Tactic
public import Idealize.ShloMosaic.Lib.ValueIdx
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

/-- Indices with equal coordinates. -/
theorem ext1 {a : ℕ} {i j : (⟨1, ![a]⟩ : Shape).Idx} (h0 : (i 0).val = (j 0).val) : i = j := by
  rw [eq_ix1 i, eq_ix1 j]; exact congrArg ix1 (Fin.ext h0)
theorem ext2 {a b : ℕ} {i j : (⟨2, ![a, b]⟩ : Shape).Idx} (h0 : (i 0).val = (j 0).val) (h1 : (i 1).val = (j 1).val) : i = j := by
  rw [eq_ix2 i, eq_ix2 j]; exact congrArg₂ ix2 (Fin.ext h0) (Fin.ext h1)
theorem ext3 {a b c : ℕ} {i j : (⟨3, ![a, b, c]⟩ : Shape).Idx} (h0 : (i 0).val = (j 0).val) (h1 : (i 1).val = (j 1).val)
    (h2 : (i 2).val = (j 2).val) : i = j := by
  rw [eq_ix3 i, eq_ix3 j, show i 0 = j 0 from Fin.ext h0, show i 1 = j 1 from Fin.ext h1, show i 2 = j 2 from Fin.ext h2]

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the pipelines' rounds library, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## A tile's coordinates -/

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- A tile's number: twice its subcore plus its core. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem base_eq (L : grid1.Coords) : 512 * (L 1).val + 256 * (L 0).val = 256 * wid L := by unfold wid; omega

theorem cell_ne {d : Dev nD} {L : grid1.Coords} {s s' : SemLoc sig} (h : s ≠ s') : ((thr d L, s) : GSem nD τ sig) ≠ (thr d L, s') :=
  fun e => h (congrArg Prod.snd e)

abbrev loc (d : Dev nD) (b : Ref sig .tc) : Loc nD τ sig := (SparseCore.T d).loc b

variable [FloatOps F]

/-- The subcore's scratch buffers of this call, apart from its other buffers. -/
theorem ownBufs_one (d : Dev nD) (L : grid1.Coords) :
    (ownBufs (V d (cV L) (jV L)) : sProp 𝕄)
      = iprop((∃ f, (V d (cV L) (jV L)).loc cc1_scratch0 ↦{fullShare} f)
          ∗ (∃ f, (V d (cV L) (jV L)).loc cc1_scratch1 ↦{fullShare} f)
          ∗ (∃ f, (V d (cV L) (jV L)).loc cc1_scratch2 ↦{fullShare} f)
          ∗ (∃ f, (V d (cV L) (jV L)).loc cc1_scratch3 ↦{fullShare} f)
          ∗ (∃ f, (V d (cV L) (jV L)).loc cc1_scratch4 ↦{fullShare} f)
          ∗ (∃ f, (V d (cV L) (jV L)).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L)))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := (Proc.scVector (cV L) (jV L))) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide),
      Finset.mem_erase.mpr ⟨fun e => absurd (Proc.devRef_injective _ e) (show (cc1_scratch4 : Ref sig .scVector) ≠ cc1_scratch2 by decide),
      Finset.mem_erase.mpr ⟨fun e => absurd (Proc.devRef_injective _ e) (show (cc1_scratch4 : Ref sig .scVector) ≠ cc1_scratch1 by decide),
      Finset.mem_erase.mpr ⟨fun e => absurd (Proc.devRef_injective _ e) (show (cc1_scratch4 : Ref sig .scVector) ≠ cc1_scratch0 by decide),
      SparseCore.Cfg.mem_ownRefs_of_owner (p := (Proc.scVector (cV L) (jV L))) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide),
      Finset.mem_erase.mpr ⟨fun e => absurd (Proc.devRef_injective _ e) (show (cc1_scratch5 : Ref sig .scVector) ≠ cc1_scratch3 by decide),
      Finset.mem_erase.mpr ⟨fun e => absurd (Proc.devRef_injective _ e) (show (cc1_scratch5 : Ref sig .scVector) ≠ cc1_scratch2 by decide),
      Finset.mem_erase.mpr ⟨fun e => absurd (Proc.devRef_injective _ e) (show (cc1_scratch5 : Ref sig .scVector) ≠ cc1_scratch1 by decide),
      Finset.mem_erase.mpr ⟨fun e => absurd (Proc.devRef_injective _ e) (show (cc1_scratch5 : Ref sig .scVector) ≠ cc1_scratch0 by decide),
      SparseCore.Cfg.mem_ownRefs_of_owner (p := (Proc.scVector (cV L) (jV L))) (b := (Proc.scVector (cV L) (jV L)).devRef cc1_scratch5) rfl⟩⟩⟩⟩⟩)]

/-- The subcore's semaphores of this call, apart from its other semaphores. -/
theorem ownSems_one (d : Dev nD) (L : grid1.Coords) :
    (ownSems0 (V d (cV L) (jV L)) : sProp 𝕄)
      = iprop(semVal ((V d (cV L) (jV L)), SemLoc.dma cc1_scratch6.sem) 0
          ∗ semVal ((V d (cV L) (jV L)), SemLoc.dma cc1_scoped0.sem) 0
          ∗ semVal ((V d (cV L) (jV L)), SemLoc.dma cc1_scoped1.sem) 0
          ∗ semVal ((V d (cV L) (jV L)), SemLoc.dma cc1_scoped2.sem) 0
          ∗ semVal ((V d (cV L) (jV L)), SemLoc.dma cc1_scoped3.sem) 0
          ∗ bigSep ((((((ownCells (V d (cV L) (jV L))).erase ((V d (cV L) (jV L)), SemLoc.dma cc1_scratch6.sem)).erase ((V d (cV L) (jV L)), SemLoc.dma cc1_scoped0.sem)).erase ((V d (cV L) (jV L)), SemLoc.dma cc1_scoped1.sem)).erase ((V d (cV L) (jV L)), SemLoc.dma cc1_scoped2.sem)).erase ((V d (cV L) (jV L)), SemLoc.dma cc1_scoped3.sem)) fun g => semVal g 0) := by
  unfold SparseCore.Cfg.ownSems0
  rw [SparseCore.bigSep_erase' ((mem_ownCells (g := (((V d (cV L) (jV L)), SemLoc.dma cc1_scratch6.sem) : GSem nD τ sig))).mpr ⟨rfl, by show (SemLoc.dma cc1_scratch6.sem : SemLoc sig).isScoped .scVector = true; decide⟩),
    SparseCore.bigSep_erase' (Finset.mem_erase.mpr ⟨cell_ne (by decide),
      (mem_ownCells (g := (((V d (cV L) (jV L)), SemLoc.dma cc1_scoped0.sem) : GSem nD τ sig))).mpr ⟨rfl, by show (SemLoc.dma cc1_scoped0.sem : SemLoc sig).isScoped .scVector = true; decide⟩⟩),
    SparseCore.bigSep_erase' (Finset.mem_erase.mpr ⟨cell_ne (by decide),
      Finset.mem_erase.mpr ⟨cell_ne (by decide),
      (mem_ownCells (g := (((V d (cV L) (jV L)), SemLoc.dma cc1_scoped1.sem) : GSem nD τ sig))).mpr ⟨rfl, by show (SemLoc.dma cc1_scoped1.sem : SemLoc sig).isScoped .scVector = true; decide⟩⟩⟩),
    SparseCore.bigSep_erase' (Finset.mem_erase.mpr ⟨cell_ne (by decide),
      Finset.mem_erase.mpr ⟨cell_ne (by decide),
      Finset.mem_erase.mpr ⟨cell_ne (by decide),
      (mem_ownCells (g := (((V d (cV L) (jV L)), SemLoc.dma cc1_scoped2.sem) : GSem nD τ sig))).mpr ⟨rfl, by show (SemLoc.dma cc1_scoped2.sem : SemLoc sig).isScoped .scVector = true; decide⟩⟩⟩⟩),
    SparseCore.bigSep_erase' (Finset.mem_erase.mpr ⟨cell_ne (by decide),
      Finset.mem_erase.mpr ⟨cell_ne (by decide),
      Finset.mem_erase.mpr ⟨cell_ne (by decide),
      Finset.mem_erase.mpr ⟨cell_ne (by decide),
      (mem_ownCells (g := (((V d (cV L) (jV L)), SemLoc.dma cc1_scoped3.sem) : GSem nD τ sig))).mpr ⟨rfl, by show (SemLoc.dma cc1_scoped3.sem : SemLoc sig).isScoped .scVector = true; decide⟩⟩⟩⟩⟩)]

/-- The subcore's scratch buffers of this call, apart from its other buffers. -/
theorem ownBufs_two (d : Dev nD) (L : grid1.Coords) :
    (ownBufs (V d (cV L) (jV L)) : sProp 𝕄)
      = iprop((∃ f, (V d (cV L) (jV L)).loc cc3_scratch0 ↦{fullShare} f)
          ∗ (∃ f, (V d (cV L) (jV L)).loc cc3_scratch1 ↦{fullShare} f)
          ∗ (∃ f, (V d (cV L) (jV L)).loc cc3_scratch2 ↦{fullShare} f)
          ∗ (∃ f, (V d (cV L) (jV L)).loc cc3_scratch3 ↦{fullShare} f)
          ∗ (∃ f, (V d (cV L) (jV L)).loc cc3_scratch4 ↦{fullShare} f)
          ∗ (∃ f, (V d (cV L) (jV L)).loc cc3_scratch5 ↦{fullShare} f)
          ∗ (∃ f, (V d (cV L) (jV L)).loc cc3_scratch6 ↦{fullShare} f)
          ∗ bigSep ((((((((ownRefs (τ := τ) (.scVector (cV L) (jV L))).erase ((Proc.scVector (cV L) (jV L)).devRef cc3_scratch0)).erase ((Proc.scVector (cV L) (jV L)).devRef cc3_scratch1)).erase ((Proc.scVector (cV L) (jV L)).devRef cc3_scratch2)).erase ((Proc.scVector (cV L) (jV L)).devRef cc3_scratch3)).erase ((Proc.scVector (cV L) (jV L)).devRef cc3_scratch4)).erase ((Proc.scVector (cV L) (jV L)).devRef cc3_scratch5)).erase ((Proc.scVector (cV L) (jV L)).devRef cc3_scratch6))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L)))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := (Proc.scVector (cV L) (jV L))) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := (Proc.scVector (cV L) (jV L))) (b := (Proc.scVector (cV L) (jV L)).devRef cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := (Proc.scVector (cV L) (jV L))) (b := (Proc.scVector (cV L) (jV L)).devRef cc3_scratch3) rfl⟩⟩⟩),
    SparseCore.bigSep_erase' (Finset.mem_erase.mpr ⟨fun e => absurd (Proc.devRef_injective _ e) (show (cc3_scratch4 : Ref sig .scVector) ≠ cc3_scratch3 by decide),
      Finset.mem_erase.mpr ⟨fun e => absurd (Proc.devRef_injective _ e) (show (cc3_scratch4 : Ref sig .scVector) ≠ cc3_scratch2 by decide),
      Finset.mem_erase.mpr ⟨fun e => absurd (Proc.devRef_injective _ e) (show (cc3_scratch4 : Ref sig .scVector) ≠ cc3_scratch1 by decide),
      Finset.mem_erase.mpr ⟨fun e => absurd (Proc.devRef_injective _ e) (show (cc3_scratch4 : Ref sig .scVector) ≠ cc3_scratch0 by decide),
      SparseCore.Cfg.mem_ownRefs_of_owner (p := (Proc.scVector (cV L) (jV L))) (b := (Proc.scVector (cV L) (jV L)).devRef cc3_scratch4) rfl⟩⟩⟩⟩),
    SparseCore.bigSep_erase' (Finset.mem_erase.mpr ⟨fun e => absurd (Proc.devRef_injective _ e) (show (cc3_scratch5 : Ref sig .scVector) ≠ cc3_scratch4 by decide),
      Finset.mem_erase.mpr ⟨fun e => absurd (Proc.devRef_injective _ e) (show (cc3_scratch5 : Ref sig .scVector) ≠ cc3_scratch3 by decide),
      Finset.mem_erase.mpr ⟨fun e => absurd (Proc.devRef_injective _ e) (show (cc3_scratch5 : Ref sig .scVector) ≠ cc3_scratch2 by decide),
      Finset.mem_erase.mpr ⟨fun e => absurd (Proc.devRef_injective _ e) (show (cc3_scratch5 : Ref sig .scVector) ≠ cc3_scratch1 by decide),
      Finset.mem_erase.mpr ⟨fun e => absurd (Proc.devRef_injective _ e) (show (cc3_scratch5 : Ref sig .scVector) ≠ cc3_scratch0 by decide),
      SparseCore.Cfg.mem_ownRefs_of_owner (p := (Proc.scVector (cV L) (jV L))) (b := (Proc.scVector (cV L) (jV L)).devRef cc3_scratch5) rfl⟩⟩⟩⟩⟩),
    SparseCore.bigSep_erase' (Finset.mem_erase.mpr ⟨fun e => absurd (Proc.devRef_injective _ e) (show (cc3_scratch6 : Ref sig .scVector) ≠ cc3_scratch5 by decide),
      Finset.mem_erase.mpr ⟨fun e => absurd (Proc.devRef_injective _ e) (show (cc3_scratch6 : Ref sig .scVector) ≠ cc3_scratch4 by decide),
      Finset.mem_erase.mpr ⟨fun e => absurd (Proc.devRef_injective _ e) (show (cc3_scratch6 : Ref sig .scVector) ≠ cc3_scratch3 by decide),
      Finset.mem_erase.mpr ⟨fun e => absurd (Proc.devRef_injective _ e) (show (cc3_scratch6 : Ref sig .scVector) ≠ cc3_scratch2 by decide),
      Finset.mem_erase.mpr ⟨fun e => absurd (Proc.devRef_injective _ e) (show (cc3_scratch6 : Ref sig .scVector) ≠ cc3_scratch1 by decide),
      Finset.mem_erase.mpr ⟨fun e => absurd (Proc.devRef_injective _ e) (show (cc3_scratch6 : Ref sig .scVector) ≠ cc3_scratch0 by decide),
      SparseCore.Cfg.mem_ownRefs_of_owner (p := (Proc.scVector (cV L) (jV L))) (b := (Proc.scVector (cV L) (jV L)).devRef cc3_scratch6) rfl⟩⟩⟩⟩⟩⟩)]

/-- The subcore's semaphores of this call, apart from its other semaphores. -/
theorem ownSems_two (d : Dev nD) (L : grid1.Coords) :
    (ownSems0 (V d (cV L) (jV L)) : sProp 𝕄)
      = iprop(semVal ((V d (cV L) (jV L)), SemLoc.dma cc3_scratch7.sem) 0
          ∗ semVal ((V d (cV L) (jV L)), SemLoc.dma cc3_scratch8.sem) 0
          ∗ semVal ((V d (cV L) (jV L)), SemLoc.dma cc3_scoped0.sem) 0
          ∗ semVal ((V d (cV L) (jV L)), SemLoc.dma cc3_scoped1.sem) 0
          ∗ semVal ((V d (cV L) (jV L)), SemLoc.dma cc3_scoped2.sem) 0
          ∗ semVal ((V d (cV L) (jV L)), SemLoc.dma cc3_scoped3.sem) 0
          ∗ semVal ((V d (cV L) (jV L)), SemLoc.dma cc3_scoped4.sem) 0
          ∗ bigSep ((((((((ownCells (V d (cV L) (jV L))).erase ((V d (cV L) (jV L)), SemLoc.dma cc3_scratch7.sem)).erase ((V d (cV L) (jV L)), SemLoc.dma cc3_scratch8.sem)).erase ((V d (cV L) (jV L)), SemLoc.dma cc3_scoped0.sem)).erase ((V d (cV L) (jV L)), SemLoc.dma cc3_scoped1.sem)).erase ((V d (cV L) (jV L)), SemLoc.dma cc3_scoped2.sem)).erase ((V d (cV L) (jV L)), SemLoc.dma cc3_scoped3.sem)).erase ((V d (cV L) (jV L)), SemLoc.dma cc3_scoped4.sem)) fun g => semVal g 0) := by
  unfold SparseCore.Cfg.ownSems0
  rw [SparseCore.bigSep_erase' ((mem_ownCells (g := (((V d (cV L) (jV L)), SemLoc.dma cc3_scratch7.sem) : GSem nD τ sig))).mpr ⟨rfl, by show (SemLoc.dma cc3_scratch7.sem : SemLoc sig).isScoped .scVector = true; decide⟩),
    SparseCore.bigSep_erase' (Finset.mem_erase.mpr ⟨cell_ne (by decide),
      (mem_ownCells (g := (((V d (cV L) (jV L)), SemLoc.dma cc3_scratch8.sem) : GSem nD τ sig))).mpr ⟨rfl, by show (SemLoc.dma cc3_scratch8.sem : SemLoc sig).isScoped .scVector = true; decide⟩⟩),
    SparseCore.bigSep_erase' (Finset.mem_erase.mpr ⟨cell_ne (by decide),
      Finset.mem_erase.mpr ⟨cell_ne (by decide),
      (mem_ownCells (g := (((V d (cV L) (jV L)), SemLoc.dma cc3_scoped0.sem) : GSem nD τ sig))).mpr ⟨rfl, by show (SemLoc.dma cc3_scoped0.sem : SemLoc sig).isScoped .scVector = true; decide⟩⟩⟩),
    SparseCore.bigSep_erase' (Finset.mem_erase.mpr ⟨cell_ne (by decide),
      Finset.mem_erase.mpr ⟨cell_ne (by decide),
      Finset.mem_erase.mpr ⟨cell_ne (by decide),
      (mem_ownCells (g := (((V d (cV L) (jV L)), SemLoc.dma cc3_scoped1.sem) : GSem nD τ sig))).mpr ⟨rfl, by show (SemLoc.dma cc3_scoped1.sem : SemLoc sig).isScoped .scVector = true; decide⟩⟩⟩⟩),
    SparseCore.bigSep_erase' (Finset.mem_erase.mpr ⟨cell_ne (by decide),
      Finset.mem_erase.mpr ⟨cell_ne (by decide),
      Finset.mem_erase.mpr ⟨cell_ne (by decide),
      Finset.mem_erase.mpr ⟨cell_ne (by decide),
      (mem_ownCells (g := (((V d (cV L) (jV L)), SemLoc.dma cc3_scoped2.sem) : GSem nD τ sig))).mpr ⟨rfl, by show (SemLoc.dma cc3_scoped2.sem : SemLoc sig).isScoped .scVector = true; decide⟩⟩⟩⟩⟩),
    SparseCore.bigSep_erase' (Finset.mem_erase.mpr ⟨cell_ne (by decide),
      Finset.mem_erase.mpr ⟨cell_ne (by decide),
      Finset.mem_erase.mpr ⟨cell_ne (by decide),
      Finset.mem_erase.mpr ⟨cell_ne (by decide),
      Finset.mem_erase.mpr ⟨cell_ne (by decide),
      (mem_ownCells (g := (((V d (cV L) (jV L)), SemLoc.dma cc3_scoped3.sem) : GSem nD τ sig))).mpr ⟨rfl, by show (SemLoc.dma cc3_scoped3.sem : SemLoc sig).isScoped .scVector = true; decide⟩⟩⟩⟩⟩⟩),
    SparseCore.bigSep_erase' (Finset.mem_erase.mpr ⟨cell_ne (by decide),
      Finset.mem_erase.mpr ⟨cell_ne (by decide),
      Finset.mem_erase.mpr ⟨cell_ne (by decide),
      Finset.mem_erase.mpr ⟨cell_ne (by decide),
      Finset.mem_erase.mpr ⟨cell_ne (by decide),
      Finset.mem_erase.mpr ⟨cell_ne (by decide),
      (mem_ownCells (g := (((V d (cV L) (jV L)), SemLoc.dma cc3_scoped4.sem) : GSem nD τ sig))).mpr ⟨rfl, by show (SemLoc.dma cc3_scoped4.sem : SemLoc sig).isScoped .scVector = true; decide⟩⟩⟩⟩⟩⟩⟩)]

/-! ## The routing -/

/-- The first row of each mode's segment, from the counts. -/
def gsW (ct : S16.Idx → BitVec 32) : S16.Idx → BitVec 32 := k1_pay1 (F := Bits) ct

/-- The sorted array's row of a token: its rank among the tokens of its mode, past the rows of the modes before. -/
def posW (md rk : S8192.Idx → BitVec 32) (ct : S16.Idx → BitVec 32) (t : S8192.Idx) : BitVec 32 :=
  if h : (md t).toNat < 16 then rk t + gsW ct (ix1 ⟨(md t).toNat, h⟩) else 0

/-- The modes name lanes of the table, and the rows are distinct rows of the sorted array. -/
structure Routed (md rk : S8192.Idx → BitVec 32) (ct : S16.Idx → BitVec 32) : Prop where
  mode_lt : ∀ t, (md t).toNat < 16
  pos_lt : ∀ t, (posW md rk ct t).toNat < 12288
  pos_inj : ∀ t t', posW md rk ct t = posW md rk ct t' → t = t'

/-- The index of token `n`. -/
abbrev tix (n : ℕ) (h : n < 8192) : S8192.Idx := ix1 ⟨n, h⟩

open Classical in
/-- The token that goes to row `n`, 8192 if none does. -/
def tk (md rk : S8192.Idx → BitVec 32) (ct : S16.Idx → BitVec 32) (n : ℕ) : ℕ :=
  if h : ∃ t : ℕ, ∃ ht : t < 8192, (posW md rk ct (tix t ht)).toNat = n then h.choose else 8192

theorem tk_le (md rk : S8192.Idx → BitVec 32) (ct : S16.Idx → BitVec 32) (n : ℕ) : tk md rk ct n ≤ 8192 := by
  by_cases h : ∃ t : ℕ, ∃ ht : t < 8192, (posW md rk ct (tix t ht)).toNat = n
  · unfold tk; rw [dif_pos h]; exact (h.choose_spec.choose).le
  · unfold tk; rw [dif_neg h]

theorem tk_spec {md rk : S8192.Idx → BitVec 32} {ct : S16.Idx → BitVec 32} {n : ℕ} (h : tk md rk ct n < 8192) :
    (posW md rk ct (tix _ h)).toNat = n := by
  by_cases hx : ∃ t : ℕ, ∃ ht : t < 8192, (posW md rk ct (tix t ht)).toNat = n
  · have := hx.choose_spec.choose_spec
    have e : tk md rk ct n = hx.choose := by unfold tk; rw [dif_pos hx]
    have key : ∀ a (ha : a < 8192), a = hx.choose → (posW md rk ct (tix a ha)).toNat = n := by
      intro a ha hae; subst hae; exact this
    exact key _ h e
  · have e : tk md rk ct n = 8192 := by unfold tk; rw [dif_neg hx]
    omega

theorem tk_pos {md rk : S8192.Idx → BitVec 32} {ct : S16.Idx → BitVec 32} (hR : Routed md rk ct) (t : ℕ) (ht : t < 8192) :
    tk md rk ct (posW md rk ct (tix t ht)).toNat = t := by
  have hx : ∃ t' : ℕ, ∃ ht' : t' < 8192, (posW md rk ct (tix t' ht')).toNat = (posW md rk ct (tix t ht)).toNat := ⟨t, ht, rfl⟩
  unfold tk; rw [dif_pos hx]
  have h := hx.choose_spec.choose_spec
  have e := hR.pos_inj _ _ (BitVec.eq_of_toNat_eq h)
  exact congrArg (fun i : S8192.Idx => (i 0).val) e

/-- The row index of token `n`, column `c`. -/
abbrev oix (n : ℕ) (h : n < 8192) (c : Fin 4096) : S8192x4096.Idx := ix2 ⟨n, h⟩ c

/-- The sorted array after the dispatch: each row named holds its token's row, the others what they held. -/
def xsV (obs : S8192x4096.Idx → Elt F .f32) (md rk : S8192.Idx → BitVec 32) (ct : S16.Idx → BitVec 32)
    (xs0 : S12288x4096.Idx → Elt F .f32) (x : S12288x4096.Idx) : Elt F .f32 :=
  if h : tk md rk ct (x 0).val < 8192 then obs (oix _ h (x 1)) else xs0 x

/-- The tile a sorted row belongs to: its token's; a row no token goes to belongs to tile 0. -/
def owner (md rk : S8192.Idx → BitVec 32) (ct : S16.Idx → BitVec 32) (n : ℕ) : ℕ := tk md rk ct n / 256 % 32

/-- The elements of the sorted array that tile `w` owns. -/
def own (md rk : S8192.Idx → BitVec 32) (ct : S16.Idx → BitVec 32) (w : ℕ) : Finset S12288x4096.Idx :=
  Finset.univ.filter fun x => owner md rk ct (x 0).val = w

theorem mem_own {md rk : S8192.Idx → BitVec 32} {ct : S16.Idx → BitVec 32} {w : ℕ} {x : S12288x4096.Idx} :
    x ∈ own md rk ct w ↔ owner md rk ct (x 0).val = w := by simp [own]

end Cert.Proof
-- ==== Proof.Region.lean ====
/-
  A pipelined call between SparseCore calls: the call's region over the unscoped buffers held at a
  valuation, with the bound on the recorded waits that the SparseCore calls after it rely on.
-/
module

public import proofs.«01_k».proof.Proof.Common
public import proofs.«01_k».proof.Proof.Gen.KernelIdeal.Launch
public import Idealize.ShloMosaic.Lib.Pipeline.RegionArraysT
public import Idealize.ShloMosaic.Lib.Pipeline.FrameTail

@[expose] public section

noncomputable section

namespace Cert.Proof

open Cert.KernelIdeal Cert.KernelIdeal.Gen

open Idealize.ShloMosaic
open Idealize.ShloMosaic.TcCoe
open Idealize.ShloMosaic.SparseCore (T)
open Idealize.ShloMosaic.SparseCore.Cfg (HIx)
open Idealize.ShloMosaic.Pipeline (Dat pin prefHeld tablesAt arrRefs tblRefs ucRefs arrRef scopedRest ownSems0_none prefHeld_held arrays_held cellsWaits_of_cut RegionSeg BodyObligation PLaunchFacts)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The waits recorded before call `n`: those at levels below it. -/
def below (d : Dev nD) (n : ℕ) : Set (SemLoc sig × HIx 2) := {x | (K (F := F)).lev (T d, x.1) x.2 ≤ 8 * n}

/-- The core's obligations before call `n`, its waits so far below the call. -/
def owesTc (d : Dev nD) (n : ℕ) : sProp 𝕄 :=
  iprop(∃ W, ⌜(K (F := F)).WBelow (T d) W (8 * n)⌝ ∗ owes (T d) ((K (F := F)).Otc d n) W)

theorem bound_sub (a : (p : Fin 2) → (pcfgs (F := F) p).Adm) (p : Fin 2) (d : Dev nD) (n : ℕ)
    (dat : Dat τ (Elt F) (HIx 2) ℕ UU ℕ (pin (pcfgs (F := F)) a p) d) (t) (h : dat.recorded t = below (F := F) d n) :
    dat.bound none t ⊆ below (F := F) d n := by
  intro x hx
  unfold Dat.bound at hx
  rw [h] at hx
  rcases hx with hx | ⟨w, s, hx⟩
  · exact hx
  · subst hx
    exact Nat.zero_le _

/-- The pipelined call between SparseCore calls `n - 1` and `n`, over the unscoped buffers: entered at a valuation `W` that has
    the windows' arrays and the tables where the proof data has them, left at `W'`, which has the arrays at their final contents
    and every other buffer as it was. -/
def seg (a : (p : Fin 2) → (pcfgs (F := F) p).Adm)
    (pdats : (p : Fin 2) → (c : Dev nD) → Dat τ (Elt F) (HIx 2) ℕ UU ℕ (pin (pcfgs (F := F)) a p) c) (p : Fin 2)
    (kit : PLaunchFacts (nD := nD) (τ := τ) (pcfgs (F := F)) p) (n : ℕ)
    (hbody : ∀ c, Pipeline.BodyObligationLoose (pdats p c) (defs₀ (F := F)) 𝒱₀ none Set.univ)
    (howed : ∀ c t, (pdats p c).owed t = (K (F := F)).Otc c n)
    (hrec : ∀ c t, (pdats p c).recorded t = below (F := F) c n)
    (hshare : ∀ c w, (pdats p c).share w = fullShare)
    (hin : ∀ c, iprop(scopedRest (pin (pcfgs (F := F)) a p).spec c ∗ tablesAt (pcfgs (F := F)) a p c) ⊢ (pdats p c).Φ 0)
    (hout : ∀ c, (pdats p c).Φ (Fin.last (pin (pcfgs (F := F)) a p).N)
      ⊢ iprop(scopedRest (pin (pcfgs (F := F)) a p).spec c ∗ tablesAt (pcfgs (F := F)) a p c))
    (W W' : Dev nD → Valuation τ sig (Elt F))
    (hW : ∀ c w, (pdats p c).arrAt w 0 = W c (Proc.devRef .tc (arrRef (pin (pcfgs (F := F)) a p).spec w)))
    (hT : ∀ c k, (a p).1 k = W c (Proc.devRef .tc ((pcfgs (F := F) p).pre.ref k)))
    (hW' : ∀ c w, (pdats p c).arrAt w (pin (pcfgs (F := F)) a p).N = W' c (Proc.devRef .tc (arrRef (pin (pcfgs (F := F)) a p).spec w)))
    (hoff : ∀ c b, b ∉ arrRefs (τ := τ) (pcfgs (F := F) p).spec → W' c b = W c b) :
    RegionSeg (pcfgs (F := F)) a pdats none (defs₀ (F := F)) 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := cellsWaits_of_cut (pin (pcfgs (F := F)) a) pdats none p c 0 ((K (F := F)).Otc c n) (howed c) (fun _ _ => Finset.mem_univ _)
    (fun _ _ => le_rfl) (fun g i h => ⟨Finset.mem_univ _, Nat.lt_of_lt_of_le (Nat.succ_pos _) ((K (F := F)).lev_of_Otc_pos h)⟩)
  pre c := iprop(StableHlo.held (c.tc : Thread nD τ) (ucRefs τ sig) (W c) ∗ owesTc c n)
  post c := iprop(StableHlo.held (c.tc : Thread nD τ) (ucRefs τ sig) (W' c) ∗ owesTc c n)
  X _ := BI.emp
  Y c := tablesAt (pcfgs (F := F)) a p c
  Z c := StableHlo.held (c.tc : Thread nD τ) ((ucRefs τ sig \ arrRefs (pcfgs (F := F) p).spec) \ tblRefs (pcfgs (F := F) p).pre) (W c)
  hentry c := by
    rw [ownSems0_none, StableHlo.held_sub_split (c.tc : Thread nD τ) (Pipeline.arrRefs_sub_ucRefs (pcfgs (F := F) p).spec kit.win.arr_unscoped) (W c),
      StableHlo.held_sub_split (c.tc : Thread nD τ) (Pipeline.tblRefs_sub_ucRefs_sdiff (pcfgs (F := F) p).spec (pcfgs (F := F) p).pre kit.pre.unscoped kit.pre.disj) (W c),
      ← arrays_held (pcfgs (F := F)) a pdats p kit c (hshare c) ((pdats p c).arrAt · 0) (W c) (hW c),
      ← prefHeld_held (pcfgs (F := F) p).pre kit.pre.inj c (a p).1 (W c) (hT c)]
    iintro ⟨⟨⟨Ha, Hpf, HR⟩, HO⟩, -, -⟩
    imodintro
    isplitl [Ha]; · iexact Ha
    isplitl [Hpf]; · iexact Hpf
    isplitl [HO]
    · unfold owesTc
      icases HO with ⟨%Wd, %hWd, HO⟩
      unfold Pipeline.Dat.owesAt Pipeline.owesWithin
      rw [howed c 0]
      iexists Wd; isplitr
      · ipureintro
        intro x hx
        exact Or.inl ((hrec c 0).symm ▸ hWd x hx)
      iexact HO
    isplitr; · iempintro
    iexact HR
  hin c := by
    refine BIBase.Entails.trans ?_ (hin c)
    iintro ⟨-, Hpf, Hr⟩
    isplitl [Hr] <;> iassumption
  hout c := by
    refine (hout c).trans ?_
    rw [ownSems0_none]
    iintro ⟨Hr, Hpf⟩
    isplitl [Hpf]; · iexact Hpf
    isplitr; · iempintro
    iexact Hr
  hexit c := by
    rw [StableHlo.held_sub_split (c.tc : Thread nD τ) (Pipeline.arrRefs_sub_ucRefs (pcfgs (F := F) p).spec kit.win.arr_unscoped) (W' c),
      StableHlo.held_congr (c.tc : Thread nD τ) (S := ucRefs τ sig \ arrRefs (pcfgs (F := F) p).spec) (V := W' c) (V' := W c)
        (fun b hb => hoff c b (Finset.mem_sdiff.mp hb).2),
      StableHlo.held_sub_split (c.tc : Thread nD τ) (Pipeline.tblRefs_sub_ucRefs_sdiff (pcfgs (F := F) p).spec (pcfgs (F := F) p).pre kit.pre.unscoped kit.pre.disj) (W c),
      ← arrays_held (pcfgs (F := F)) a pdats p kit c (hshare c) ((pdats p c).arrAt · (pin (pcfgs (F := F)) a p).N) (W' c) (hW' c),
      ← prefHeld_held (pcfgs (F := F) p).pre kit.pre.inj c (a p).1 (W c) (hT c)]
    iintro ⟨Ha, HO, Hpf, HR⟩
    imodintro
    isplitl [Ha Hpf HR]
    · isplitl [Ha]; · iexact Ha
      isplitl [Hpf] <;> iassumption
    unfold Pipeline.Dat.owesAt Pipeline.owesWithin
    rw [howed c (Fin.last _)]
    icases HO with ⟨%Wd, %hWd, HO⟩
    unfold owesTc
    iexists Wd; isplitr
    · ipureintro
      exact fun x hx => bound_sub a p c n (pdats p c) (Fin.last _) (hrec c _) (hWd hx)
    iexact HO

end Cert.Proof

end
-- ==== Proof.Tail1.lean ====
/-
  One grid point of the classifier's tail call: the modes of a block of tokens, their ranks within
  their mode given the counts so far, the counts with this block, and the block table of the counts.
-/
module

public import proofs.«01_k».proof.Proof.Common
public import proofs.«01_k».proof.Proof.Gen.KernelIdeal.Launch
public import Idealize.ShloMosaic.Lib.Pipeline.FrameBody
public import Idealize.ShloMosaic.Lib.VecWindow

@[expose] public section

noncomputable section

namespace Cert.Proof.Tail

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The class probabilities of a block. -/
abbrev pV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) : S512x8.Idx → Elt F .f32 := k0_pay2 X1 X2 X3 X4 X5 X6 X7
/-- Their maxima along the lanes, at every lane. -/
abbrev mxV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) : S512x8.Idx → Elt F .f32 := k0_pay3 X1 X2 X3 X4 X5 X6 X7
/-- The lane numbers. -/
abbrev lanes : S512x8.Idx → BitVec 32 := iota .tc S512x8 32 [1] iota_S512x8_d1_w32
/-- The modes of a block of tokens. -/
def modeV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) : S512x1.Idx → BitVec 32 := k0_pay4 (pV X1 X2 X3 X4 X5 X6 X7) lanes (mxV X1 X2 X3 X4 X5 X6 X7)
/-- Their ranks within their modes, given the counts before the block. -/
def rankV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (C : S1x8.Idx → Elt F .f32) : S512x1.Idx → BitVec 32 := k0_pay8 (pV X1 X2 X3 X4 X5 X6 X7) lanes (mxV X1 X2 X3 X4 X5 X6 X7) C
/-- The counts with the block. -/
def carryV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (C : S1x8.Idx → Elt F .f32) : S1x8.Idx → Elt F .f32 := k0_pay10 (pV X1 X2 X3 X4 X5 X6 X7) lanes (mxV X1 X2 X3 X4 X5 X6 X7) C
/-- The counts with the block, as integers in sixteen lanes. -/
def countV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (C : S1x8.Idx → Elt F .f32) : S1x16.Idx → BitVec 32 := k0_pay11 (pV X1 X2 X3 X4 X5 X6 X7) lanes (mxV X1 X2 X3 X4 X5 X6 X7) C
/-- The expert of each block of sorted rows, by the counts with the block. -/
def tableV (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (C : S1x8.Idx → Elt F .f32) : S128x1.Idx → BitVec 32 := k0_pay1 (k0_pay9 (pV X1 X2 X3 X4 X5 X6 X7) lanes (mxV X1 X2 X3 X4 X5 X6 X7) C)
/-- The counts before the first block. -/
abbrev zeroC : S1x8.Idx → Elt F .f32 := k0_pay5 (F := F)

theorem modeV_congr {X1 X1' : S512x64.Idx → Elt F .f32} {X2 X2' : S64x64.Idx → Elt F .f32} {X3 X3' : S1x64.Idx → Elt F .f32} {X4 X4' : S64x64.Idx → Elt F .f32} {X5 X5' : S1x64.Idx → Elt F .f32} {X6 X6' : S64x8.Idx → Elt F .f32} {X7 X7' : S1x8.Idx → Elt F .f32} (h1 : X1 = X1') (h2 : X2 = X2') (h3 : X3 = X3') (h4 : X4 = X4') (h5 : X5 = X5') (h6 : X6 = X6') (h7 : X7 = X7') : modeV (F := F) X1 X2 X3 X4 X5 X6 X7 = modeV X1' X2' X3' X4' X5' X6' X7' := by subst h1 h2 h3 h4 h5 h6 h7; rfl
theorem rankV_congr {X1 X1' : S512x64.Idx → Elt F .f32} {X2 X2' : S64x64.Idx → Elt F .f32} {X3 X3' : S1x64.Idx → Elt F .f32} {X4 X4' : S64x64.Idx → Elt F .f32} {X5 X5' : S1x64.Idx → Elt F .f32} {X6 X6' : S64x8.Idx → Elt F .f32} {X7 X7' : S1x8.Idx → Elt F .f32} {C C' : S1x8.Idx → Elt F .f32} (h1 : X1 = X1') (h2 : X2 = X2') (h3 : X3 = X3') (h4 : X4 = X4') (h5 : X5 = X5') (h6 : X6 = X6') (h7 : X7 = X7') (hC : C = C') : rankV (F := F) X1 X2 X3 X4 X5 X6 X7 C = rankV X1' X2' X3' X4' X5' X6' X7' C' := by subst h1 h2 h3 h4 h5 h6 h7 hC; rfl
theorem carryV_congr {X1 X1' : S512x64.Idx → Elt F .f32} {X2 X2' : S64x64.Idx → Elt F .f32} {X3 X3' : S1x64.Idx → Elt F .f32} {X4 X4' : S64x64.Idx → Elt F .f32} {X5 X5' : S1x64.Idx → Elt F .f32} {X6 X6' : S64x8.Idx → Elt F .f32} {X7 X7' : S1x8.Idx → Elt F .f32} {C C' : S1x8.Idx → Elt F .f32} (h1 : X1 = X1') (h2 : X2 = X2') (h3 : X3 = X3') (h4 : X4 = X4') (h5 : X5 = X5') (h6 : X6 = X6') (h7 : X7 = X7') (hC : C = C') : carryV (F := F) X1 X2 X3 X4 X5 X6 X7 C = carryV X1' X2' X3' X4' X5' X6' X7' C' := by subst h1 h2 h3 h4 h5 h6 h7 hC; rfl
theorem countV_congr {X1 X1' : S512x64.Idx → Elt F .f32} {X2 X2' : S64x64.Idx → Elt F .f32} {X3 X3' : S1x64.Idx → Elt F .f32} {X4 X4' : S64x64.Idx → Elt F .f32} {X5 X5' : S1x64.Idx → Elt F .f32} {X6 X6' : S64x8.Idx → Elt F .f32} {X7 X7' : S1x8.Idx → Elt F .f32} {C C' : S1x8.Idx → Elt F .f32} (h1 : X1 = X1') (h2 : X2 = X2') (h3 : X3 = X3') (h4 : X4 = X4') (h5 : X5 = X5') (h6 : X6 = X6') (h7 : X7 = X7') (hC : C = C') : countV (F := F) X1 X2 X3 X4 X5 X6 X7 C = countV X1' X2' X3' X4' X5' X6' X7' C' := by subst h1 h2 h3 h4 h5 h6 h7 hC; rfl
theorem tableV_congr {X1 X1' : S512x64.Idx → Elt F .f32} {X2 X2' : S64x64.Idx → Elt F .f32} {X3 X3' : S1x64.Idx → Elt F .f32} {X4 X4' : S64x64.Idx → Elt F .f32} {X5 X5' : S1x64.Idx → Elt F .f32} {X6 X6' : S64x8.Idx → Elt F .f32} {X7 X7' : S1x8.Idx → Elt F .f32} {C C' : S1x8.Idx → Elt F .f32} (h1 : X1 = X1') (h2 : X2 = X2') (h3 : X3 = X3') (h4 : X4 = X4') (h5 : X5 = X5') (h6 : X6 = X6') (h7 : X7 = X7') (hC : C = C') : tableV (F := F) X1 X2 X3 X4 X5 X6 X7 C = tableV X1' X2' X3' X4' X5' X6' X7' C' := by subst h1 h2 h3 h4 h5 h6 h7 hC; rfl

theorem first_iff (i : grid0.Coords) :
    (Scalar.cmpi .ne (Scalar.extui (Scalar.cmpi .eq (BitVec.ofNat 32 (i 0).val) 0#32)) 0#32 = 1#1) ↔ (i 0).val = 0 := by
  have h : ∀ n : Fin 16, (Scalar.cmpi .ne (Scalar.extui (Scalar.cmpi .eq (BitVec.ofNat 32 n.val) 0#32)) 0#32 = 1#1) ↔ n.val = 0 := by decide
  exact h (i 0)

theorem body_first (c : Dev nD) (i : grid0.Coords) (hi : (i 0).val = 0) (M1 : Memref sig .tc .vmem S512x64 .f32) (h1 : M1.IsWhole) (M2 : Memref sig .tc .vmem S64x64 .f32) (h2 : M2.IsWhole) (M3 : Memref sig .tc .vmem S1x64 .f32) (h3 : M3.IsWhole) (M4 : Memref sig .tc .vmem S64x64 .f32) (h4 : M4.IsWhole) (M5 : Memref sig .tc .vmem S1x64 .f32) (h5 : M5.IsWhole) (M6 : Memref sig .tc .vmem S64x8 .f32) (h6 : M6.IsWhole) (M7 : Memref sig .tc .vmem S1x8 .f32) (h7 : M7.IsWhole) (M8 : Memref sig .tc .vmem S512x1 .i32) (h8 : M8.IsWhole) (M9 : Memref sig .tc .vmem S512x1 .i32) (h9 : M9.IsWhole) (M10 : Memref sig .tc .vmem S1x16 .i32) (h10 : M10.IsWhole) (M11 : Memref sig .tc .vmem S128x1 .i32) (h11 : M11.IsWhole) (M12 : Memref sig .tc .vmem S1x8 .f32) (h12 : M12.IsWhole) (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (X8 : S512x1.Idx → Elt F .i32) (X9 : S512x1.Idx → Elt F .i32) (X10 : S1x16.Idx → Elt F .i32) (X11 : S128x1.Idx → Elt F .i32) (X12 : S1x8.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (modeV X1 X2 X3 X4 X5 X6 X7) ∗ owns (c : Thread nD τ) M9 fullShare (rankV X1 X2 X3 X4 X5 X6 X7 zeroC) ∗ owns (c : Thread nD τ) M10 fullShare (countV X1 X2 X3 X4 X5 X6 X7 zeroC) ∗ owns (c : Thread nD τ) M11 fullShare (tableV X1 X2 X3 X4 X5 X6 X7 zeroC) ∗ owns (c : Thread nD τ) M12 fullShare (carryV X1 X2 X3 X4 X5 X6 X7 zeroC)) -∗ Q ⟨⟩))
      ⊢ wp frame (wpE (defs₀ (F := F)) 𝒱₀ (c : Thread nD τ) none) E (cc0__tail_body i M1 h1 M2 h2 M3 h3 M4 h4 M5 h5 M6 h6 M7 h7 M8 h8 M9 h9 M10 h10 M11 h11 M12 h12) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  simp only [cc0__tail_body_eq_skeleton]
  unfold cc0__tail_body_skel
  simp only [k0_part1_eq_skeleton, k0_part2_eq_skeleton]
  unfold k0_part1_skel k0_part2_skel
  simp only [Prog.lift, Prog.bind_op, Prog.bind_ret, Prog.bind_assoc, Prog.pure_eq_ret]
  simp only [dif_pos ((first_iff i).mpr hi)]
  sl_exec
  rw [wp_ret]
  imodintro
  iapply Hk
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists _; isplitr; swap
    · iexact H8
    ipureintro
    refine (View.read_writes_full (s := S512x1) M8.view f8 inb_S512x1_S512x1_0_0 _ _).trans ?_
    exact modeV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7)
  isplitl [H9]
  · iexists _; isplitr; swap
    · iexact H9
    ipureintro
    refine (View.read_writes_full (s := S512x1) M9.view f9 inb_S512x1_S512x1_0_0 _ _).trans ?_
    exact rankV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) (by first | rfl | exact View.readCov_full M12.view inb_S1x8_S1x8_0_0 inb_S1x8_S1x8_0_0 _ _ | exact View.readAt_writes_full M12.view f12 inb_S1x8_S1x8_0_0 inb_S1x8_S1x8_0_0 _ [])
  isplitl [H10]
  · iexists _; isplitr; swap
    · iexact H10
    ipureintro
    refine (View.read_writes_full (s := S1x16) M10.view f10 inb_S1x16_S1x16_0_0 _ _).trans ?_
    exact countV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) (by first | rfl | exact View.readCov_full M12.view inb_S1x8_S1x8_0_0 inb_S1x8_S1x8_0_0 _ _ | exact View.readAt_writes_full M12.view f12 inb_S1x8_S1x8_0_0 inb_S1x8_S1x8_0_0 _ [])
  isplitl [H11]
  · iexists _; isplitr; swap
    · iexact H11
    ipureintro
    refine (View.read_writes_full (s := S128x1) M11.view f11 inb_S128x1_S128x1_0_0 _ _).trans ?_
    exact tableV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) (by first | rfl | exact View.readCov_full M12.view inb_S1x8_S1x8_0_0 inb_S1x8_S1x8_0_0 _ _ | exact View.readAt_writes_full M12.view f12 inb_S1x8_S1x8_0_0 inb_S1x8_S1x8_0_0 _ [])
  · iexists _; isplitr; swap
    · iexact H12
    ipureintro
    refine (View.read_writes_full (s := S1x8) M12.view f12 inb_S1x8_S1x8_0_0 _ _).trans ?_
    exact carryV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) (by first | rfl | exact View.readCov_full M12.view inb_S1x8_S1x8_0_0 inb_S1x8_S1x8_0_0 _ _ | exact View.readAt_writes_full M12.view f12 inb_S1x8_S1x8_0_0 inb_S1x8_S1x8_0_0 _ [])

theorem body_next (c : Dev nD) (i : grid0.Coords) (hi : (i 0).val ≠ 0) (M1 : Memref sig .tc .vmem S512x64 .f32) (h1 : M1.IsWhole) (M2 : Memref sig .tc .vmem S64x64 .f32) (h2 : M2.IsWhole) (M3 : Memref sig .tc .vmem S1x64 .f32) (h3 : M3.IsWhole) (M4 : Memref sig .tc .vmem S64x64 .f32) (h4 : M4.IsWhole) (M5 : Memref sig .tc .vmem S1x64 .f32) (h5 : M5.IsWhole) (M6 : Memref sig .tc .vmem S64x8 .f32) (h6 : M6.IsWhole) (M7 : Memref sig .tc .vmem S1x8 .f32) (h7 : M7.IsWhole) (M8 : Memref sig .tc .vmem S512x1 .i32) (h8 : M8.IsWhole) (M9 : Memref sig .tc .vmem S512x1 .i32) (h9 : M9.IsWhole) (M10 : Memref sig .tc .vmem S1x16 .i32) (h10 : M10.IsWhole) (M11 : Memref sig .tc .vmem S128x1 .i32) (h11 : M11.IsWhole) (M12 : Memref sig .tc .vmem S1x8 .f32) (h12 : M12.IsWhole) (X1 : S512x64.Idx → Elt F .f32) (X2 : S64x64.Idx → Elt F .f32) (X3 : S1x64.Idx → Elt F .f32) (X4 : S64x64.Idx → Elt F .f32) (X5 : S1x64.Idx → Elt F .f32) (X6 : S64x8.Idx → Elt F .f32) (X7 : S1x8.Idx → Elt F .f32) (X8 : S512x1.Idx → Elt F .i32) (X9 : S512x1.Idx → Elt F .i32) (X10 : S1x16.Idx → Elt F .i32) (X11 : S128x1.Idx → Elt F .i32) (X12 : S1x8.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (modeV X1 X2 X3 X4 X5 X6 X7) ∗ owns (c : Thread nD τ) M9 fullShare (rankV X1 X2 X3 X4 X5 X6 X7 X12) ∗ owns (c : Thread nD τ) M10 fullShare (countV X1 X2 X3 X4 X5 X6 X7 X12) ∗ owns (c : Thread nD τ) M11 fullShare (tableV X1 X2 X3 X4 X5 X6 X7 X12) ∗ owns (c : Thread nD τ) M12 fullShare (carryV X1 X2 X3 X4 X5 X6 X7 X12)) -∗ Q ⟨⟩))
      ⊢ wp frame (wpE (defs₀ (F := F)) 𝒱₀ (c : Thread nD τ) none) E (cc0__tail_body i M1 h1 M2 h2 M3 h3 M4 h4 M5 h5 M6 h6 M7 h7 M8 h8 M9 h9 M10 h10 M11 h11 M12 h12) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, Hk⟩
  simp only [cc0__tail_body_eq_skeleton]
  unfold cc0__tail_body_skel
  simp only [k0_part1_eq_skeleton, k0_part2_eq_skeleton]
  unfold k0_part1_skel k0_part2_skel
  simp only [Prog.lift, Prog.bind_op, Prog.bind_ret, Prog.bind_assoc, Prog.pure_eq_ret]
  simp only [dif_neg (fun h => hi ((first_iff i).mp h))]
  sl_exec
  rw [wp_ret]
  imodintro
  iapply Hk
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists _; isplitr; swap
    · iexact H8
    ipureintro
    refine (View.read_writes_full (s := S512x1) M8.view f8 inb_S512x1_S512x1_0_0 _ _).trans ?_
    exact modeV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7)
  isplitl [H9]
  · iexists _; isplitr; swap
    · iexact H9
    ipureintro
    refine (View.read_writes_full (s := S512x1) M9.view f9 inb_S512x1_S512x1_0_0 _ _).trans ?_
    exact rankV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) ((View.readAt_full M12.view f12 inb_S1x8_S1x8_0_0).trans e12)
  isplitl [H10]
  · iexists _; isplitr; swap
    · iexact H10
    ipureintro
    refine (View.read_writes_full (s := S1x16) M10.view f10 inb_S1x16_S1x16_0_0 _ _).trans ?_
    exact countV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) ((View.readAt_full M12.view f12 inb_S1x8_S1x8_0_0).trans e12)
  isplitl [H11]
  · iexists _; isplitr; swap
    · iexact H11
    ipureintro
    refine (View.read_writes_full (s := S128x1) M11.view f11 inb_S128x1_S128x1_0_0 _ _).trans ?_
    exact tableV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) ((View.readAt_full M12.view f12 inb_S1x8_S1x8_0_0).trans e12)
  · iexists _; isplitr; swap
    · iexact H12
    ipureintro
    refine (View.read_writes_full (s := S1x8) M12.view f12 inb_S1x8_S1x8_0_0 _ _).trans ?_
    exact carryV_congr ((View.readAt_full M1.view f1 inb_S512x64_S512x64_0_0).trans e1) ((View.readAt_full M2.view f2 inb_S64x64_S64x64_0_0).trans e2) ((View.readAt_full M3.view f3 inb_S1x64_S1x64_0_0).trans e3) ((View.readAt_full M4.view f4 inb_S64x64_S64x64_0_0).trans e4) ((View.readAt_full M5.view f5 inb_S1x64_S1x64_0_0).trans e5) ((View.readAt_full M6.view f6 inb_S64x8_S64x8_0_0).trans e6) ((View.readAt_full M7.view f7 inb_S1x8_S1x8_0_0).trans e7) ((View.readAt_full M12.view f12 inb_S1x8_S1x8_0_0).trans e12)

end Cert.Proof.Tail

end
-- ==== Proof.TailR.lean ====
/-
  The classifier's tail call as a region: the block at each point, the counts before it, and what the
  region leaves in its four result arrays.
-/
module

public import proofs.«01_k».proof.Proof.Region
public import proofs.«01_k».proof.Proof.Tail1
public import proofs.«01_k».proof.Proof.Gen.KernelIdeal.Points
public import Idealize.ShloMosaic.Lib.Pipeline.Value

@[expose] public section

noncomputable section

namespace Cert.Proof.Tail

open Cert.KernelIdeal Cert.KernelIdeal.Gen

open Idealize.ShloMosaic
open Idealize.ShloMosaic.TcCoe
open Idealize.ShloMosaic.SparseCore.Cfg (HIx)
open Idealize.ShloMosaic.Pipeline (Dat BodyObligation arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (W : Dev nD → Valuation τ sig (Elt F))

/-- Window 0's block at point `t`. -/
def x0 (c : Dev nD) (t : Fin cfg0.N) : S512x64.Idx → Elt F .f32 := ((cfg0.win 0).blk t).view.read (Elt F) (W c (Proc.devRef .tc (arrRef spec0 0)))

/-- Window 1's block at point `t`. -/
def x1 (c : Dev nD) (t : Fin cfg0.N) : S64x64.Idx → Elt F .f32 := ((cfg0.win 1).blk t).view.read (Elt F) (W c (Proc.devRef .tc (arrRef spec0 1)))

/-- Window 2's block at point `t`. -/
def x2 (c : Dev nD) (t : Fin cfg0.N) : S1x64.Idx → Elt F .f32 := ((cfg0.win 2).blk t).view.read (Elt F) (W c (Proc.devRef .tc (arrRef spec0 2)))

/-- Window 3's block at point `t`. -/
def x3 (c : Dev nD) (t : Fin cfg0.N) : S64x64.Idx → Elt F .f32 := ((cfg0.win 3).blk t).view.read (Elt F) (W c (Proc.devRef .tc (arrRef spec0 3)))

/-- Window 4's block at point `t`. -/
def x4 (c : Dev nD) (t : Fin cfg0.N) : S1x64.Idx → Elt F .f32 := ((cfg0.win 4).blk t).view.read (Elt F) (W c (Proc.devRef .tc (arrRef spec0 4)))

/-- Window 5's block at point `t`. -/
def x5 (c : Dev nD) (t : Fin cfg0.N) : S64x8.Idx → Elt F .f32 := ((cfg0.win 5).blk t).view.read (Elt F) (W c (Proc.devRef .tc (arrRef spec0 5)))

/-- Window 6's block at point `t`. -/
def x6 (c : Dev nD) (t : Fin cfg0.N) : S1x8.Idx → Elt F .f32 := ((cfg0.win 6).blk t).view.read (Elt F) (W c (Proc.devRef .tc (arrRef spec0 6)))

/-- The counts before point `n`. -/
def carry (c : Dev nD) : ℕ → S1x8.Idx → Elt F .f32
  | 0 => zeroC
  | n + 1 => if h : n < cfg0.N then carryV (x0 W c ⟨n, h⟩) (x1 W c ⟨n, h⟩) (x2 W c ⟨n, h⟩) (x3 W c ⟨n, h⟩) (x4 W c ⟨n, h⟩) (x5 W c ⟨n, h⟩) (x6 W c ⟨n, h⟩) (carry c n) else carry c n

theorem carry_succ (c : Dev nD) (t : Fin cfg0.N) : carry W c (t.val + 1) = carryV (x0 W c t) (x1 W c t) (x2 W c t) (x3 W c t) (x4 W c t) (x5 W c t) (x6 W c t) (carry W c t.val) := by
  rw [carry, dif_pos t.isLt]

/-- The experts call's staging buffers, at something. -/
def rest (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f) ∗ (∃ f : Buf (Elt F) ((c : Thread nD τ).loc cc2_stg8_0), ((c : Thread nD τ).loc cc2_stg8_0) ↦{fullShare} f) ∗ (∃ f : Buf (Elt F) ((c : Thread nD τ).loc cc2_stg8_1), ((c : Thread nD τ).loc cc2_stg8_1) ↦{fullShare} f) ∗ (∃ f : Buf (Elt F) ((c : Thread nD τ).loc cc2_stg9_0), ((c : Thread nD τ).loc cc2_stg9_0) ↦{fullShare} f) ∗ (∃ f : Buf (Elt F) ((c : Thread nD τ).loc cc2_stg9_1), ((c : Thread nD τ).loc cc2_stg9_1) ↦{fullShare} f))

/-- Between points: the running counts in their scratch buffer (at the first point anything is there). -/
def Inv (c : Dev nD) (n : ℕ) : sProp 𝕄 :=
  iprop((∃ f : Buf (Elt F) ((c : Thread nD τ).loc cc0_scratch0), ⌜n ≠ 0 → f = carry W c n⌝ ∗ ((c : Thread nD τ).loc cc0_scratch0) ↦{fullShare} f) ∗ rest c)

/-- The call's proof data at the valuation `W`. -/
def dat (c : Dev nD) : Dat τ (Elt F) (HIx 2) ℕ UU ℕ cfg0 c where
  A w := W c (Proc.devRef .tc (arrRef spec0 w))
  after w t := match w with
    | ⟨0, _⟩ => x0 W c t
    | ⟨1, _⟩ => x1 W c t
    | ⟨2, _⟩ => x2 W c t
    | ⟨3, _⟩ => x3 W c t
    | ⟨4, _⟩ => x4 W c t
    | ⟨5, _⟩ => x5 W c t
    | ⟨6, _⟩ => x6 W c t
    | ⟨7, _⟩ => modeV (x0 W c t) (x1 W c t) (x2 W c t) (x3 W c t) (x4 W c t) (x5 W c t) (x6 W c t)
    | ⟨8, _⟩ => rankV (x0 W c t) (x1 W c t) (x2 W c t) (x3 W c t) (x4 W c t) (x5 W c t) (x6 W c t) (carry W c t.val)
    | ⟨9, _⟩ => countV (x0 W c t) (x1 W c t) (x2 W c t) (x3 W c t) (x4 W c t) (x5 W c t) (x6 W c t) (carry W c t.val)
    | ⟨10, _⟩ => tableV (x0 W c t) (x1 W c t) (x2 W c t) (x3 W c t) (x4 W c t) (x5 W c t) (x6 W c t) (carry W c t.val)
  Φ t := Inv W c t.val
  q _ := fullShare
  owed _ := (K (F := F)).Otc c 0
  recorded _ := below (F := F) c 0

theorem inv_zero (c : Dev nD) : (Pipeline.scopedRest (Ix := HIx 2) (Name := ℕ) (U := UU) (Lvl := ℕ) (Val := Elt F) spec0 c : sProp 𝕄) ⊢ Inv W c 0 := by
  rw [scopedRest0_eq]
  unfold Inv rest
  iintro ⟨⟨%f, H⟩, HR⟩
  isplitl [H]
  · iexists f; isplitr
    · ipureintro; exact fun h => absurd rfl h
    iexact H
  iexact HR

theorem inv_last (c : Dev nD) (n : ℕ) : Inv W c n ⊢ (Pipeline.scopedRest (Ix := HIx 2) (Name := ℕ) (U := UU) (Lvl := ℕ) (Val := Elt F) spec0 c : sProp 𝕄) := by
  rw [scopedRest0_eq]
  unfold Inv rest
  iintro ⟨⟨%f, -, H⟩, HR⟩
  isplitl [H]
  · iexists f; iexact H
  iexact HR

theorem before_0 (c : Dev nD) (t : Fin cfg0.N) (d) : (dat W c).before 0 t d = x0 W c t :=
  (dat W c).before_in_eq_fetched 0 rfl (fun _ => rfl) (fun _ _ _ => rfl) (fun _ => rfl) t d

theorem before_1 (c : Dev nD) (t : Fin cfg0.N) (d) : (dat W c).before 1 t d = x1 W c t :=
  (dat W c).before_in_eq_fetched 1 rfl (fun _ => rfl) (fun _ _ _ => rfl) (fun _ => rfl) t d

theorem before_2 (c : Dev nD) (t : Fin cfg0.N) (d) : (dat W c).before 2 t d = x2 W c t :=
  (dat W c).before_in_eq_fetched 2 rfl (fun _ => rfl) (fun _ _ _ => rfl) (fun _ => rfl) t d

theorem before_3 (c : Dev nD) (t : Fin cfg0.N) (d) : (dat W c).before 3 t d = x3 W c t :=
  (dat W c).before_in_eq_fetched 3 rfl (fun _ => rfl) (fun _ _ _ => rfl) (fun _ => rfl) t d

theorem before_4 (c : Dev nD) (t : Fin cfg0.N) (d) : (dat W c).before 4 t d = x4 W c t :=
  (dat W c).before_in_eq_fetched 4 rfl (fun _ => rfl) (fun _ _ _ => rfl) (fun _ => rfl) t d

theorem before_5 (c : Dev nD) (t : Fin cfg0.N) (d) : (dat W c).before 5 t d = x5 W c t :=
  (dat W c).before_in_eq_fetched 5 rfl (fun _ => rfl) (fun _ _ _ => rfl) (fun _ => rfl) t d

theorem before_6 (c : Dev nD) (t : Fin cfg0.N) (d) : (dat W c).before 6 t d = x6 W c t :=
  (dat W c).before_in_eq_fetched 6 rfl (fun _ => rfl) (fun _ _ _ => rfl) (fun _ => rfl) t d

theorem own_scratch (c : Dev nD) (f : S1x8.Idx → Elt F .f32) :
    (((c : Thread nD τ).loc cc0_scratch0) ↦{fullShare} f : sProp 𝕄) ⊢ owns (c : Thread nD τ) (Memref.whole cc0_scratch0) fullShare f := by
  rw [owns_whole_eq]
  iintro H
  iexists f; isplitr
  · ipureintro; rfl
  iexact H

theorem scratch_own (c : Dev nD) (f : S1x8.Idx → Elt F .f32) :
    owns (c : Thread nD τ) (Memref.whole cc0_scratch0) fullShare f ⊢ (((c : Thread nD τ).loc cc0_scratch0) ↦{fullShare} f : sProp 𝕄) := by
  rw [owns_whole_eq]
  iintro ⟨%g, %hg, H⟩
  subst hg
  iexact H

theorem coord_val (t : Fin cfg0.N) : ((grid0.coords t) 0).val = t.val := by
  rcases fin_N0 t with h | h | h | h | h | h | h | h | h | h | h | h | h | h | h | h <;> subst h <;> decide

/-- The body at point `t`. -/
theorem step (c : Dev nD) (t : Fin cfg0.N) (f : S1x8.Idx → Elt F .f32) (hf : t.val ≠ 0 → f = carry W c t.val)
    (Y0 : S512x1.Idx → BitVec 32) (Y1 : S512x1.Idx → BitVec 32) (Y2 : S1x16.Idx → BitVec 32) (Y3 : S128x1.Idx → BitVec 32) (Q : PUnit → sProp 𝕄) :
    iprop(owns (c : Thread nD τ) (st0_0 t) fullShare (x0 W c t) ∗ owns (c : Thread nD τ) (st0_1 t) fullShare (x1 W c t) ∗ owns (c : Thread nD τ) (st0_2 t) fullShare (x2 W c t) ∗ owns (c : Thread nD τ) (st0_3 t) fullShare (x3 W c t) ∗ owns (c : Thread nD τ) (st0_4 t) fullShare (x4 W c t) ∗ owns (c : Thread nD τ) (st0_5 t) fullShare (x5 W c t) ∗ owns (c : Thread nD τ) (st0_6 t) fullShare (x6 W c t) ∗ owns (c : Thread nD τ) (st0_7 t) fullShare Y0 ∗ owns (c : Thread nD τ) (st0_8 t) fullShare Y1 ∗ owns (c : Thread nD τ) (st0_9 t) fullShare Y2 ∗ owns (c : Thread nD τ) (st0_10 t) fullShare Y3 ∗ owns (c : Thread nD τ) (Memref.whole cc0_scratch0) fullShare  f ∗ (iprop(owns (c : Thread nD τ) (st0_0 t) fullShare (x0 W c t) ∗ owns (c : Thread nD τ) (st0_1 t) fullShare (x1 W c t) ∗ owns (c : Thread nD τ) (st0_2 t) fullShare (x2 W c t) ∗ owns (c : Thread nD τ) (st0_3 t) fullShare (x3 W c t) ∗ owns (c : Thread nD τ) (st0_4 t) fullShare (x4 W c t) ∗ owns (c : Thread nD τ) (st0_5 t) fullShare (x5 W c t) ∗ owns (c : Thread nD τ) (st0_6 t) fullShare (x6 W c t) ∗ owns (c : Thread nD τ) (st0_7 t) fullShare (modeV (x0 W c t) (x1 W c t) (x2 W c t) (x3 W c t) (x4 W c t) (x5 W c t) (x6 W c t)) ∗ owns (c : Thread nD τ) (st0_8 t) fullShare (rankV (x0 W c t) (x1 W c t) (x2 W c t) (x3 W c t) (x4 W c t) (x5 W c t) (x6 W c t) (carry W c t.val)) ∗ owns (c : Thread nD τ) (st0_9 t) fullShare (countV (x0 W c t) (x1 W c t) (x2 W c t) (x3 W c t) (x4 W c t) (x5 W c t) (x6 W c t) (carry W c t.val)) ∗ owns (c : Thread nD τ) (st0_10 t) fullShare (tableV (x0 W c t) (x1 W c t) (x2 W c t) (x3 W c t) (x4 W c t) (x5 W c t) (x6 W c t) (carry W c t.val)) ∗ owns (c : Thread nD τ) (Memref.whole cc0_scratch0) fullShare  (carry W c (t.val + 1))) -∗ Q ⟨⟩))
      ⊢ wp frame (wpE (defs₀ (F := F)) 𝒱₀ (c : Thread nD τ) none) Set.univ (bodyAt0 t) Q := by
  rw [carry_succ]
  by_cases h0 : t.val = 0
  · rw [show carry W c t.val = zeroC by rw [h0]; rfl]
    exact body_first c (grid0.coords t) ((coord_val t).trans h0) _ _ _ _ _ _ _ _ _ _ _ _ _ _ _ _ _ _ _ _ _ _ _ _ (x0 W c t) (x1 W c t) (x2 W c t) (x3 W c t) (x4 W c t) (x5 W c t) (x6 W c t) Y0 Y1 Y2 Y3 f Set.univ Q
  · rw [← hf h0]
    exact body_next c (grid0.coords t) (fun h => h0 ((coord_val t).symm.trans h)) _ _ _ _ _ _ _ _ _ _ _ _ _ _ _ _ _ _ _ _ _ _ _ _ (x0 W c t) (x1 W c t) (x2 W c t) (x3 W c t) (x4 W c t) (x5 W c t) (x6 W c t) Y0 Y1 Y2 Y3 f Set.univ Q

theorem body_obligation (c : Dev nD) : BodyObligation (dat W c) (defs₀ (F := F)) 𝒱₀ none Set.univ := fun t => by
  rw [bigSep_W0, bigSep_W0]
  rw [show (dat W c).owesAt none t.succ = (dat W c).owesAt none t.castSucc from rfl,
    show (dat W c).Φ t.castSucc = Inv W c t.val from rfl, show (dat W c).Φ t.succ = Inv W c (t.val + 1) from rfl]
  show iprop(_ ∗ _ ∗ _) ⊢ wp frame _ _ (bodyAt0 t) _
  unfold Inv
  iintro ⟨⟨⟨%f, %hf, HS⟩, HR⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  simp only [before_0, before_1, before_2, before_3, before_4, before_5, before_6]
  iapply (step W c t f hf _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iapply own_scratch; iexact HS
  iintro ⟨H0, H1, H2, H3, H4, H5, H6, H7, H8, H9, H10, HS⟩
  isplitl [HS HR]
  · isplitl [HS]
    · iexists _; isplitr; swap
      · iapply scratch_own; iexact HS
      ipureintro; intro _; rfl
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Tail

end
-- ==== Proof.Exp1.lean ====
/-
  One grid point of the experts call: the block of sorted rows goes through the four layers of the
  block's expert, and the result block is stored.
-/
module

public import proofs.«01_k».proof.Proof.Common
public import proofs.«01_k».proof.Proof.Gen.KernelIdeal.Launch
public import Idealize.ShloMosaic.Lib.Pipeline.FrameBody
public import Idealize.ShloMosaic.Lib.VecWindow

@[expose] public section

noncomputable section

namespace Cert.Proof.Experts

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- What the body stores, of the blocks it loads. -/
def bodyV (x : S512x4096.Idx → Elt F .f32) (w0 : S1x4096x64.Idx → Elt F .f32) (b0 : S1x1x64.Idx → Elt F .f32)
    (w1 : S1x64x64.Idx → Elt F .f32) (b1 : S1x1x64.Idx → Elt F .f32) (w2 : S1x64x64.Idx → Elt F .f32) (b2 : S1x1x64.Idx → Elt F .f32)
    (w3 : S1x64x256.Idx → Elt F .f32) (b3 : S1x1x256.Idx → Elt F .f32) : S512x256.Idx → Elt F .f32 :=
  k2_pay1 (k2_pay2 x w0 b0 w1 b1 w2 b2) (Scalar.ofBits .f32 0x00000000#32) w3 b3

theorem bodyV_congr {x x' : S512x4096.Idx → Elt F .f32} {w0 w0' : S1x4096x64.Idx → Elt F .f32} {b0 b0' : S1x1x64.Idx → Elt F .f32}
    {w1 w1' : S1x64x64.Idx → Elt F .f32} {b1 b1' : S1x1x64.Idx → Elt F .f32} {w2 w2' : S1x64x64.Idx → Elt F .f32} {b2 b2' : S1x1x64.Idx → Elt F .f32}
    {w3 w3' : S1x64x256.Idx → Elt F .f32} {b3 b3' : S1x1x256.Idx → Elt F .f32}
    (hx : x = x') (h0 : w0 = w0') (g0 : b0 = b0') (h1 : w1 = w1') (g1 : b1 = b1') (h2 : w2 = w2') (g2 : b2 = b2') (h3 : w3 = w3') (g3 : b3 = b3') :
    bodyV (F := F) x w0 b0 w1 b1 w2 b2 w3 b3 = bodyV x' w0' b0' w1' b1' w2' b2' w3' b3' := by
  subst hx h0 g0 h1 g1 h2 g2 h3 g3; rfl

theorem body (c : Dev nD) (i : grid2.Coords) (M1 : Memref sig .tc .smem S128 .i32) (h1 : M1.IsWhole)
    (M2 : Memref sig .tc .vmem S512x4096 .f32) (h2 : M2.IsWhole) (M3 : Memref sig .tc .vmem S1x4096x64 .f32) (h3 : M3.IsWhole)
    (M4 : Memref sig .tc .vmem S1x1x64 .f32) (h4 : M4.IsWhole) (M5 : Memref sig .tc .vmem S1x64x64 .f32) (h5 : M5.IsWhole)
    (M6 : Memref sig .tc .vmem S1x1x64 .f32) (h6 : M6.IsWhole) (M7 : Memref sig .tc .vmem S1x64x64 .f32) (h7 : M7.IsWhole)
    (M8 : Memref sig .tc .vmem S1x1x64 .f32) (h8 : M8.IsWhole) (M9 : Memref sig .tc .vmem S1x64x256 .f32) (h9 : M9.IsWhole)
    (M10 : Memref sig .tc .vmem S1x1x256 .f32) (h10 : M10.IsWhole) (M11 : Memref sig .tc .vmem S512x256 .f32) (h11 : M11.IsWhole)
    (X2 : S512x4096.Idx → Elt F .f32) (X3 : S1x4096x64.Idx → Elt F .f32) (X4 : S1x1x64.Idx → Elt F .f32)
    (X5 : S1x64x64.Idx → Elt F .f32) (X6 : S1x1x64.Idx → Elt F .f32) (X7 : S1x64x64.Idx → Elt F .f32) (X8 : S1x1x64.Idx → Elt F .f32)
    (X9 : S1x64x256.Idx → Elt F .f32) (X10 : S1x1x256.Idx → Elt F .f32) (X11 : S512x256.Idx → Elt F .f32) (E : Set ℕ) (Q : PUnit → sProp 𝕄) :
    iprop(owns (c : Thread nD τ) M2 fullShare X2 ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8 ∗ owns (c : Thread nD τ) M9 fullShare X9
        ∗ owns (c : Thread nD τ) M10 fullShare X10 ∗ owns (c : Thread nD τ) M11 fullShare X11
        ∗ (iprop(owns (c : Thread nD τ) M2 fullShare X2 ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8 ∗ owns (c : Thread nD τ) M9 fullShare X9
        ∗ owns (c : Thread nD τ) M10 fullShare X10 ∗ owns (c : Thread nD τ) M11 fullShare (bodyV X2 X3 X4 X5 X6 X7 X8 X9 X10)) -∗ Q ⟨⟩))
      ⊢ wp frame (wpE (defs₀ (F := F)) 𝒱₀ (c : Thread nD τ) none) E
          (cc2__expert_body i M1 h1 M2 h2 M3 h3 M4 h4 M5 h5 M6 h6 M7 h7 M8 h8 M9 h9 M10 h10 M11 h11) Q := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  simp only [cc2__expert_body_eq_skeleton]
  unfold cc2__expert_body_skel
  simp only [k2_part1_eq_skeleton]
  unfold k2_part1_skel
  sl_exec
  rw [wp_ret]
  imodintro
  iapply Hk
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]; · iexists f8; isplitr; · ipureintro; exact e8
                  iexact H8
  isplitl [H9]; · iexists f9; isplitr; · ipureintro; exact e9
                  iexact H9
  isplitl [H10]; · iexists f10; isplitr; · ipureintro; exact e10
                   iexact H10
  iexists _
  isplitr; swap
  · iexact H11
  ipureintro
  refine (View.read_writes_full (s := S512x256) M11.view f11 inb_S512x256_S512x256_0_0 _ []).trans ?_
  exact bodyV_congr ((View.readAt_full M2.view f2 inb_S512x4096_S512x4096_0_0).trans e2) ((View.readAt_full M3.view f3 inb_S1x4096x64_S1x4096x64_0_0_0).trans e3)
    ((View.readAt_full M4.view f4 inb_S1x1x64_S1x1x64_0_0_0).trans e4) ((View.readAt_full M5.view f5 inb_S1x64x64_S1x64x64_0_0_0).trans e5)
    ((View.readAt_full M6.view f6 inb_S1x1x64_S1x1x64_0_0_0).trans e6) ((View.readAt_full M7.view f7 inb_S1x64x64_S1x64x64_0_0_0).trans e7)
    ((View.readAt_full M8.view f8 inb_S1x1x64_S1x1x64_0_0_0).trans e8) ((View.readAt_full M9.view f9 inb_S1x64x256_S1x64x256_0_0_0).trans e9)
    ((View.readAt_full M10.view f10 inb_S1x1x256_S1x1x256_0_0_0).trans e10)

end Cert.Proof.Experts

end
-- ==== Proof.ExpR.lean ====
/-
  The experts call as a region: each block of sorted rows through the expert its table entry names, and what the
  region leaves in its result array.
-/
module

public import proofs.«01_k».proof.Proof.Region
public import proofs.«01_k».proof.Proof.Exp1
public import Idealize.ShloMosaic.Lib.Pipeline.ValueKit.Geometry

@[expose] public section

noncomputable section

namespace Cert.Proof.Experts

open Cert.KernelIdeal Cert.KernelIdeal.Gen

open Idealize.ShloMosaic
open Idealize.ShloMosaic.TcCoe
open Idealize.ShloMosaic.SparseCore.Cfg (HIx)
open Idealize.ShloMosaic.Pipeline (Dat BodyObligation arrRef)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (W : Dev nD → Valuation τ sig (Elt F)) (a : (p : Fin 2) → (pcfgs (F := F) p).Adm)

/-- Window 0's block at point `t`. -/
def x0 (c : Dev nD) (t : Fin (cfg2 (F := F) (a 1)).N) : S512x4096.Idx → Elt F .f32 := (((cfg2 (F := F) (a 1)).win 0).blk t).view.read (Elt F) (W c (Proc.devRef .tc (arrRef spec2 0)))

/-- Window 1's block at point `t`. -/
def x1 (c : Dev nD) (t : Fin (cfg2 (F := F) (a 1)).N) : S1x4096x64.Idx → Elt F .f32 := (((cfg2 (F := F) (a 1)).win 1).blk t).view.read (Elt F) (W c (Proc.devRef .tc (arrRef spec2 1)))

/-- Window 2's block at point `t`. -/
def x2 (c : Dev nD) (t : Fin (cfg2 (F := F) (a 1)).N) : S1x1x64.Idx → Elt F .f32 := (((cfg2 (F := F) (a 1)).win 2).blk t).view.read (Elt F) (W c (Proc.devRef .tc (arrRef spec2 2)))

/-- Window 3's block at point `t`. -/
def x3 (c : Dev nD) (t : Fin (cfg2 (F := F) (a 1)).N) : S1x64x64.Idx → Elt F .f32 := (((cfg2 (F := F) (a 1)).win 3).blk t).view.read (Elt F) (W c (Proc.devRef .tc (arrRef spec2 3)))

/-- Window 4's block at point `t`. -/
def x4 (c : Dev nD) (t : Fin (cfg2 (F := F) (a 1)).N) : S1x1x64.Idx → Elt F .f32 := (((cfg2 (F := F) (a 1)).win 4).blk t).view.read (Elt F) (W c (Proc.devRef .tc (arrRef spec2 4)))

/-- Window 5's block at point `t`. -/
def x5 (c : Dev nD) (t : Fin (cfg2 (F := F) (a 1)).N) : S1x64x64.Idx → Elt F .f32 := (((cfg2 (F := F) (a 1)).win 5).blk t).view.read (Elt F) (W c (Proc.devRef .tc (arrRef spec2 5)))

/-- Window 6's block at point `t`. -/
def x6 (c : Dev nD) (t : Fin (cfg2 (F := F) (a 1)).N) : S1x1x64.Idx → Elt F .f32 := (((cfg2 (F := F) (a 1)).win 6).blk t).view.read (Elt F) (W c (Proc.devRef .tc (arrRef spec2 6)))

/-- Window 7's block at point `t`. -/
def x7 (c : Dev nD) (t : Fin (cfg2 (F := F) (a 1)).N) : S1x64x256.Idx → Elt F .f32 := (((cfg2 (F := F) (a 1)).win 7).blk t).view.read (Elt F) (W c (Proc.devRef .tc (arrRef spec2 7)))

/-- Window 8's block at point `t`. -/
def x8 (c : Dev nD) (t : Fin (cfg2 (F := F) (a 1)).N) : S1x1x256.Idx → Elt F .f32 := (((cfg2 (F := F) (a 1)).win 8).blk t).view.read (Elt F) (W c (Proc.devRef .tc (arrRef spec2 8)))

/-- Between points: the scoped buffers the call does not stage, and its table. -/
def Inv (c : Dev nD) : sProp 𝕄 :=
  iprop(Pipeline.scopedRest (Ix := HIx 2) (Name := ℕ) (U := UU) (Lvl := ℕ) (Val := Elt F) spec2 c ∗ Pipeline.tablesAt (pcfgs (F := F)) a 1 c)

/-- The call's proof data at the valuation `W`. -/
def dat (c : Dev nD) : Dat τ (Elt F) (HIx 2) ℕ UU ℕ (cfg2 (F := F) (a 1)) c where
  A w := W c (Proc.devRef .tc (arrRef spec2 w))
  after w t := match w with
    | ⟨0, _⟩ => x0 W a c t
    | ⟨1, _⟩ => x1 W a c t
    | ⟨2, _⟩ => x2 W a c t
    | ⟨3, _⟩ => x3 W a c t
    | ⟨4, _⟩ => x4 W a c t
    | ⟨5, _⟩ => x5 W a c t
    | ⟨6, _⟩ => x6 W a c t
    | ⟨7, _⟩ => x7 W a c t
    | ⟨8, _⟩ => x8 W a c t
    | ⟨9, _⟩ => bodyV (x0 W a c t) (x1 W a c t) (x2 W a c t) (x3 W a c t) (x4 W a c t) (x5 W a c t) (x6 W a c t) (x7 W a c t) (x8 W a c t)
  Φ _ := Inv a c
  q _ := fullShare
  owed _ := (K (F := F)).Otc c 1
  recorded _ := below (F := F) c 1

theorem before_0 (c : Dev nD) (t : Fin (cfg2 (F := F) (a 1)).N) (d) : (dat W a c).before 0 t d = x0 W a c t :=
  (dat W a c).before_in_eq_fetched 0 rfl (fun _ => rfl) (fun _ _ _ => rfl) (fun _ => rfl) t d

theorem before_1 (c : Dev nD) (t : Fin (cfg2 (F := F) (a 1)).N) (d) : (dat W a c).before 1 t d = x1 W a c t :=
  (dat W a c).before_in_eq_fetched 1 rfl (fun _ => rfl) (fun _ _ _ => rfl) (fun _ => rfl) t d

theorem before_2 (c : Dev nD) (t : Fin (cfg2 (F := F) (a 1)).N) (d) : (dat W a c).before 2 t d = x2 W a c t :=
  (dat W a c).before_in_eq_fetched 2 rfl (fun _ => rfl) (fun _ _ _ => rfl) (fun _ => rfl) t d

theorem before_3 (c : Dev nD) (t : Fin (cfg2 (F := F) (a 1)).N) (d) : (dat W a c).before 3 t d = x3 W a c t :=
  (dat W a c).before_in_eq_fetched 3 rfl (fun _ => rfl) (fun _ _ _ => rfl) (fun _ => rfl) t d

theorem before_4 (c : Dev nD) (t : Fin (cfg2 (F := F) (a 1)).N) (d) : (dat W a c).before 4 t d = x4 W a c t :=
  (dat W a c).before_in_eq_fetched 4 rfl (fun _ => rfl) (fun _ _ _ => rfl) (fun _ => rfl) t d

theorem before_5 (c : Dev nD) (t : Fin (cfg2 (F := F) (a 1)).N) (d) : (dat W a c).before 5 t d = x5 W a c t :=
  (dat W a c).before_in_eq_fetched 5 rfl (fun _ => rfl) (fun _ _ _ => rfl) (fun _ => rfl) t d

theorem before_6 (c : Dev nD) (t : Fin (cfg2 (F := F) (a 1)).N) (d) : (dat W a c).before 6 t d = x6 W a c t :=
  (dat W a c).before_in_eq_fetched 6 rfl (fun _ => rfl) (fun _ _ _ => rfl) (fun _ => rfl) t d

theorem before_7 (c : Dev nD) (t : Fin (cfg2 (F := F) (a 1)).N) (d) : (dat W a c).before 7 t d = x7 W a c t :=
  (dat W a c).before_in_eq_fetched 7 rfl (fun _ => rfl) (fun _ _ _ => rfl) (fun _ => rfl) t d

theorem before_8 (c : Dev nD) (t : Fin (cfg2 (F := F) (a 1)).N) (d) : (dat W a c).before 8 t d = x8 W a c t :=
  (dat W a c).before_in_eq_fetched 8 rfl (fun _ => rfl) (fun _ _ _ => rfl) (fun _ => rfl) t d

theorem body_obligation (c : Dev nD) : BodyObligation (dat W a c) (defs₀ (F := F)) 𝒱₀ none Set.univ := fun t => by
  rw [bigSep_W2, bigSep_W2]
  rw [show (dat W a c).owesAt none t.succ = (dat W a c).owesAt none t.castSucc from rfl,
    show (dat W a c).Φ t.castSucc = Inv a c from rfl, show (dat W a c).Φ t.succ = Inv a c from rfl]
  iintro ⟨HR, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c (grid2.coords t) (Memref.whole main_v13) (Memref.isWhole_whole _) _ _ _ _ _ _ _ _ _ _ _ _ _ _ _ _ _ _ _ _ (x0 W a c t) (x1 W a c t) (x2 W a c t) (x3 W a c t) (x4 W a c t) (x5 W a c t) (x6 W a c t) (x7 W a c t) (x8 W a c t) _ Set.univ _)
  isplitl [H0]
  · have e := before_0 W a c t d0
    iapply (BIBase.Entails.of_eq (congrArg (owns (c : Thread nD τ) (spec2_0.stage ((cfg2 (F := F) (a 1)).slots t 0)) fullShare) e)); iexact H0
  isplitl [H1]
  · have e := before_1 W a c t d1
    iapply (BIBase.Entails.of_eq (congrArg (owns (c : Thread nD τ) (spec2_1.stage ((cfg2 (F := F) (a 1)).slots t 1)) fullShare) e)); iexact H1
  isplitl [H2]
  · have e := before_2 W a c t d2
    iapply (BIBase.Entails.of_eq (congrArg (owns (c : Thread nD τ) (spec2_2.stage ((cfg2 (F := F) (a 1)).slots t 2)) fullShare) e)); iexact H2
  isplitl [H3]
  · have e := before_3 W a c t d3
    iapply (BIBase.Entails.of_eq (congrArg (owns (c : Thread nD τ) (spec2_3.stage ((cfg2 (F := F) (a 1)).slots t 3)) fullShare) e)); iexact H3
  isplitl [H4]
  · have e := before_4 W a c t d4
    iapply (BIBase.Entails.of_eq (congrArg (owns (c : Thread nD τ) (spec2_4.stage ((cfg2 (F := F) (a 1)).slots t 4)) fullShare) e)); iexact H4
  isplitl [H5]
  · have e := before_5 W a c t d5
    iapply (BIBase.Entails.of_eq (congrArg (owns (c : Thread nD τ) (spec2_5.stage ((cfg2 (F := F) (a 1)).slots t 5)) fullShare) e)); iexact H5
  isplitl [H6]
  · have e := before_6 W a c t d6
    iapply (BIBase.Entails.of_eq (congrArg (owns (c : Thread nD τ) (spec2_6.stage ((cfg2 (F := F) (a 1)).slots t 6)) fullShare) e)); iexact H6
  isplitl [H7]
  · have e := before_7 W a c t d7
    iapply (BIBase.Entails.of_eq (congrArg (owns (c : Thread nD τ) (spec2_7.stage ((cfg2 (F := F) (a 1)).slots t 7)) fullShare) e)); iexact H7
  isplitl [H8]
  · have e := before_8 W a c t d8
    iapply (BIBase.Entails.of_eq (congrArg (owns (c : Thread nD τ) (spec2_8.stage ((cfg2 (F := F) (a 1)).slots t 8)) fullShare) e)); iexact H8
  isplitl [H9]; · iexact H9
  iintro ⟨H0, H1, H2, H3, H4, H5, H6, H7, H8, H9⟩
  isplitl [HR]; · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.Experts

end
-- ==== Proof.DispatchFacts.lean ====
/-
  The dispatch on one tile: the tile fetches its 256 tokens' modes and ranks and the counts, computes
  each token's row, and scatters the tokens' rows sixteen at a time, 128 columns at a time.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

section Tile

variable (d : Dev nD) (L : grid1.Coords)
variable (obs : S8192x4096.Idx → Elt F .f32) (md rk : S8192.Idx → BitVec 32) (ct : S16.Idx → BitVec 32)
  (xs0 : S12288x4096.Idx → Elt F .f32)

/-- Token `x` of tile `w`. -/
def tw (L : grid1.Coords) (x : S256.Idx) : S8192.Idx :=
  ix1 ⟨256 * wid L + (x 0).val, by have := wid_lt L; have h : (x 0).val < 256 := (x 0).isLt; omega⟩

/-- What a tile holds of the arrays: a share of the four it reads, and its elements `I` of the sorted one. -/
abbrev tileIn (q : PosShare TreeShare) (I : Finset S12288x4096.Idx) (xs : S12288x4096.Idx → Elt F .f32) : sProp 𝕄 :=
  iprop((loc d main_arg0 ↦{q} obs) ∗ (loc d main_v9 ↦{q} md) ∗ (loc d main_v10 ↦{q} rk) ∗ (loc d main_v11 ↦{q} ct)
    ∗ (loc d main_v12 ↦[I]{fullShare} xs))

/-- The tile's loop of positions at trip `k`: the first `16 k` positions are in place. -/
def inv1 (O : CellTallies nD τ sig (HIx 2)) (W : Waits sig (HIx 2)) (k : ℕ) (_ : PUnit) : sProp 𝕄 :=
  iprop(Transfers.MayWaits (thr d L) (none : HIx 2) O
    ∗ ((Memref.whole cc1_scratch0 : Memref sig .scVector .vmem S256 .i32).view.loc (thr d L) ↦{fullShare} fun x => md (tw L x))
    ∗ ((Memref.whole cc1_scratch1 : Memref sig .scVector .vmem S256 .i32).view.loc (thr d L) ↦{fullShare} fun x => rk (tw L x))
    ∗ ((Memref.whole cc1_scratch3 : Memref sig .scVector .vmem S16 .i32).view.loc (thr d L) ↦{fullShare} gsW ct)
    ∗ (∃ f : S256.Idx → BitVec 32, ⌜∀ x, (x 0).val < 16 * k → f x = posW md rk ct (tw L x)⌝ ∗ ((Memref.whole cc1_scratch2 : Memref sig .scVector .vmem S256 .i32).view.loc (thr d L) ↦{fullShare} f))
    ∗ owes (thr d L) O W)

/-- The positions the tile computes. -/
def pT : S256.Idx → BitVec 32 := fun x => posW md rk ct (tw L x)

/-- Row `n` of the observations (the last one beyond them). -/
def obsR (n : ℕ) (c : Fin 4096) : Elt F .f32 := obs (ix2 ⟨min n 8191, by omega⟩ c)

/-- Sixteen rows of the observations, the tile's chunk `k`. -/
def ch (k : ℕ) : S16x4096.Idx → Elt F .f32 := fun y => obsR obs (256 * wid L + 16 * k + (y 0).val) (y 1)

/-- Whether the element of the sorted array has been written by the tile, at trip `j` of chunk `k`. -/
def dn (k j : ℕ) (x : S12288x4096.Idx) : Prop :=
  256 * wid L ≤ tk md rk ct (x 0).val ∧ (tk md rk ct (x 0).val < 256 * wid L + 16 * k
    ∨ tk md rk ct (x 0).val < 256 * wid L + 16 * (k + 1) ∧ (x 1).val < 128 * j)

open Classical in
/-- The sorted array as the tile leaves it at trip `j` of chunk `k`. -/
def xsAt (k j : ℕ) (x : S12288x4096.Idx) : Elt F .f32 :=
  if dn L md rk ct k j x then xsV obs md rk ct xs0 x else xs0 x

/-- The tile's scatter loop in chunk `k` at trip `j`. -/
def inv3 (O : CellTallies nD τ sig (HIx 2)) (W : Waits sig (HIx 2)) (k j : ℕ) (_ : PUnit) : sProp 𝕄 :=
  iprop(Transfers.MayWaits (thr d L) (none : HIx 2) O
    ∗ ((Memref.whole cc1_scratch5 : Memref sig .scVector .vmem S16x4096 .f32).view.loc (thr d L) ↦{fullShare} ch L obs k)
    ∗ ((Memref.whole cc1_scratch2 : Memref sig .scVector .vmem S256 .i32).view.loc (thr d L) ↦{fullShare} pT L md rk ct)
    ∗ ((Memref.whole main_v12_scv : Memref sig .scVector .hbm S12288x4096 .f32).view.loc (thr d L) ↦[own md rk ct (wid L)]{fullShare} xsAt L obs md rk ct xs0 k j)
    ∗ semVal (thr d L, SemLoc.dma cc1_scratch6.sem) 0
    ∗ ∃ W', ⌜∀ p ∈ W', p ∈ W ∨ p.2 = none⌝ ∗ owes (thr d L) O W')

abbrev srcM (j : Fin k1_t3_loop.trips) : Memref sig .scVector .vmem S16x128 .f32 :=
  (Memref.whole cc1_scratch5 : Memref sig .scVector .vmem S16x4096 .f32).slice (Rect.unit (s := S16x4096) (k1_off5 j) S16x128.size (k1_off5_inb j)) (fun _ => rfl)
abbrev dstM (j : Fin k1_t3_loop.trips) : Memref sig .scVector .hbm S12288x128 .f32 :=
  ((Memref.whole main_v12_scv : Memref sig .scVector .hbm S12288x4096 .f32).slice (Rect.unit (s := S12288x4096) (k1_off7 j) S12288x128.size (k1_off7_inb j)) (fun _ => rfl)).slice
    (Rect.unit (s := S12288x128) ![0, 0] S12288x128.size inb_S12288x128_S12288x128_0_0) (fun _ => rfl)
abbrev offM (k : Fin k1_t2_loop.trips) : Memref sig .scVector .vmem S16 .i32 :=
  (Memref.whole cc1_scratch2 : Memref sig .scVector .vmem S256 .i32).slice (Rect.unit (s := S256) (k1_off6 k) S16.size (k1_off6_inb k)) (fun _ => rfl)

theorem trips2 (k : Fin k1_t2_loop.trips) : k.val < 16 := lt_of_lt_of_eq k.isLt (by decide)
theorem trips3 (j : Fin k1_t3_loop.trips) : j.val < 32 := lt_of_lt_of_eq j.isLt (by decide)

/-- The list's words: the positions of the chunk's sixteen tokens. -/
theorem off_read (k : Fin k1_t2_loop.trips) (x : S16.Idx) :
    (offM k).view.read (Elt F) (pT L md rk ct) x
      = posW md rk ct (ix1 ⟨256 * wid L + 16 * k.val + (x 0).val, by
          have := wid_lt L; have := trips2 k; have h : (x 0).val < 16 := (x 0).isLt; omega⟩) := by
  rw [View.read_apply, cast_eq]
  unfold pT tw
  refine congrArg (fun n : Fin 8192 => posW md rk ct (ix1 n)) (Fin.ext ?_)
  show 256 * wid L + (k1_off6 k 0 + 1 * (x 0).val) = 256 * wid L + 16 * k.val + (x 0).val
  rw [k1_off6_eq]
  show 256 * wid L + (16 * k.val + 1 * (x 0).val) = _
  omega

theorem hn1 : S16.numel = S16x128.size (gathers_S12288x128_S16x128).axis' := rfl

theorem hin1 (hR : Routed md rk ct) (k : Fin k1_t2_loop.trips) (x : S16.Idx) :
    ((offM k).view.read (Elt F) (pT L md rk ct) x).toNat < S12288x128.size (gathers_S12288x128_S16x128).axis := by
  rw [off_read]; exact hR.pos_lt _

theorem hinj1 (hR : Routed md rk ct) (k : Fin k1_t2_loop.trips) :
    Function.Injective (SparseCore.rows (F := F) ((offM k).view.read (Elt F) (pT L md rk ct)) hn1 (hin1 L md rk ct hR k)) := by
  apply SparseCore.rows_injective
  intro x y h
  change BitVec.toNat _ = BitVec.toNat _ at h
  rw [off_read, off_read] at h
  have e := hR.pos_inj _ _ (BitVec.eq_of_toNat_eq h)
  have e0 := congrArg (fun i : S8192.Idx => (i 0).val) e
  funext a; apply Fin.ext
  match a with
  | ⟨0, _⟩ => show (x 0).val = (y 0).val; change 256 * wid L + 16 * k.val + (x 0).val = 256 * wid L + 16 * k.val + (y 0).val at e0; omega

/-- Entry `i` of the chunk's list. -/
theorem row_val (hR : Routed md rk ct) (k : Fin k1_t2_loop.trips) (i : Fin (S16x128.size (gathers_S12288x128_S16x128).axis')) :
    ∃ h, (SparseCore.rows (F := F) ((offM k).view.read (Elt F) (pT L md rk ct)) hn1 (hin1 L md rk ct hR k) i).val
      = (posW md rk ct (ix1 ⟨256 * wid L + 16 * k.val + i.val, h⟩)).toNat := by
  have hi : i.val < 16 := i.isLt
  refine ⟨by have := wid_lt L; have := trips2 k; omega, ?_⟩
  unfold SparseCore.rows
  dsimp only
  rw [off_read]
  refine congrArg (fun n : Fin 8192 => (posW md rk ct (ix1 n)).toNat) (Fin.ext ?_)
  show 256 * wid L + 16 * k.val + _ = 256 * wid L + 16 * k.val + i.val
  congr 1
  exact (Shape.rowMajor_val_one _).symm.trans (congrArg Fin.val (S16.rowMajor.apply_symm_apply _))

/-- Where element `y` of row `n` of a scatter's column block is in the sorted array. -/
theorem dst_emb (j : Fin k1_t3_loop.trips) (n : Fin (S12288x128.size (gathers_S12288x128_S16x128).axis)) (y : (S12288x128.rowShape (gathers_S12288x128_S16x128).axis).Idx) :
    ((((dstM j).view.slice (S12288x128.rowRect (gathers_S12288x128_S16x128).axis n)).emb y) 0).val = n.val
    ∧ ((((dstM j).view.slice (S12288x128.rowRect (gathers_S12288x128_S16x128).axis n)).emb y) 1).val = 128 * j.val + (y (1 : Fin 2)).val := by
  have h0 : (y (0 : Fin 2)).val < 1 := (y (0 : Fin 2)).isLt
  constructor
  · show k1_off7 j 0 + 1 * (0 + 1 * (n.val + 1 * (y (0 : Fin 2)).val)) = n.val
    rw [k1_off7_eq]
    show 0 + 1 * (0 + 1 * (n.val + 1 * (y (0 : Fin 2)).val)) = n.val
    omega
  · show k1_off7 j 1 + 1 * (0 + 1 * (0 + 1 * (y (1 : Fin 2)).val)) = _
    rw [k1_off7_eq]
    show 128 * j.val + 1 * (0 + 1 * (0 + 1 * (y (1 : Fin 2)).val)) = _
    omega

theorem dst_mem (j : Fin k1_t3_loop.trips) (n : Fin (S12288x128.size (gathers_S12288x128_S16x128).axis)) (x : S12288x4096.Idx) :
    x ∈ ((dstM j).view.slice (S12288x128.rowRect (gathers_S12288x128_S16x128).axis n)).set
      ↔ (x 0).val = n.val ∧ 128 * j.val ≤ (x 1).val ∧ (x 1).val < 128 * j.val + 128 := by
  constructor
  · intro h
    obtain ⟨y, -, rfl⟩ := Finset.mem_map.mp h
    have h1 : (y (1 : Fin 2)).val < 128 := (y (1 : Fin 2)).isLt
    obtain ⟨e0, e1⟩ := dst_emb j n y
    refine ⟨e0, ?_, ?_⟩ <;> rw [e1] <;> omega
  · rintro ⟨h0, h1, h2⟩
    let y : (S12288x128.rowShape (gathers_S12288x128_S16x128).axis).Idx := fun a => match a with
      | ⟨0, _⟩ => ⟨0, Nat.one_pos⟩ | ⟨1, _⟩ => ⟨(x 1).val - 128 * j.val, by show _ < 128; omega⟩
    refine Finset.mem_map.mpr ⟨y, Finset.mem_univ _, ?_⟩
    obtain ⟨e0, e1⟩ := dst_emb j n y
    funext a; apply Fin.ext
    match a with
    | ⟨0, _⟩ => exact e0.trans h0.symm
    | ⟨1, _⟩ => exact e1.trans (by show 128 * j.val + ((x 1).val - 128 * j.val) = (x 1).val; omega)

/-- The rows a chunk's list names, as the scatter takes them. -/
abbrev rws (hR : Routed md rk ct) (k : Fin k1_t2_loop.trips) : Fin (S16x128.size (gathers_S12288x128_S16x128).axis') → Fin (S12288x128.size (gathers_S12288x128_S16x128).axis) :=
  SparseCore.rows (F := F) ((offM k).view.read (Elt F) (pT L md rk ct)) hn1 (hin1 L md rk ct hR k)

/-- The elements a scatter writes. -/
abbrev nrs (hR : Routed md rk ct) (k : Fin k1_t2_loop.trips) (j : Fin k1_t3_loop.trips) : Finset S12288x4096.Idx :=
  SparseCore.namedRows (thr d L) (dstM j).view (gathers_S12288x128_S16x128).axis (rws (F := F) L md rk ct hR k)

/-- An element of a row the chunk's list names: its token is of the chunk. -/
theorem row_tk (hR : Routed md rk ct) (k : Fin k1_t2_loop.trips) (i : Fin (S16x128.size (gathers_S12288x128_S16x128).axis')) :
    tk md rk ct (rws (F := F) L md rk ct hR k i).val = 256 * wid L + 16 * k.val + i.val := by
  obtain ⟨h, e⟩ := row_val (F := F) L md rk ct hR k i
  exact (congrArg (tk md rk ct) e).trans (tk_pos hR _ h)

theorem mem_nrs (hR : Routed md rk ct) (k : Fin k1_t2_loop.trips) (j : Fin k1_t3_loop.trips) (x : S12288x4096.Idx) :
    x ∈ nrs (F := F) d L md rk ct hR k j ↔ 256 * wid L + 16 * k.val ≤ tk md rk ct (x 0).val ∧ tk md rk ct (x 0).val < 256 * wid L + 16 * (k.val + 1)
      ∧ 128 * j.val ≤ (x 1).val ∧ (x 1).val < 128 * j.val + 128 := by
  constructor
  · intro h
    obtain ⟨i, -, hi⟩ := Finset.mem_biUnion.mp h
    obtain ⟨h0, h1, h2⟩ := (dst_mem j _ x).mp hi
    have e := row_tk (F := F) L md rk ct hR k i
    have hi : i.val < 16 := i.isLt
    rw [h0, e]
    exact ⟨by omega, by omega, h1, h2⟩
  · rintro ⟨h0, h1, h2, h3⟩
    have hw := wid_lt L
    have hk := trips2 k
    have ht : tk md rk ct (x 0).val < 8192 := by omega
    have hb : tk md rk ct (x 0).val - (256 * wid L + 16 * k.val) < 16 := by omega
    refine Finset.mem_biUnion.mpr ⟨⟨tk md rk ct (x 0).val - (256 * wid L + 16 * k.val), hb⟩, Finset.mem_univ _, (dst_mem j _ x).mpr ⟨?_, h2, h3⟩⟩
    obtain ⟨h, e⟩ := row_val (F := F) L md rk ct hR k ⟨tk md rk ct (x 0).val - (256 * wid L + 16 * k.val), hb⟩
    refine Eq.trans ?_ e.symm
    refine (tk_spec ht).symm.trans (congrArg BitVec.toNat (congrArg (posW md rk ct) (congrArg ix1 (Fin.ext ?_))))
    generalize tk md rk ct (x 0).val = t at *
    show t = 256 * wid L + 16 * k.val + (t - (256 * wid L + 16 * k.val))
    omega

theorem nrs_sub (hR : Routed md rk ct) (k : Fin k1_t2_loop.trips) (j : Fin k1_t3_loop.trips) :
    nrs (F := F) d L md rk ct hR k j ⊆ own md rk ct (wid L) := by
  intro x hx
  obtain ⟨h0, h1, -, -⟩ := (mem_nrs (F := F) d L md rk ct hR k j x).mp hx
  have hw := wid_lt L
  have hk := trips2 k
  rw [mem_own]; unfold owner
  omega

set_option maxRecDepth 20000 in
/-- What a scatter lands on an element it writes: the token's element. -/
theorem scat_row (hR : Routed md rk ct) (k : Fin k1_t2_loop.trips) (j : Fin k1_t3_loop.trips) (fd : S12288x4096.Idx → Elt F .f32)
    (x : S12288x4096.Idx) (hx : x ∈ nrs (F := F) d L md rk ct hR k j) :
    SparseCore.scatterBuf (thr d L) (dstM j).view (gathers_S12288x128_S16x128).axis (rws (F := F) L md rk ct hR k)
        (SparseCore.scatterRowPayload (thr d L) (srcM j) gathers_S12288x128_S16x128 (ch L obs k)) fd x
      = xsV obs md rk ct xs0 x := by
  obtain ⟨i, -, hi⟩ := Finset.mem_biUnion.mp hx
  refine (SparseCore.scatterBuf_of_mem (thr d L) (dstM j).view _ _ (hinj1 (F := F) L md rk ct hR k) _ fd hi).trans ?_
  obtain ⟨y, -, rfl⟩ := Finset.mem_map.mp hi
  refine (View.write_emb_of_mem _ _ (Finset.mem_univ _)).trans ?_
  rw [cast_eq]
  obtain ⟨e0, e1⟩ := dst_emb j (rws (F := F) L md rk ct hR k i) y
  have et := row_tk (F := F) L md rk ct hR k i
  have hw := wid_lt L
  have hk := trips2 k
  have hi16 : i.val < 16 := i.isLt
  have ht : tk md rk ct ((((dstM j).view.slice (S12288x128.rowRect (gathers_S12288x128_S16x128).axis (rws (F := F) L md rk ct hR k i))).emb y) 0).val
      = 256 * wid L + 16 * k.val + i.val := by rw [e0]; exact et
  have htl : tk md rk ct ((((dstM j).view.slice (S12288x128.rowRect (gathers_S12288x128_S16x128).axis (rws (F := F) L md rk ct hR k i))).emb y) 0).val < 8192 := by
    rw [ht]; omega
  unfold xsV
  rw [dif_pos htl]
  have h0 : (y (0 : Fin 2)).val < 1 := (y (0 : Fin 2)).isLt
  have c0 := Shape.idxEquiv_symm_apply_val (Shape.Gathers.rowShape_eq gathers_S12288x128_S16x128) y (0 : Fin 2)
  have c1 := Shape.idxEquiv_symm_apply_val (Shape.Gathers.rowShape_eq gathers_S12288x128_S16x128) y (1 : Fin 2)
  generalize hz : (Shape.idxEquiv (Shape.Gathers.rowShape_eq gathers_S12288x128_S16x128)).symm y = z at c0 c1
  refine (show _ = ch L obs k.val ((srcM j).view.emb ((S16x128.rowRect (gathers_S12288x128_S16x128).axis' i).emb z)) from hz ▸ rfl).trans ?_
  unfold ch obsR
  refine congrArg obs ?_
  generalize tk md rk ct ((((dstM j).view.slice (S12288x128.rowRect (gathers_S12288x128_S16x128).axis (rws (F := F) L md rk ct hR k i))).emb y) 0).val = N at ht htl ⊢
  subst ht
  refine ext2 ?_ ?_
  · show min (256 * wid L + 16 * k.val + (k1_off5 j 0 + 1 * (i.val + 1 * (z (0 : Fin 2)).val))) 8191 = _
    rw [k1_off5_eq, c0]
    show min (256 * wid L + 16 * k.val + (0 + 1 * (i.val + 1 * (y (0 : Fin 2)).val))) 8191 = _
    show min _ _ = 256 * wid L + 16 * k.val + i.val
    omega
  · refine Eq.trans ?_ e1.symm
    show k1_off5 j 1 + 1 * (0 + 1 * (z (1 : Fin 2)).val) = _
    rw [k1_off5_eq, c1]
    show 128 * j.val + 1 * (0 + 1 * (y (1 : Fin 2)).val) = _
    omega

/-- A trip moves the sorted array from `xsAt k j` to `xsAt k (j + 1)`: where it writes, … -/
theorem step_in (hR : Routed md rk ct) (k : Fin k1_t2_loop.trips) (j : Fin k1_t3_loop.trips)
    (x : S12288x4096.Idx) (hx : x ∈ nrs (F := F) d L md rk ct hR k j) :
    xsAt L obs md rk ct xs0 k.val (j.val + 1) x = xsV obs md rk ct xs0 x := by
  obtain ⟨h0, h1, h2, h3⟩ := (mem_nrs (F := F) d L md rk ct hR k j x).mp hx
  unfold xsAt
  rw [if_pos]
  exact ⟨by omega, .inr ⟨h1, by omega⟩⟩

open Classical in
/-- … and elsewhere. -/
theorem step_out (hR : Routed md rk ct) (k : Fin k1_t2_loop.trips) (j : Fin k1_t3_loop.trips)
    (x : S12288x4096.Idx) (hx : x ∉ nrs (F := F) d L md rk ct hR k j) :
    xsAt L obs md rk ct xs0 k.val (j.val + 1) x = xsAt L obs md rk ct xs0 k.val j.val x := by
  rw [mem_nrs] at hx
  unfold xsAt
  refine if_congr ?_ rfl rfl
  unfold dn
  generalize tk md rk ct (x 0).val = t at *
  generalize (x 1).val = c at *
  omega

open Classical in
/-- A chunk's end is the next chunk's start. -/
theorem step_chunk (k : ℕ) (x : S12288x4096.Idx) :
    xsAt L obs md rk ct xs0 k 32 x = xsAt L obs md rk ct xs0 (k + 1) 0 x := by
  unfold xsAt
  refine if_congr ?_ rfl rfl
  unfold dn
  have h : (x 1).val < 4096 := (x 1).isLt
  generalize tk md rk ct (x 0).val = t at *
  generalize (x 1).val = c at *
  omega

theorem xsAt_start (x : S12288x4096.Idx) : xsAt L obs md rk ct xs0 0 0 x = xs0 x := by
  unfold xsAt
  rw [if_neg]
  unfold dn
  generalize tk md rk ct (x 0).val = t at *
  omega

theorem xsAt_end (x : S12288x4096.Idx) (hx : x ∈ own md rk ct (wid L)) : xsAt L obs md rk ct xs0 16 0 x = xsV obs md rk ct xs0 x := by
  unfold xsAt
  by_cases h : dn L md rk ct 16 0 x
  · rw [if_pos h]
  · rw [if_neg h]
    unfold xsV
    rw [dif_neg]
    intro ht
    rw [mem_own] at hx
    unfold owner at hx
    unfold dn at h
    generalize tk md rk ct (x 0).val = t at *
    omega

end Tile

end Cert.Proof
-- ==== Proof.Disp3.lean ====
/-
  The dispatch on one tile: the tile fetches its 256 tokens' modes and ranks and the counts, computes
  each token's row, and scatters the tokens' rows sixteen at a time, 128 columns at a time.
-/
module

public import proofs.«01_k».proof.Proof.DispatchFacts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

section Tile

variable (d : Dev nD) (L : grid1.Coords)
variable (obs : S8192x4096.Idx → Elt F .f32) (md rk : S8192.Idx → BitVec 32) (ct : S16.Idx → BitVec 32)
  (xs0 : S12288x4096.Idx → Elt F .f32)

theorem scat_credit (d : Dev nD) (L : grid1.Coords) (r : Fin (S16x128.size (gathers_S12288x128_S16x128).axis') → Fin (S12288x128.size (gathers_S12288x128_S16x128).axis))
    (j : Fin k1_t3_loop.trips) :
    ∑ i, ((dstM j).slice (S12288x128.rowRect (gathers_S12288x128_S16x128).axis (r i)) (S12288x128.stride_rowRect _ _)).view.dmaCredit = (srcM j).view.dmaCredit :=
  SparseCore.sum_scatterCredit_eq_srcCredit (c := thr d L) (srcM j) (dstM j) gathers_S12288x128_S16x128 rfl r (fun _ => rfl) (fun _ => rfl)

/-- What one scatter makes of the rows it writes. -/
theorem scat_in (hR : Routed md rk ct) (k : Fin k1_t2_loop.trips) (j : Fin k1_t3_loop.trips) (fd : S12288x4096.Idx → Elt F .f32)
    (x : S12288x4096.Idx) (hx : x ∈ nrs (F := F) d L md rk ct hR k j) :
    SparseCore.scatterBuf (thr d L) (dstM j).view (gathers_S12288x128_S16x128).axis (rws (F := F) L md rk ct hR k)
        (SparseCore.scatterRowPayload (thr d L) (srcM j) gathers_S12288x128_S16x128 (ch L obs k)) fd x
      = xsAt L obs md rk ct xs0 k.val (j.val + 1) x :=
  (scat_row d L obs md rk ct xs0 hR k j fd x hx).trans (step_in d L obs md rk ct xs0 hR k j x hx).symm

theorem scat_in_pts (hR : Routed md rk ct) (k : Fin k1_t2_loop.trips) (j : Fin k1_t3_loop.trips) (fd : S12288x4096.Idx → Elt F .f32) :
    (((Memref.whole main_v12_scv : Memref sig .scVector .hbm S12288x4096 .f32).view.loc (thr d L) ↦[nrs (F := F) d L md rk ct hR k j]{fullShare}
        SparseCore.scatterBuf (thr d L) (dstM j).view (gathers_S12288x128_S16x128).axis (rws (F := F) L md rk ct hR k)
          (SparseCore.scatterRowPayload (thr d L) (srcM j) gathers_S12288x128_S16x128 (ch L obs k)) fd : sProp 𝕄)
      ⊢ ((Memref.whole main_v12_scv : Memref sig .scVector .hbm S12288x4096 .f32).view.loc (thr d L) ↦[nrs (F := F) d L md rk ct hR k j]{fullShare} xsAt L obs md rk ct xs0 k.val (j.val + 1))) :=
  Entails.of_eq (pointsTo_congr (scat_in d L obs md rk ct xs0 hR k j fd))

theorem xs_split (hR : Routed md rk ct) (k : Fin k1_t2_loop.trips) (j : Fin k1_t3_loop.trips) (f : S12288x4096.Idx → Elt F .f32) :
    ((Memref.whole main_v12_scv : Memref sig .scVector .hbm S12288x4096 .f32).view.loc (thr d L) ↦[own md rk ct (wid L)]{fullShare} f : sProp 𝕄)
      ⊣⊢ iprop(((Memref.whole main_v12_scv : Memref sig .scVector .hbm S12288x4096 .f32).view.loc (thr d L) ↦[nrs (F := F) d L md rk ct hR k j]{fullShare} f)
        ∗ ((Memref.whole main_v12_scv : Memref sig .scVector .hbm S12288x4096 .f32).view.loc (thr d L) ↦[own md rk ct (wid L) \ nrs (F := F) d L md rk ct hR k j]{fullShare} f)) :=
  pointsTo_split_subset (nrs_sub (F := F) d L md rk ct hR k j)

theorem scat_out_pts (hR : Routed md rk ct) (k : Fin k1_t2_loop.trips) (j : Fin k1_t3_loop.trips) :
    (((Memref.whole main_v12_scv : Memref sig .scVector .hbm S12288x4096 .f32).view.loc (thr d L) ↦[own md rk ct (wid L) \ nrs (F := F) d L md rk ct hR k j]{fullShare} xsAt L obs md rk ct xs0 k.val j.val : sProp 𝕄)
      ⊢ ((Memref.whole main_v12_scv : Memref sig .scVector .hbm S12288x4096 .f32).view.loc (thr d L) ↦[own md rk ct (wid L) \ nrs (F := F) d L md rk ct hR k j]{fullShare} xsAt L obs md rk ct xs0 k.val (j.val + 1))) :=
  Entails.of_eq (pointsTo_congr fun x hx => (step_out d L obs md rk ct xs0 hR k j x (Finset.mem_sdiff.mp hx).2).symm)

set_option maxHeartbeats 4000000 in
/-- One scatter: sixteen rows, 128 columns. -/
theorem trip3 (hR : Routed md rk ct) (O : CellTallies nD τ sig (HIx 2)) (W : Waits sig (HIx 2))
    (k : Fin k1_t2_loop.trips) (j : Fin k1_t3_loop.trips) :
    inv3 d L obs md rk ct xs0 O W k.val j.val ⟨⟩
      ⊢ wp frame (wpE (defs₀ (F := F)) 𝒱₀ (thr d L) none) Set.univ
          (k1_t3_body L (Memref.whole main_arg0_scv : Memref sig .scVector .hbm S8192x4096 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v12_scv : Memref sig .scVector .hbm S12288x4096 .f32) (Memref.isWhole_whole _)
            (Memref.whole cc1_scratch0 : Memref sig .scVector .vmem S256 .i32) (Memref.isWhole_whole _) (Memref.whole cc1_scratch1 : Memref sig .scVector .vmem S256 .i32) (Memref.isWhole_whole _) (Memref.whole cc1_scratch2 : Memref sig .scVector .vmem S256 .i32) (Memref.isWhole_whole _)
            (Memref.whole cc1_scratch3 : Memref sig .scVector .vmem S16 .i32) (Memref.isWhole_whole _) (Memref.whole cc1_scratch4 : Memref sig .scVector .vmem S16 .i32) (Memref.isWhole_whole _) (Memref.whole cc1_scratch5 : Memref sig .scVector .vmem S16x4096 .f32) (Memref.isWhole_whole _)
            cc1_scratch6 cc1_scoped0 cc1_scoped1 cc1_scoped2 cc1_scoped3 k j ⟨⟩)
          fun r => inv3 d L obs md rk ct xs0 O W k.val (j.val + 1) r := by
  unfold inv3 k1_t3_body
  iintro ⟨#Hmw, H12, H9, Hxs, Hs6, %W', %hW', HO⟩
  ihave Hs := (pointsTo_split_subset (ℓ := ((Memref.whole cc1_scratch5 : Memref sig .scVector .vmem S16x4096 .f32)).view.loc (thr d L)) (q := fullShare) (f := ch L obs k.val) (S := Finset.univ) (Finset.subset_univ (srcM j).view.set)).1 $$ H12
  icases Hs with ⟨H12, H12r⟩
  ihave Hs := (pointsTo_split_subset (ℓ := ((Memref.whole cc1_scratch2 : Memref sig .scVector .vmem S256 .i32)).view.loc (thr d L)) (q := fullShare) (f := pT L md rk ct) (S := Finset.univ) (Finset.subset_univ (offM k).view.set)).1 $$ H9
  icases Hs with ⟨H9, H9r⟩
  ihave Hs := (xs_split d L md rk ct hR k j (xsAt L obs md rk ct xs0 k.val j.val)).1 $$ Hxs
  icases Hs with ⟨Hxs, Hxr⟩
  iapply (SparseCore.wp_indirectScatterLocal countersEmb 𝒱₀ (thr d L) none (src := srcM j) (dst := dstM j) (offs := offM k) (hg := gathers_S12288x128_S16x128) (default : HIx 2)
      (srcM j).view.dmaCredit (by decide) (hin1 L md rk ct hR k) (hinj1 L md rk ct hR k) (scat_credit d L _ j)) $$ [H12 Hxs H9 Hs6]
  · isplitl [H12]; · iexact H12
    isplitl [Hxs]; · iexact Hxs
    isplitl [H9]; · iexact H9
    iexact Hs6
  iintro Hfl
  sl_exec
  iapply (Transfers.wp_waitLocalO countersEmb 𝒱₀ (thr d L) none (default : HIx 2) (rfl : (srcM j).view.dmaCredit = _)) $$ [Hfl HO]
  · isplitl [Hfl]; · iexact Hfl
    isplitl [HO]; · iexact HO
    iapply (Transfers.MayWaits.elim (SemLoc.dma cc1_scratch6.sem)) $$ Hmw
  iintro ⟨⟨Hxs, H12, H9⟩, Hs6, HO⟩
  ihave H12 := (pointsTo_split_subset (ℓ := ((Memref.whole cc1_scratch5 : Memref sig .scVector .vmem S16x4096 .f32)).view.loc (thr d L)) (q := fullShare) (f := ch L obs k.val) (S := Finset.univ) (Finset.subset_univ (srcM j).view.set)).2 $$ [H12 H12r]; · isplitl [H12] <;> iassumption
  ihave H9 := (pointsTo_split_subset (ℓ := ((Memref.whole cc1_scratch2 : Memref sig .scVector .vmem S256 .i32)).view.loc (thr d L)) (q := fullShare) (f := pT L md rk ct) (S := Finset.univ) (Finset.subset_univ (offM k).view.set)).2 $$ [H9 H9r]; · isplitl [H9] <;> iassumption
  ihave Hxs := (scat_in_pts d L obs md rk ct xs0 hR k j _) $$ Hxs
  ihave Hxr := (scat_out_pts d L obs md rk ct xs0 hR k j) $$ Hxr
  ihave Hxs := (xs_split d L md rk ct hR k j (xsAt L obs md rk ct xs0 k.val (j.val + 1))).2 $$ [Hxs Hxr]; · isplitl [Hxs] <;> iassumption
  rw [wp_ret]; imodintro
  beta_reduce
  rw [Prog.pure_eq_ret, wp_ret]; imodintro
  isplitr; · iexact Hmw
  isplitl [H12]; · iexact H12
  isplitl [H9]; · iexact H9
  isplitl [Hxs]; · iexact Hxs
  isplitl [Hs6]; · iexact Hs6
  iexists (insert (SemLoc.dma cc1_scratch6.sem, (default : HIx 2)) W'); isplitr
  · ipureintro; intro p hp
    rcases Finset.mem_insert.mp hp with hp | hp
    · exact .inr (hp ▸ rfl)
    · exact hW' p hp
  · iexact HO

end Tile

end Cert.Proof
-- ==== Proof.Disp2.lean ====
/-
  The dispatch on one tile: the tile fetches its 256 tokens' modes and ranks and the counts, computes
  each token's row, and scatters the tokens' rows sixteen at a time, 128 columns at a time.
-/
module

public import proofs.«01_k».proof.Proof.Disp3

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

section Tile

variable (d : Dev nD) (L : grid1.Coords)
variable (obs : S8192x4096.Idx → Elt F .f32) (md rk : S8192.Idx → BitVec 32) (ct : S16.Idx → BitVec 32)
  (xs0 : S12288x4096.Idx → Elt F .f32)

/-- The tile's loop over its chunks. -/
def inv2 (q : PosShare TreeShare) (O : CellTallies nD τ sig (HIx 2)) (W : Waits sig (HIx 2)) (k : ℕ) (_ : PUnit) : sProp 𝕄 :=
  iprop(Transfers.MayWaits (thr d L) (none : HIx 2) O
    ∗ ((Memref.whole main_arg0_scv : Memref sig .scVector .hbm S8192x4096 .f32).view.loc (thr d L) ↦{q} obs)
    ∗ (∃ f, (Memref.whole cc1_scratch5 : Memref sig .scVector .vmem S16x4096 .f32).view.loc (thr d L) ↦{fullShare} f)
    ∗ ((Memref.whole cc1_scratch2 : Memref sig .scVector .vmem S256 .i32).view.loc (thr d L) ↦{fullShare} pT L md rk ct)
    ∗ ((Memref.whole main_v12_scv : Memref sig .scVector .hbm S12288x4096 .f32).view.loc (thr d L) ↦[own md rk ct (wid L)]{fullShare} xsAt L obs md rk ct xs0 k 0)
    ∗ semVal (thr d L, SemLoc.dma cc1_scratch6.sem) 0
    ∗ semVal (thr d L, SemLoc.dma cc1_scoped3.sem) 0
    ∗ ∃ W', ⌜∀ p ∈ W', p ∈ W ∨ p.2 = none⌝ ∗ owes (thr d L) O W')

/-- The chunk the tile fetches. -/
theorem chunk_val (k : Fin k1_t2_loop.trips) (f : S16x4096.Idx → Elt F .f32) (w : S16x4096.Idx → Elt F .f32)
    (hw : w = ((Memref.whole main_arg0_scv : Memref sig .scVector .hbm S8192x4096 .f32).slice (Rect.unit (s := S8192x4096) (k1_off4 L k) S16x4096.size (k1_off4_inb L k)) (fun _ => rfl)).view.read (Elt F) obs) :
    View.write (Elt F) ((Memref.whole cc1_scratch5 : Memref sig .scVector .vmem S16x4096 .f32).view) f w Finset.univ = ch L obs k.val := by
  refine (View.write_whole_univ _ _ _).trans ?_
  subst hw
  funext y
  rw [View.read_apply, cast_eq]
  have hk := trips2 k
  have hw := wid_lt L
  have hy : (y 0).val < 16 := (y 0).isLt
  unfold ch obsR
  refine congrArg obs (ext2 ?_ ?_)
  · show k1_off4 L k 0 + 1 * (y 0).val = min (256 * wid L + 16 * k.val + (y 0).val) 8191
    have e : k1_off4 L k 0 = 512 * (L 1).val + 256 * (L 0).val + 16 * k.val := congrFun (k1_off4_eq L k) 0
    have := base_eq L
    omega
  · show k1_off4 L k 1 + 1 * (y 1).val = (y 1).val
    have e : k1_off4 L k 1 = 0 := congrFun (k1_off4_eq L k) 1
    omega

set_option maxHeartbeats 4000000 in
/-- One chunk: sixteen rows fetched, and scattered 128 columns at a time. -/
theorem trip2 (q : PosShare TreeShare) (hR : Routed md rk ct) (O : CellTallies nD τ sig (HIx 2)) (W : Waits sig (HIx 2))
    (k : Fin k1_t2_loop.trips) :
    inv2 d L obs md rk ct xs0 q O W k.val ⟨⟩
      ⊢ wp frame (wpE (defs₀ (F := F)) 𝒱₀ (thr d L) none) Set.univ
          (k1_t2_body L (Memref.whole main_arg0_scv : Memref sig .scVector .hbm S8192x4096 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v12_scv : Memref sig .scVector .hbm S12288x4096 .f32) (Memref.isWhole_whole _)
            (Memref.whole cc1_scratch0 : Memref sig .scVector .vmem S256 .i32) (Memref.isWhole_whole _) (Memref.whole cc1_scratch1 : Memref sig .scVector .vmem S256 .i32) (Memref.isWhole_whole _) (Memref.whole cc1_scratch2 : Memref sig .scVector .vmem S256 .i32) (Memref.isWhole_whole _)
            (Memref.whole cc1_scratch3 : Memref sig .scVector .vmem S16 .i32) (Memref.isWhole_whole _) (Memref.whole cc1_scratch4 : Memref sig .scVector .vmem S16 .i32) (Memref.isWhole_whole _) (Memref.whole cc1_scratch5 : Memref sig .scVector .vmem S16x4096 .f32) (Memref.isWhole_whole _)
            cc1_scratch6 cc1_scoped0 cc1_scoped1 cc1_scoped2 cc1_scoped3 k ⟨⟩)
          fun r => inv2 d L obs md rk ct xs0 q O W (k.val + 1) r := by
  unfold inv2 k1_t2_body
  iintro ⟨#Hmw, Hobs, ⟨%f, H12⟩, H9, Hxs, Hs6, Hr3, %W', %hW', HO⟩
  sl_exec
  ihave H12 := (Entails.of_eq (congrArg (fun g => ((Memref.whole cc1_scratch5 : Memref sig .scVector .vmem S16x4096 .f32).view.loc (thr d L) ↦{fullShare} g : sProp 𝕄)) (chunk_val L obs k f (trip2.sl.dma0 L obs k) rfl))) $$ H12
  sl_for (inv3 d L obs md rk ct xs0 O W k.val) $$ [H12 H9 Hxs Hs6 HO]
  case region =>
    intro j _
    exact trip3 d L obs md rk ct xs0 hR O W k j
  · unfold inv3
    isplitr; · iexact Hmw
    isplitl [H12]; · iexact H12
    isplitl [H9]; · iexact H9
    isplitl [Hxs]; · iexact Hxs
    isplitl [Hs6]; · iexact Hs6
    iexists _; isplitr
    rotate_left
    · iexact HO
    ipureintro; intro p hp
    rcases Finset.mem_insert.mp hp with hp | hp
    · exact .inr (hp ▸ rfl)
    · exact hW' p hp
  iintro %_ HI
  rw [show Scf.trips k1_t3_loop.lb k1_t3_loop.ub k1_t3_loop.st = 32 by decide]
  unfold inv3
  icases HI with ⟨-, H12, H9, Hxs, Hs6, HO⟩
  rw [show xsAt L obs md rk ct xs0 k.val 32 = xsAt L obs md rk ct xs0 (k.val + 1) 0 from funext (step_chunk L obs md rk ct xs0 k.val)]
  sl_exec
  rw [wp_ret]; imodintro
  isplitr; · iexact Hmw
  isplitl [Hobs]; · iexact Hobs
  isplitl [H12]; · iexists _; iexact H12
  isplitl [H9]; · iexact H9
  isplitl [Hxs]; · iexact Hxs
  isplitl [Hs6]; · iexact Hs6
  isplitl [Hr3]; · iexact Hr3
  iexact HO

end Tile

end Cert.Proof
-- ==== Proof.Disp1.lean ====
/-
  The dispatch on one tile: the tile fetches its 256 tokens' modes and ranks and the counts, computes
  each token's row, and scatters the tokens' rows sixteen at a time, 128 columns at a time.
-/
module

public import proofs.«01_k».proof.Proof.DispatchFacts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

section Tile

variable (d : Dev nD) (L : grid1.Coords)
variable (obs : S8192x4096.Idx → Elt F .f32) (md rk : S8192.Idx → BitVec 32) (ct : S16.Idx → BitVec 32)
  (xs0 : S12288x4096.Idx → Elt F .f32)

theorem trips1 (k : Fin k1_t1_loop.trips) : k.val < 16 := lt_of_lt_of_eq k.isLt (by decide)

/-- The modes' load of one trip. -/
theorem ld7 (k : Fin k1_t1_loop.trips) (x : S16.Idx) (f : S8192.Idx → BitVec 32) :
    ((Memref.whole cc1_scratch0 : Memref sig .scVector .vmem S256 .i32).view.readAt (Elt F) (Rect.unit (s := S256) (k1_off2 k) S16.size (k1_off2_inb k)).toLoadRect fun x => f (tw L x)) x
      = f (tw L (ix1 ⟨16 * k.val + (x 0).val, by have := trips1 k; have h : (x 0).val < 16 := (x 0).isLt; omega⟩)) := by
  rw [View.readAt_apply, View.read_apply, cast_eq]
  unfold tw
  refine congrArg (fun n : Fin 8192 => f (ix1 n)) (Fin.ext ?_)
  show 256 * wid L + (k1_off2 k 0 + 1 * (x 0).val) = 256 * wid L + (16 * k.val + (x 0).val)
  rw [k1_off2_eq]
  show 256 * wid L + (16 * k.val + 1 * (x 0).val) = _
  omega

theorem ld8 (k : Fin k1_t1_loop.trips) (x : S16.Idx) (f : S8192.Idx → BitVec 32) :
    ((Memref.whole cc1_scratch1 : Memref sig .scVector .vmem S256 .i32).view.readAt (Elt F) (Rect.unit (s := S256) (k1_off3 k) S16.size (k1_off3_inb k)).toLoadRect fun x => f (tw L x)) x
      = f (tw L (ix1 ⟨16 * k.val + (x 0).val, by have := trips1 k; have h : (x 0).val < 16 := (x 0).isLt; omega⟩)) := by
  rw [View.readAt_apply, View.read_apply, cast_eq]
  unfold tw
  refine congrArg (fun n : Fin 8192 => f (ix1 n)) (Fin.ext ?_)
  show 256 * wid L + (k1_off3 k 0 + 1 * (x 0).val) = 256 * wid L + (16 * k.val + (x 0).val)
  rw [k1_off3_eq]
  show 256 * wid L + (16 * k.val + 1 * (x 0).val) = _
  omega

theorem ld_chk (hR : Routed md rk ct) (k : Fin k1_t1_loop.trips) :
    k1_chk1 ((Memref.whole cc1_scratch0 : Memref sig .scVector .vmem S256 .i32).view.readAt (Elt F) (Rect.unit (s := S256) (k1_off2 k) S16.size (k1_off2_inb k)).toLoadRect fun x => md (tw L x)) := by
  intro a x
  obtain rfl : a = 0 := Subsingleton.elim _ _
  exact lt_of_eq_of_lt (congrArg BitVec.toNat (ld7 (F := F) L k x md)) (hR.mode_lt _)

/-- A vector of the computed positions. -/
theorem pos_vec (hR : Routed md rk ct) (k : Fin k1_t1_loop.trips) (x : S16.Idx) (v : IVec S16 32)
    (hv : ∀ x, v x = md (tw L (ix1 ⟨16 * k.val + (x 0).val, by have := trips1 k; have h : (x 0).val < 16 := (x 0).isLt; omega⟩)))
    (w : IVec S16 32) (hw : ∀ x, w x = rk (tw L (ix1 ⟨16 * k.val + (x 0).val, by have := trips1 k; have h : (x 0).val < 16 := (x 0).isLt; omega⟩)))
    (h : k1_chk1 v) :
    k1_pay2 (F := F) (loadIdx ((Memref.whole cc1_scratch3 : Memref sig .scVector .vmem S16 .i32).access (.whole S16) |>.read (Elt F) (gsW ct)) ![v] (k1_idx1_inb v h)) w x
      = posW md rk ct (tw L (ix1 ⟨16 * k.val + (x 0).val, by have := trips1 k; have h : (x 0).val < 16 := (x 0).isLt; omega⟩)) := by
  have e : loadIdx ((Memref.whole cc1_scratch3 : Memref sig .scVector .vmem S16 .i32).access (.whole S16) |>.read (Elt F) (gsW ct)) ![v] (k1_idx1_inb v h) x = gsW ct (ix1 ⟨(v x).toNat, h 0 x⟩) := by
    show ((Memref.whole cc1_scratch3 : Memref sig .scVector .vmem S16 .i32).access (.whole S16) |>.read (Elt F) (gsW ct)) _ = _
    rw [View.read_apply, cast_eq]
    refine congrArg (gsW ct) (ext1 ?_)
    show 0 + 1 * (v x).toNat = (v x).toNat
    omega
  show w x + loadIdx ((Memref.whole cc1_scratch3 : Memref sig .scVector .vmem S16 .i32).access (.whole S16) |>.read (Elt F) (gsW ct)) ![v] (k1_idx1_inb v h) x = _
  rw [e, hw x]
  unfold posW
  have hm := hR.mode_lt (tw L (ix1 ⟨16 * k.val + (x 0).val, by have := trips1 k; have h : (x 0).val < 16 := (x 0).isLt; omega⟩))
  rw [dif_pos hm]
  exact congrArg (fun n : Fin 16 => _ + gsW ct (ix1 n)) (Fin.ext (congrArg BitVec.toNat (hv x)))

/-- The positions after one more store. -/
theorem pos_step (k : Fin k1_t1_loop.trips) (f : S256.Idx → BitVec 32) (p : S256.Idx → BitVec 32)
    (hf : ∀ x, (x 0).val < 16 * k.val → f x = p x) (v : IVec S16 32)
    (hv : ∀ x : S16.Idx, v x = p (ix1 ⟨16 * k.val + (x 0).val, by have := trips1 k; have h : (x 0).val < 16 := (x 0).isLt; omega⟩)) (x : S256.Idx)
    (hx : (x 0).val < 16 * (k.val + 1)) :
    View.write (Elt F) ((Memref.whole cc1_scratch2 : Memref sig .scVector .vmem S256 .i32).access (Rect.unit (s := S256) (k1_off3 k) S16.size (k1_off3_inb k))) f v Finset.univ x = p x := by
  by_cases hlt : (x 0).val < 16 * k.val
  · rw [View.write_of_not_mem]
    · exact hf x hlt
    · intro hm
      obtain ⟨y, -, e⟩ := Finset.mem_map.mp hm
      have := congrArg (fun z : S256.Idx => (z 0).val) e
      have h2 : k1_off3 k 0 + 1 * (show S16.Idx from y) 0 = (x 0).val := this
      generalize (show S16.Idx from y) 0 = z at h2
      rw [k1_off3_eq] at h2
      have h3 : 16 * k.val + 1 * z.val = (x 0).val := h2
      omega
  · have hy : (x 0).val - 16 * k.val < 16 := by omega
    have ex : x = ((Memref.whole cc1_scratch2 : Memref sig .scVector .vmem S256 .i32).access (Rect.unit (s := S256) (k1_off3 k) S16.size (k1_off3_inb k))).emb (ix1 ⟨(x 0).val - 16 * k.val, hy⟩) := by
      refine ext1 ?_
      show (x 0).val = k1_off3 k 0 + 1 * ((x 0).val - 16 * k.val)
      rw [k1_off3_eq]
      show (x 0).val = 16 * k.val + 1 * ((x 0).val - 16 * k.val)
      omega
    refine (congrArg (View.write (Elt F) ((Memref.whole cc1_scratch2 : Memref sig .scVector .vmem S256 .i32).access (Rect.unit (s := S256) (k1_off3 k) S16.size (k1_off3_inb k))) f v Finset.univ) ex).trans ?_
    refine (View.write_emb_of_mem _ _ (Finset.mem_univ _)).trans ?_
    rw [cast_eq, hv]
    refine congrArg p (ext1 ?_)
    show 16 * k.val + ((x 0).val - 16 * k.val) = (x 0).val
    omega

set_option maxHeartbeats 4000000 in
/-- One trip of the positions' loop. -/
theorem trip1 (hR : Routed md rk ct) (O : CellTallies nD τ sig (HIx 2)) (W : Waits sig (HIx 2))
    (k : Fin k1_t1_loop.trips) :
    inv1 d L md rk ct O W k.val ⟨⟩
      ⊢ wp frame (wpE (defs₀ (F := F)) 𝒱₀ (thr d L) none) Set.univ
          (k1_t1_body L (Memref.whole main_arg0_scv : Memref sig .scVector .hbm S8192x4096 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v12_scv : Memref sig .scVector .hbm S12288x4096 .f32) (Memref.isWhole_whole _)
            (Memref.whole cc1_scratch0 : Memref sig .scVector .vmem S256 .i32) (Memref.isWhole_whole _) (Memref.whole cc1_scratch1 : Memref sig .scVector .vmem S256 .i32) (Memref.isWhole_whole _) (Memref.whole cc1_scratch2 : Memref sig .scVector .vmem S256 .i32) (Memref.isWhole_whole _)
            (Memref.whole cc1_scratch3 : Memref sig .scVector .vmem S16 .i32) (Memref.isWhole_whole _) (Memref.whole cc1_scratch4 : Memref sig .scVector .vmem S16 .i32) (Memref.isWhole_whole _) (Memref.whole cc1_scratch5 : Memref sig .scVector .vmem S16x4096 .f32) (Memref.isWhole_whole _)
            cc1_scratch6 cc1_scoped0 cc1_scoped1 cc1_scoped2 cc1_scoped3 k ⟨⟩)
          fun r => inv1 d L md rk ct O W (k.val + 1) r := by
  unfold inv1 k1_t1_body
  iintro ⟨#Hmw, H7, H8, H10, ⟨%f, %hf, H9⟩, HO⟩
  simp only [Prog.lift, Prog.bind_op, Prog.bind_ret, Prog.bind_assoc, Prog.pure_eq_ret]
  iapply (wp_load 𝒱₀ (thr d L) none Set.univ (m := (Memref.whole cc1_scratch0 : Memref sig .scVector .vmem S256 .i32)) (S := Finset.univ) (Finset.subset_univ _)) $$ H7; iintro H7
  rw [wp_assume_of _ _ _ _ (ld_chk L md rk ct hR k)]
  iapply (SparseCore.wp_vectorLoadIdx 𝒱₀ (thr d L) none Set.univ (base := (Memref.whole cc1_scratch3 : Memref sig .scVector .vmem S16 .i32)) (S := Finset.univ) (q := fullShare) (Finset.subset_univ _)) $$ H10; iintro H10
  iapply (wp_load 𝒱₀ (thr d L) none Set.univ (m := (Memref.whole cc1_scratch1 : Memref sig .scVector .vmem S256 .i32)) (S := Finset.univ) (Finset.subset_univ _)) $$ H8; iintro H8
  iapply (wp_load 𝒱₀ (thr d L) none Set.univ (m := (Memref.whole cc1_scratch2 : Memref sig .scVector .vmem S256 .i32)) (S := Finset.univ) (Finset.subset_univ _)) $$ H9; iintro H9
  ihave H9 := (show ((Memref.whole cc1_scratch2 : Memref sig .scVector .vmem S256 .i32).view.loc (thr d L) ↦{fullShare} f : sProp 𝕄) ⊢ (((Memref.whole cc1_scratch2 : Memref sig .scVector .vmem S256 .i32).access (Rect.unit (s := S256) (k1_off3 k) S16.size (k1_off3_inb k))).loc (thr d L) ↦{fullShare} f) from .rfl) $$ H9
  iapply (wp_store 𝒱₀ (thr d L) none Set.univ (m := (Memref.whole cc1_scratch2 : Memref sig .scVector .vmem S256 .i32)) (Mk := Finset.univ) (S := Finset.univ) (Finset.subset_univ _)) $$ H9; iintro H9
  rw [wp_ret]; imodintro
  isplitr; · iexact Hmw
  isplitl [H7]; · iexact H7
  isplitl [H8]; · iexact H8
  isplitl [H10]; · iexact H10
  isplitl [H9]
  · iexists _; isplitr
    · ipureintro; exact pos_step (F := F) k f _ hf _ (fun x => pos_vec (F := F) L md rk ct hR k x _ (fun x => ld7 (F := F) L k x md) _ (fun x => ld8 (F := F) L k x rk) (ld_chk L md rk ct hR k))
    · iexact H9
  · iexact HO

end Tile

end Cert.Proof
-- ==== Proof.Dispatch.lean ====
/-
  The dispatch on one tile: the tile fetches its 256 tokens' modes and ranks and the counts, computes
  each token's row, and scatters the tokens' rows sixteen at a time, 128 columns at a time.
-/
module

public import proofs.«01_k».proof.Proof.Disp2
public import proofs.«01_k».proof.Proof.Disp1
public import Idealize.ShloMosaic.Lib.LaneScatter.Tiles

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

section Tile

variable (d : Dev nD) (L : grid1.Coords)
variable (obs : S8192x4096.Idx → Elt F .f32) (md rk : S8192.Idx → BitVec 32) (ct : S16.Idx → BitVec 32)
  (xs0 : S12288x4096.Idx → Elt F .f32)

/-- The tile's own modes. -/
theorem mine7 (f : S256.Idx → BitVec 32) (w : S256.Idx → BitVec 32)
    (hw : w = ((Memref.whole main_v9_scv : Memref sig .scVector .hbm S8192 .i32).slice (Rect.unit (s := S8192) (k1_off1 L) S256.size (k1_off1_inb L)) (fun _ => rfl)).view.read (Elt F) md) :
    View.write (Elt F) ((Memref.whole cc1_scratch0 : Memref sig .scVector .vmem S256 .i32).view) f w Finset.univ = fun x => md (tw L x) := by
  refine (View.write_whole_univ _ _ _).trans ?_
  subst hw
  funext y
  rw [View.read_apply, cast_eq]
  unfold tw
  refine congrArg md (ext1 ?_)
  show k1_off1 L 0 + 1 * (y 0).val = 256 * wid L + (y 0).val
  have e : k1_off1 L 0 = 512 * (L 1).val + 256 * (L 0).val := congrFun (k1_off1_eq L) 0
  have := base_eq L
  omega

/-- … and ranks. -/
theorem mine8 (f : S256.Idx → BitVec 32) (w : S256.Idx → BitVec 32)
    (hw : w = ((Memref.whole main_v10_scv : Memref sig .scVector .hbm S8192 .i32).slice (Rect.unit (s := S8192) (k1_off1 L) S256.size (k1_off1_inb L)) (fun _ => rfl)).view.read (Elt F) rk) :
    View.write (Elt F) ((Memref.whole cc1_scratch1 : Memref sig .scVector .vmem S256 .i32).view) f w Finset.univ = fun x => rk (tw L x) := by
  refine (View.write_whole_univ _ _ _).trans ?_
  subst hw
  funext y
  rw [View.read_apply, cast_eq]
  unfold tw
  refine congrArg rk (ext1 ?_)
  show k1_off1 L 0 + 1 * (y 0).val = 256 * wid L + (y 0).val
  have e : k1_off1 L 0 = 512 * (L 1).val + 256 * (L 0).val := congrFun (k1_off1_eq L) 0
  have := base_eq L
  omega

/-- The segments' starts, as the tile computes them. -/
theorem segs_val (f : S16.Idx → BitVec 32) (l) (hl : l = [⟨Rect.unit (s := S16) ![0] S16.size inb_S16_S16_0,
      k1_pay1 (F := F) (View.readAt (Elt F) (Memref.whole cc1_scratch4 : Memref sig .scVector .vmem S16 .i32).view (Rect.unit (s := S16) ![0] S16.size inb_S16_S16_0).toLoadRect (View.write (Elt F) (Memref.whole cc1_scratch4 : Memref sig .scVector .vmem S16 .i32).view f ((Memref.whole main_v11_scv : Memref sig .scVector .hbm S16 .i32).view.read (Elt F) ct) Finset.univ))⟩]) :
    (Memref.whole cc1_scratch3 : Memref sig .scVector .vmem S16 .i32).view.writes (Elt F) ((Memref.whole cc1_scratch3 : Memref sig .scVector .vmem S16 .i32).view.junk) l = gsW ct := by
  subst hl
  have e : (View.readAt (Elt F) (Memref.whole cc1_scratch4 : Memref sig .scVector .vmem S16 .i32).view (Rect.unit (s := S16) ![0] S16.size inb_S16_S16_0).toLoadRect
      (View.write (Elt F) (Memref.whole cc1_scratch4 : Memref sig .scVector .vmem S16 .i32).view f ((Memref.whole main_v11_scv : Memref sig .scVector .hbm S16 .i32).view.read (Elt F) ct) Finset.univ)) = ct := by
    rw [View.write_whole_univ]
    funext x
    rw [View.readAt_apply, View.read_apply, cast_eq]
    rw [View.read_apply, cast_eq]
    refine congrArg ct (ext1 ?_)
    show 0 + 1 * (x 0).val = (x 0).val
    omega
  rw [e]
  refine (View.read_whole (Val := Elt F) cc1_scratch3 _).symm.trans ?_
  exact LaneScatter.read_whole_store (Val := Elt F) ((Memref.whole cc1_scratch3 : Memref sig .scVector .vmem S16 .i32).view) _ (show ∀ a : Fin 1, (![0] : Fin 1 → ℕ) a = 0 by decide) _ _

set_option maxHeartbeats 4000000 in
/-- One tile's dispatch. -/
theorem tile1 (hF : (K (F := F)).Facts) (q : PosShare TreeShare) (hR : Routed md rk ct)
    (O : CellTallies nD τ sig (HIx 2)) (W : Waits sig (HIx 2)) (hO : ∀ g, O g none = 0) :
    iprop(levAts (K (F := F)).L (K (F := F)).lev ∗ emp
        ∗ tileIn d obs md rk ct q (own md rk ct (wid L)) xs0
        ∗ scopedBufs (thr d L) ∗ scopedSems0 (thr d L) ∗ owes (thr d L) O W)
      ⊢ wp frame (wpE (defs₀ (F := F)) 𝒱₀ (thr d L) none) Set.univ
          (cc1_k L (Memref.whole main_arg0_scv : Memref sig .scVector .hbm S8192x4096 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v12_scv : Memref sig .scVector .hbm S12288x4096 .f32) (Memref.isWhole_whole _)
            (Memref.whole cc1_scratch0 : Memref sig .scVector .vmem S256 .i32) (Memref.isWhole_whole _) (Memref.whole cc1_scratch1 : Memref sig .scVector .vmem S256 .i32) (Memref.isWhole_whole _) (Memref.whole cc1_scratch2 : Memref sig .scVector .vmem S256 .i32) (Memref.isWhole_whole _)
            (Memref.whole cc1_scratch3 : Memref sig .scVector .vmem S16 .i32) (Memref.isWhole_whole _) (Memref.whole cc1_scratch4 : Memref sig .scVector .vmem S16 .i32) (Memref.isWhole_whole _) (Memref.whole cc1_scratch5 : Memref sig .scVector .vmem S16x4096 .f32) (Memref.isWhole_whole _)
            cc1_scratch6 cc1_scoped0 cc1_scoped1 cc1_scoped2 cc1_scoped3)
          fun _ => iprop(tileIn d obs md rk ct q (own md rk ct (wid L)) (xsV obs md rk ct xs0)
            ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  rw [(K (F := F)).scopedBufs_V hF d (cV L) (jV L), SparseCore.Cfg.scopedSems0_V (Val := Elt F) d (cV L) (jV L), ownSems_one, ownBufs_one]
  iintro ⟨#Hlv, -, ⟨Hobs, Hmd, Hrk, Hct, Hxs⟩, ⟨⟨%f7, H7⟩, ⟨%f8, H8⟩, ⟨%f9, H9⟩, ⟨%f10, H10⟩, ⟨%f11, H11⟩, ⟨%f12, H12⟩, Hbufs⟩, ⟨Hs6, Hr0, Hr1, Hr2, Hr3, Hsems⟩, HO⟩
  ihave Hmw := (show levAts (K (F := F)).L (K (F := F)).lev ⊢ Transfers.MayWaits (thr d L) (default : HIx 2) O from
    (K (F := F)).mayWaits_none (thr := thr d L) hO) $$ Hlv
  ihave Hmd := (Entails.of_eq (show (loc d main_v9 ↦{q} md : sProp 𝕄) = ((Memref.whole main_v9_scv : Memref sig .scVector .hbm S8192 .i32).view.loc (thr d L) ↦{q} md) from rfl)) $$ Hmd
  ihave Hrk := (Entails.of_eq (show (loc d main_v10 ↦{q} rk : sProp 𝕄) = ((Memref.whole main_v10_scv : Memref sig .scVector .hbm S8192 .i32).view.loc (thr d L) ↦{q} rk) from rfl)) $$ Hrk
  ihave Hct := (Entails.of_eq (show (loc d main_v11 ↦{q} ct : sProp 𝕄) = ((Memref.whole main_v11_scv : Memref sig .scVector .hbm S16 .i32).view.loc (thr d L) ↦{q} ct) from rfl)) $$ Hct
  ihave H7 := (Entails.of_eq (show ((thr d L).loc cc1_scratch0 ↦{fullShare} f7 : sProp 𝕄) = ((Memref.whole cc1_scratch0 : Memref sig .scVector .vmem S256 .i32).view.loc (thr d L) ↦{fullShare} f7) from rfl)) $$ H7
  ihave H8 := (Entails.of_eq (show ((thr d L).loc cc1_scratch1 ↦{fullShare} f8 : sProp 𝕄) = ((Memref.whole cc1_scratch1 : Memref sig .scVector .vmem S256 .i32).view.loc (thr d L) ↦{fullShare} f8) from rfl)) $$ H8
  ihave H9 := (Entails.of_eq (show ((thr d L).loc cc1_scratch2 ↦{fullShare} f9 : sProp 𝕄) = ((Memref.whole cc1_scratch2 : Memref sig .scVector .vmem S256 .i32).view.loc (thr d L) ↦{fullShare} f9) from rfl)) $$ H9
  ihave H10 := (Entails.of_eq (show ((thr d L).loc cc1_scratch3 ↦{fullShare} f10 : sProp 𝕄) = ((Memref.whole cc1_scratch3 : Memref sig .scVector .vmem S16 .i32).view.loc (thr d L) ↦{fullShare} f10) from rfl)) $$ H10
  ihave H11 := (Entails.of_eq (show ((thr d L).loc cc1_scratch4 ↦{fullShare} f11 : sProp 𝕄) = ((Memref.whole cc1_scratch4 : Memref sig .scVector .vmem S16 .i32).view.loc (thr d L) ↦{fullShare} f11) from rfl)) $$ H11
  ihave H12 := (Entails.of_eq (show ((thr d L).loc cc1_scratch5 ↦{fullShare} f12 : sProp 𝕄) = ((Memref.whole cc1_scratch5 : Memref sig .scVector .vmem S16x4096 .f32).view.loc (thr d L) ↦{fullShare} f12) from rfl)) $$ H12
  sl_exec
  ihave H7 := (Entails.of_eq (congrArg (fun g => ((Memref.whole cc1_scratch0 : Memref sig .scVector .vmem S256 .i32).view.loc (thr d L) ↦{fullShare} g : sProp 𝕄)) (mine7 (F := F) L md f7 (tile1.sl.dma0 L md) rfl))) $$ H7
  ihave H8 := (Entails.of_eq (congrArg (fun g => ((Memref.whole cc1_scratch1 : Memref sig .scVector .vmem S256 .i32).view.loc (thr d L) ↦{fullShare} g : sProp 𝕄)) (mine8 (F := F) L rk f8 (tile1.sl.dma0_1 L rk) rfl))) $$ H8
  ihave H10 := (Entails.of_eq (congrArg (fun g => ((Memref.whole cc1_scratch3 : Memref sig .scVector .vmem S16 .i32).view.loc (thr d L) ↦{fullShare} g : sProp 𝕄)) (show (Memref.whole cc1_scratch3 : Memref sig .scVector .vmem S16 .i32).view.writes (Elt F) ((Memref.whole cc1_scratch3 : Memref sig .scVector .vmem S16 .i32).view.junk) (tile1.sl.H10_1 d L ct f11) = gsW ct from segs_val (F := F) ct f11 _ rfl))) $$ H10
  sl_for (inv1 d L md rk ct O (insert (SemLoc.dma cc1_scoped2.sem, (default : HIx 2)) (insert (SemLoc.dma cc1_scoped1.sem, (default : HIx 2)) (insert (SemLoc.dma cc1_scoped0.sem, (default : HIx 2)) W)))) $$ [H7 H8 H9 H10 HO]
  case region =>
    intro k _
    exact trip1 d L md rk ct hR O (insert (SemLoc.dma cc1_scoped2.sem, (default : HIx 2)) (insert (SemLoc.dma cc1_scoped1.sem, (default : HIx 2)) (insert (SemLoc.dma cc1_scoped0.sem, (default : HIx 2)) W))) k
  · unfold inv1
    isplitr; · iexact Hmw
    isplitl [H7]; · iexact H7
    isplitl [H8]; · iexact H8
    isplitl [H10]; · iexact H10
    isplitl [H9]
    · iexists f9; isplitr
      · ipureintro; intro x hx; exact absurd hx (by omega)
      · iexact H9
    · iexact HO
  iintro %_ HI
  rw [show Scf.trips k1_t1_loop.lb k1_t1_loop.ub k1_t1_loop.st = 16 by decide]
  unfold inv1
  icases HI with ⟨-, H7, H8, H10, ⟨%f, %hf, H9⟩, HO⟩
  obtain rfl : f = pT L md rk ct := funext fun x => hf x (x 0).isLt
  sl_for (inv2 d L obs md rk ct xs0 q O W) $$ [Hobs H12 H9 Hxs Hs6 Hr3 HO]
  case region =>
    intro k _
    exact trip2 d L obs md rk ct xs0 q hR O W k
  · unfold inv2
    isplitr; · iexact Hmw
    isplitl [Hobs]; · iexact Hobs
    isplitl [H12]; · iexists _; iexact H12
    isplitl [H9]; · iexact H9
    isplitl [Hxs]
    · rw [show xsAt L obs md rk ct xs0 0 0 = xs0 from funext (xsAt_start L obs md rk ct xs0)]; iexact Hxs
    isplitl [Hs6]; · iexact Hs6
    isplitl [Hr3]; · iexact Hr3
    iexists _; isplitr
    rotate_left
    · iexact HO
    ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iintro %_ HI
  rw [show Scf.trips k1_t2_loop.lb k1_t2_loop.ub k1_t2_loop.st = 16 by decide]
  unfold inv2
  icases HI with ⟨-, Hobs, ⟨%f12', H12⟩, H9, Hxs, Hs6, Hr3, HO⟩
  ihave Hxs := (Entails.of_eq (pointsTo_congr (xsAt_end L obs md rk ct xs0))) $$ Hxs
  sl_exec
  rw [wp_ret]; imodintro
  isplitl [Hobs Hmd Hrk Hct Hxs]
  · isplitl [Hobs]; · iexact Hobs
    isplitl [Hmd]; · iexact Hmd
    isplitl [Hrk]; · iexact Hrk
    isplitl [Hct]; · iexact Hct
    iexact Hxs
  isplitl [H7 H8 H9 H10 H11 H12 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact Hbufs
  isplitl [Hs6 Hr0 Hr1 Hr2 Hr3 Hsems]
  · isplitl [Hs6]; · iexact Hs6
    isplitl [Hr0]; · iexact Hr0
    isplitl [Hr1]; · iexact Hr1
    isplitl [Hr2]; · iexact Hr2
    isplitl [Hr3]; · iexact Hr3
    iexact Hsems
  iexact HO

end Tile

end Cert.Proof
-- ==== Proof.Comb1.lean ====
/-
  The gather on one tile: the loop that computes the tile's rows of the sorted results.
-/
module

public import proofs.«01_k».proof.Proof.DispatchFacts

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

namespace Combine

section Tile

variable (d : Dev nD) (L : grid1.Coords)
variable (ys : S12288x2x128.Idx → Elt F .f32) (md rk : S8192.Idx → BitVec 32) (ct : S16.Idx → BitVec 32)
  (o0 : S8192x2x128.Idx → Elt F .f32)

/-- The gathered array: each token's row of the sorted results. -/
def outV (ys : S12288x2x128.Idx → Elt F .f32) (md rk : S8192.Idx → BitVec 32) (ct : S16.Idx → BitVec 32) (x : S8192x2x128.Idx) : Elt F .f32 :=
  ys (ix3 ⟨min (posW md rk ct (ix1 (x 0))).toNat 12287, by omega⟩ (x 1) (x 2))

/-- The rows of the result tile `w` writes. -/
def outR (w : ℕ) : Finset S8192x2x128.Idx := Finset.univ.filter fun x => (x 0).val / 256 = w

theorem mem_outR (w : ℕ) (x : S8192x2x128.Idx) : x ∈ outR w ↔ (x 0).val / 256 = w := by
  simp only [outR, Finset.mem_filter, Finset.mem_univ, true_and]

/-- What a tile holds of the arrays: a share of the four it reads, and its elements `I` of the result. -/
abbrev tileOut (d : Dev nD) (ys : S12288x2x128.Idx → Elt F .f32) (md rk : S8192.Idx → BitVec 32) (ct : S16.Idx → BitVec 32)
    (q : PosShare TreeShare) (I : Finset S8192x2x128.Idx) (o : S8192x2x128.Idx → Elt F .f32) : sProp 𝕄 :=
  iprop((loc d main_v19 ↦{q} ys) ∗ (loc d main_v9 ↦{q} md) ∗ (loc d main_v10 ↦{q} rk) ∗ (loc d main_v11 ↦{q} ct)
    ∗ (loc d main_v20 ↦[I]{fullShare} o))

/-- The tile's loop of positions at trip `k`: the first `16 k` positions are in place. -/
def inv1 (O : CellTallies nD τ sig (HIx 2)) (W : Waits sig (HIx 2)) (k : ℕ) (_ : PUnit) : sProp 𝕄 :=
  iprop(Transfers.MayWaits (thr d L) (none : HIx 2) O
    ∗ ((Memref.whole cc3_scratch0 : Memref sig .scVector .vmem S256 .i32).view.loc (thr d L) ↦{fullShare} fun x => md (tw L x))
    ∗ ((Memref.whole cc3_scratch1 : Memref sig .scVector .vmem S256 .i32).view.loc (thr d L) ↦{fullShare} fun x => rk (tw L x))
    ∗ ((Memref.whole cc3_scratch3 : Memref sig .scVector .vmem S16 .i32).view.loc (thr d L) ↦{fullShare} gsW ct)
    ∗ (∃ f : S256.Idx → BitVec 32, ⌜∀ x, (x 0).val < 16 * k → f x = posW md rk ct (tw L x)⌝ ∗ ((Memref.whole cc3_scratch2 : Memref sig .scVector .vmem S256 .i32).view.loc (thr d L) ↦{fullShare} f))
    ∗ owes (thr d L) O W)

theorem trips1 (k : Fin k3_t1_loop.trips) : k.val < 16 := lt_of_lt_of_eq k.isLt (by decide)

/-- The modes' load of one trip. -/
theorem ld7 (k : Fin k3_t1_loop.trips) (x : S16.Idx) (f : S8192.Idx → BitVec 32) :
    ((Memref.whole cc3_scratch0 : Memref sig .scVector .vmem S256 .i32).view.readAt (Elt F) (Rect.unit (s := S256) (k3_off2 k) S16.size (k3_off2_inb k)).toLoadRect fun x => f (tw L x)) x
      = f (tw L (ix1 ⟨16 * k.val + (x 0).val, by have := trips1 k; have h : (x 0).val < 16 := (x 0).isLt; omega⟩)) := by
  rw [View.readAt_apply, View.read_apply, cast_eq]
  unfold tw
  refine congrArg (fun n : Fin 8192 => f (ix1 n)) (Fin.ext ?_)
  show 256 * wid L + (k3_off2 k 0 + 1 * (x 0).val) = 256 * wid L + (16 * k.val + (x 0).val)
  rw [k3_off2_eq]
  show 256 * wid L + (16 * k.val + 1 * (x 0).val) = _
  omega

theorem ld8 (k : Fin k3_t1_loop.trips) (x : S16.Idx) (f : S8192.Idx → BitVec 32) :
    ((Memref.whole cc3_scratch1 : Memref sig .scVector .vmem S256 .i32).view.readAt (Elt F) (Rect.unit (s := S256) (k3_off3 k) S16.size (k3_off3_inb k)).toLoadRect fun x => f (tw L x)) x
      = f (tw L (ix1 ⟨16 * k.val + (x 0).val, by have := trips1 k; have h : (x 0).val < 16 := (x 0).isLt; omega⟩)) := by
  rw [View.readAt_apply, View.read_apply, cast_eq]
  unfold tw
  refine congrArg (fun n : Fin 8192 => f (ix1 n)) (Fin.ext ?_)
  show 256 * wid L + (k3_off3 k 0 + 1 * (x 0).val) = 256 * wid L + (16 * k.val + (x 0).val)
  rw [k3_off3_eq]
  show 256 * wid L + (16 * k.val + 1 * (x 0).val) = _
  omega

theorem ld_chk (hR : Routed md rk ct) (k : Fin k3_t1_loop.trips) :
    k3_chk1 ((Memref.whole cc3_scratch0 : Memref sig .scVector .vmem S256 .i32).view.readAt (Elt F) (Rect.unit (s := S256) (k3_off2 k) S16.size (k3_off2_inb k)).toLoadRect fun x => md (tw L x)) := by
  intro a x
  obtain rfl : a = 0 := Subsingleton.elim _ _
  exact lt_of_eq_of_lt (congrArg BitVec.toNat (ld7 (F := F) L k x md)) (hR.mode_lt _)

/-- A vector of the computed positions. -/
theorem pos_vec (hR : Routed md rk ct) (k : Fin k3_t1_loop.trips) (x : S16.Idx) (v : IVec S16 32)
    (hv : ∀ x, v x = md (tw L (ix1 ⟨16 * k.val + (x 0).val, by have := trips1 k; have h : (x 0).val < 16 := (x 0).isLt; omega⟩)))
    (w : IVec S16 32) (hw : ∀ x, w x = rk (tw L (ix1 ⟨16 * k.val + (x 0).val, by have := trips1 k; have h : (x 0).val < 16 := (x 0).isLt; omega⟩)))
    (h : k3_chk1 v) :
    k3_pay2 (F := F) (loadIdx ((Memref.whole cc3_scratch3 : Memref sig .scVector .vmem S16 .i32).access (.whole S16) |>.read (Elt F) (gsW ct)) ![v] (k3_idx1_inb v h)) w x
      = posW md rk ct (tw L (ix1 ⟨16 * k.val + (x 0).val, by have := trips1 k; have h : (x 0).val < 16 := (x 0).isLt; omega⟩)) := by
  have e : loadIdx ((Memref.whole cc3_scratch3 : Memref sig .scVector .vmem S16 .i32).access (.whole S16) |>.read (Elt F) (gsW ct)) ![v] (k3_idx1_inb v h) x = gsW ct (ix1 ⟨(v x).toNat, h 0 x⟩) := by
    show ((Memref.whole cc3_scratch3 : Memref sig .scVector .vmem S16 .i32).access (.whole S16) |>.read (Elt F) (gsW ct)) _ = _
    rw [View.read_apply, cast_eq]
    refine congrArg (gsW ct) (ext1 ?_)
    show 0 + 1 * (v x).toNat = (v x).toNat
    omega
  show w x + loadIdx ((Memref.whole cc3_scratch3 : Memref sig .scVector .vmem S16 .i32).access (.whole S16) |>.read (Elt F) (gsW ct)) ![v] (k3_idx1_inb v h) x = _
  rw [e, hw x]
  unfold posW
  have hm := hR.mode_lt (tw L (ix1 ⟨16 * k.val + (x 0).val, by have := trips1 k; have h : (x 0).val < 16 := (x 0).isLt; omega⟩))
  rw [dif_pos hm]
  exact congrArg (fun n : Fin 16 => _ + gsW ct (ix1 n)) (Fin.ext (congrArg BitVec.toNat (hv x)))

/-- The positions after one more store. -/
theorem pos_step (k : Fin k3_t1_loop.trips) (f : S256.Idx → BitVec 32) (p : S256.Idx → BitVec 32)
    (hf : ∀ x, (x 0).val < 16 * k.val → f x = p x) (v : IVec S16 32)
    (hv : ∀ x : S16.Idx, v x = p (ix1 ⟨16 * k.val + (x 0).val, by have := trips1 k; have h : (x 0).val < 16 := (x 0).isLt; omega⟩)) (x : S256.Idx)
    (hx : (x 0).val < 16 * (k.val + 1)) :
    View.write (Elt F) ((Memref.whole cc3_scratch2 : Memref sig .scVector .vmem S256 .i32).access (Rect.unit (s := S256) (k3_off3 k) S16.size (k3_off3_inb k))) f v Finset.univ x = p x := by
  by_cases hlt : (x 0).val < 16 * k.val
  · rw [View.write_of_not_mem]
    · exact hf x hlt
    · intro hm
      obtain ⟨y, -, e⟩ := Finset.mem_map.mp hm
      have := congrArg (fun z : S256.Idx => (z 0).val) e
      have h2 : k3_off3 k 0 + 1 * (show S16.Idx from y) 0 = (x 0).val := this
      generalize (show S16.Idx from y) 0 = z at h2
      rw [k3_off3_eq] at h2
      have h3 : 16 * k.val + 1 * z.val = (x 0).val := h2
      omega
  · have hy : (x 0).val - 16 * k.val < 16 := by omega
    have ex : x = ((Memref.whole cc3_scratch2 : Memref sig .scVector .vmem S256 .i32).access (Rect.unit (s := S256) (k3_off3 k) S16.size (k3_off3_inb k))).emb (ix1 ⟨(x 0).val - 16 * k.val, hy⟩) := by
      refine ext1 ?_
      show (x 0).val = k3_off3 k 0 + 1 * ((x 0).val - 16 * k.val)
      rw [k3_off3_eq]
      show (x 0).val = 16 * k.val + 1 * ((x 0).val - 16 * k.val)
      omega
    refine (congrArg (View.write (Elt F) ((Memref.whole cc3_scratch2 : Memref sig .scVector .vmem S256 .i32).access (Rect.unit (s := S256) (k3_off3 k) S16.size (k3_off3_inb k))) f v Finset.univ) ex).trans ?_
    refine (View.write_emb_of_mem _ _ (Finset.mem_univ _)).trans ?_
    rw [cast_eq, hv]
    refine congrArg p (ext1 ?_)
    show 16 * k.val + ((x 0).val - 16 * k.val) = (x 0).val
    omega

set_option maxHeartbeats 4000000 in
/-- One trip of the positions' loop. -/
theorem trip1 (hR : Routed md rk ct) (O : CellTallies nD τ sig (HIx 2)) (W : Waits sig (HIx 2))
    (k : Fin k3_t1_loop.trips) :
    inv1 d L md rk ct O W k.val ⟨⟩
      ⊢ wp frame (wpE (defs₀ (F := F)) 𝒱₀ (thr d L) none) Set.univ
          (k3_t1_body L (Memref.whole main_v19_scv : Memref sig .scVector .hbm S12288x2x128 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v20_scv : Memref sig .scVector .hbm S8192x2x128 .f32) (Memref.isWhole_whole _)
            (Memref.whole cc3_scratch0 : Memref sig .scVector .vmem S256 .i32) (Memref.isWhole_whole _) (Memref.whole cc3_scratch1 : Memref sig .scVector .vmem S256 .i32) (Memref.isWhole_whole _) (Memref.whole cc3_scratch2 : Memref sig .scVector .vmem S256 .i32) (Memref.isWhole_whole _)
            (Memref.whole cc3_scratch3 : Memref sig .scVector .vmem S16 .i32) (Memref.isWhole_whole _) (Memref.whole cc3_scratch4 : Memref sig .scVector .vmem S16 .i32) (Memref.isWhole_whole _) (Memref.whole cc3_scratch5 : Memref sig .scVector .vmem S128x2x128 .f32) (Memref.isWhole_whole _) (Memref.whole cc3_scratch6 : Memref sig .scVector .vmem S128x2x128 .f32) (Memref.isWhole_whole _)
            cc3_scratch7 cc3_scratch8 cc3_scoped0 cc3_scoped1 cc3_scoped2 cc3_scoped3 cc3_scoped4 k ⟨⟩)
          fun r => inv1 d L md rk ct O W (k.val + 1) r := by
  unfold inv1 k3_t1_body
  iintro ⟨#Hmw, H7, H8, H10, ⟨%f, %hf, H9⟩, HO⟩
  simp only [Prog.lift, Prog.bind_op, Prog.bind_ret, Prog.bind_assoc, Prog.pure_eq_ret]
  iapply (wp_load 𝒱₀ (thr d L) none Set.univ (m := (Memref.whole cc3_scratch0 : Memref sig .scVector .vmem S256 .i32)) (S := Finset.univ) (Finset.subset_univ _)) $$ H7; iintro H7
  rw [wp_assume_of _ _ _ _ (ld_chk L md rk ct hR k)]
  iapply (SparseCore.wp_vectorLoadIdx 𝒱₀ (thr d L) none Set.univ (base := (Memref.whole cc3_scratch3 : Memref sig .scVector .vmem S16 .i32)) (S := Finset.univ) (q := fullShare) (Finset.subset_univ _)) $$ H10; iintro H10
  iapply (wp_load 𝒱₀ (thr d L) none Set.univ (m := (Memref.whole cc3_scratch1 : Memref sig .scVector .vmem S256 .i32)) (S := Finset.univ) (Finset.subset_univ _)) $$ H8; iintro H8
  iapply (wp_load 𝒱₀ (thr d L) none Set.univ (m := (Memref.whole cc3_scratch2 : Memref sig .scVector .vmem S256 .i32)) (S := Finset.univ) (Finset.subset_univ _)) $$ H9; iintro H9
  ihave H9 := (show ((Memref.whole cc3_scratch2 : Memref sig .scVector .vmem S256 .i32).view.loc (thr d L) ↦{fullShare} f : sProp 𝕄) ⊢ (((Memref.whole cc3_scratch2 : Memref sig .scVector .vmem S256 .i32).access (Rect.unit (s := S256) (k3_off3 k) S16.size (k3_off3_inb k))).loc (thr d L) ↦{fullShare} f) from .rfl) $$ H9
  iapply (wp_store 𝒱₀ (thr d L) none Set.univ (m := (Memref.whole cc3_scratch2 : Memref sig .scVector .vmem S256 .i32)) (Mk := Finset.univ) (S := Finset.univ) (Finset.subset_univ _)) $$ H9; iintro H9
  rw [wp_ret]; imodintro
  isplitr; · iexact Hmw
  isplitl [H7]; · iexact H7
  isplitl [H8]; · iexact H8
  isplitl [H10]; · iexact H10
  isplitl [H9]
  · iexists _; isplitr
    · ipureintro; exact pos_step (F := F) k f _ hf _ (fun x => pos_vec (F := F) L md rk ct hR k x _ (fun x => ld7 (F := F) L k x md) _ (fun x => ld8 (F := F) L k x rk) (ld_chk L md rk ct hR k))
    · iexact H9
  · iexact HO

end Tile

end Combine

end Cert.Proof
-- ==== Proof.Combine.lean ====
/-
  The gather on one tile: the tile computes its tokens' rows of the sorted results, fetches them in
  two halves, and copies each half to the tile's rows of the result.
-/
module

public import proofs.«01_k».proof.Proof.Comb1
public import Idealize.ShloMosaic.Lib.LaneScatter.Tiles

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3 eq_ix1 eq_ix2 eq_ix3)

variable {F : FTy → Type} [FloatOps F]

local notation "𝕄" => MT nD τ sig (HIx 2) (Elt F) ℕ UU ℕ

namespace Combine

section Tile

variable (d : Dev nD) (L : grid1.Coords)
variable (ys : S12288x2x128.Idx → Elt F .f32) (md rk : S8192.Idx → BitVec 32) (ct : S16.Idx → BitVec 32)
  (o0 : S8192x2x128.Idx → Elt F .f32)

abbrev srcK : Memref sig .scVector .hbm S12288x2x128 .f32 :=
  (Memref.whole main_v19_scv : Memref sig .scVector .hbm S12288x2x128 .f32).slice (Rect.unit (s := S12288x2x128) ![0, 0, 0] S12288x2x128.size inb_S12288x2x128_S12288x2x128_0_0_0) (fun _ => rfl)
abbrev offR (o : Fin 1 → ℕ) (inb : ∀ a : Fin 1, o a + S128.size a ≤ S256.size a) : Memref sig .scVector .vmem S128 .i32 :=
  (Memref.whole cc3_scratch2 : Memref sig .scVector .vmem S256 .i32).slice (Rect.unit (s := S256) o S128.size inb) (fun _ => rfl)
abbrev outS (o : Fin 3 → ℕ) (inb : ∀ a : Fin 3, o a + S128x2x128.size a ≤ S8192x2x128.size a) : Memref sig .scVector .hbm S128x2x128 .f32 :=
  (Memref.whole main_v20_scv : Memref sig .scVector .hbm S8192x2x128 .f32).slice (Rect.unit (s := S8192x2x128) o S128x2x128.size inb) (fun _ => rfl)

theorem inb0 (o : Fin 1 → ℕ) (inb : ∀ a : Fin 1, o a + S128.size a ≤ S256.size a) : o 0 + 128 ≤ 256 := inb 0

/-- The words of half the tile's list. -/
theorem off_read (o : Fin 1 → ℕ) (inb : ∀ a : Fin 1, o a + S128.size a ≤ S256.size a) (x : S128.Idx) :
    (offR o inb).view.read (Elt F) (pT L md rk ct) x
      = posW md rk ct (ix1 ⟨256 * wid L + (o 0 + (x 0).val), by
          have := wid_lt L; have := inb0 o inb; have h : (x 0).val < 128 := (x 0).isLt; omega⟩) := by
  rw [View.read_apply, cast_eq]
  unfold pT tw
  refine congrArg (fun n : Fin 8192 => posW md rk ct (ix1 n)) (Fin.ext ?_)
  show 256 * wid L + (o 0 + 1 * (x 0).val) = 256 * wid L + (o 0 + (x 0).val)
  omega

theorem hn3 : S128.numel = S128x2x128.size (gathers_S12288x2x128_S128x2x128).axis' := by decide

theorem hin3 (hR : Routed md rk ct) (o : Fin 1 → ℕ) (inb : ∀ a : Fin 1, o a + S128.size a ≤ S256.size a) (x : S128.Idx) :
    ((offR o inb).view.read (Elt F) (pT L md rk ct) x).toNat < S12288x2x128.size (gathers_S12288x2x128_S128x2x128).axis := by
  rw [off_read]; exact hR.pos_lt _

/-- The row of the sorted results entry `i` of the half names. -/
theorem row_val (hR : Routed md rk ct) (o : Fin 1 → ℕ) (inb : ∀ a : Fin 1, o a + S128.size a ≤ S256.size a)
    (i : Fin (S128x2x128.size (gathers_S12288x2x128_S128x2x128).axis')) (h : 256 * wid L + (o 0 + i.val) < 8192) :
    (SparseCore.rows (F := F) ((offR o inb).view.read (Elt F) (pT L md rk ct)) hn3 (hin3 L md rk ct hR o inb) i).val
      = (posW md rk ct (ix1 ⟨256 * wid L + (o 0 + i.val), h⟩)).toNat := by
  unfold SparseCore.rows
  dsimp only
  rw [off_read]
  refine congrArg (fun n : Fin 8192 => (posW md rk ct (ix1 n)).toNat) (Fin.ext ?_)
  show 256 * wid L + (o 0 + _) = 256 * wid L + (o 0 + i.val)
  congr 2
  exact (Shape.rowMajor_val_one _).symm.trans (congrArg Fin.val (S128.rowMajor.apply_symm_apply _))

/-- What a half's gather brings. -/
theorem gather_val (hR : Routed md rk ct) (o : Fin 1 → ℕ) (inb : ∀ a : Fin 1, o a + S128.size a ≤ S256.size a) (y : S128x2x128.Idx) :
    SparseCore.gatherPayload gathers_S12288x2x128_S128x2x128 (srcK.view.read (Elt F) ys)
        (SparseCore.rows (F := F) ((offR o inb).view.read (Elt F) (pT L md rk ct)) hn3 (hin3 L md rk ct hR o inb)) y
      = outV ys md rk ct (ix3 ⟨256 * wid L + (o 0 + (y 0).val), by
          have := wid_lt L; have := inb0 o inb; have h : (y 0).val < 128 := (y 0).isLt; omega⟩ (y 1) (y 2)) := by
  have hlt : 256 * wid L + (o 0 + (y 0).val) < 8192 := by
    have := wid_lt L; have := inb0 o inb; have h : (y 0).val < 128 := (y 0).isLt; omega
  have er := row_val (F := F) L md rk ct hR o inb (y (gathers_S12288x2x128_S128x2x128).axis') hlt
  have hp := hR.pos_lt (ix1 ⟨256 * wid L + (o 0 + (y 0).val), hlt⟩)
  unfold SparseCore.gatherPayload outV
  rw [View.read_apply, cast_eq]
  generalize SparseCore.rows (F := F) ((offR o inb).view.read (Elt F) (pT L md rk ct)) hn3 (hin3 L md rk ct hR o inb) = r at er
  refine congrArg ys (ext3 ?_ ?_ ?_)
  · show 0 + 1 * ((gathers_S12288x2x128_S128x2x128).idx r y (gathers_S12288x2x128_S128x2x128).axis).val = min _ 12287
    rw [Shape.Gathers.idx_axis, er]
    have e2 : (posW md rk ct (ix1 ⟨256 * wid L + (o 0 + (y 0).val), hlt⟩)).toNat < 12288 := hp
    show 0 + 1 * (posW md rk ct (ix1 ⟨256 * wid L + (o 0 + (y 0).val), hlt⟩)).toNat = min (posW md rk ct (ix1 ⟨256 * wid L + (o 0 + (y 0).val), hlt⟩)).toNat 12287
    omega
  · show 0 + 1 * ((gathers_S12288x2x128_S128x2x128).idx r y (1 : Fin 3)).val = (y 1).val
    rw [Shape.Gathers.idx_of_ne (hb := by decide)]
    show 0 + 1 * (y 1).val = _
    omega
  · show 0 + 1 * ((gathers_S12288x2x128_S128x2x128).idx r y (2 : Fin 3)).val = (y 2).val
    rw [Shape.Gathers.idx_of_ne (hb := by decide)]
    show 0 + 1 * (y 2).val = _
    omega

/-- The elements a half's copy writes. -/
theorem mem_outS (b : ℕ) (o : Fin 3 → ℕ) (h0 : o 0 = b) (h1 : o 1 = 0) (h2 : o 2 = 0) (inb : ∀ a : Fin 3, o a + S128x2x128.size a ≤ S8192x2x128.size a) (x : S8192x2x128.Idx) :
    x ∈ (outS o inb).view.set ↔ b ≤ (x 0).val ∧ (x 0).val < b + 128 := by
  constructor
  · intro h
    obtain ⟨y, -, rfl⟩ := Finset.mem_map.mp h
    have hy : (y 0).val < 128 := (y 0).isLt
    show b ≤ o 0 + 1 * (y 0).val ∧ o 0 + 1 * (y 0).val < b + 128
    omega
  · rintro ⟨ha, hb⟩
    refine Finset.mem_map.mpr ⟨ix3 ⟨(x 0).val - b, by omega⟩ (x 1) (x 2), Finset.mem_univ _, ext3 ?_ ?_ ?_⟩
    · show o 0 + 1 * ((x 0).val - b) = (x 0).val
      omega
    · show o 1 + 1 * (x 1).val = (x 1).val
      omega
    · show o 2 + 1 * (x 2).val = (x 2).val
      omega

/-- A half's copy writes the tokens' rows. -/
theorem out_val (b : ℕ) (o : Fin 3 → ℕ) (h0 : o 0 = b) (h1 : o 1 = 0) (h2 : o 2 = 0) (inb : ∀ a : Fin 3, o a + S128x2x128.size a ≤ S8192x2x128.size a)
    (f : S8192x2x128.Idx → Elt F .f32) (g : S8192x2x128.Idx → Elt F .f32) (w : S128x2x128.Idx → Elt F .f32)
    (hb : b + 128 ≤ 8192) (hw : ∀ y : S128x2x128.Idx, w y = g (ix3 ⟨b + (y 0).val, by have h : (y 0).val < 128 := (y 0).isLt; omega⟩ (y 1) (y 2)))
    (x : S8192x2x128.Idx) (hx : x ∈ (outS o inb).view.set) :
    (outS o inb).view.writes (Elt F) f [⟨Rect.whole S128x2x128, w⟩] x = g x := by
  obtain ⟨y, -, rfl⟩ := Finset.mem_map.mp hx
  rw [View.writes_singleton]
  have ey : (outS o inb).view.emb y = ((outS o inb).view.slice (Rect.whole S128x2x128)).emb y := by
    refine ext3 ?_ ?_ ?_
    · show o 0 + 1 * (y 0).val = o 0 + 1 * (0 + 1 * (y 0).val)
      omega
    · show o 1 + 1 * (y 1).val = o 1 + 1 * (0 + 1 * (y 1).val)
      omega
    · show o 2 + 1 * (y 2).val = o 2 + 1 * (0 + 1 * (y 2).val)
      omega
  rw [ey]
  refine (View.write_emb_of_mem _ _ (Finset.mem_univ _)).trans ?_
  rw [← ey]
  rw [cast_eq, hw]
  refine congrArg g (ext3 ?_ ?_ ?_)
  · show b + (y 0).val = o 0 + 1 * (y 0).val
    omega
  · show (y 1).val = o 1 + 1 * (y 1).val
    omega
  · show (y 2).val = o 2 + 1 * (y 2).val
    omega

theorem off4 (L : grid1.Coords) : k3_off4 L 0 = 256 * wid L ∧ k3_off4 L 1 = 0 ∧ k3_off4 L 2 = 0 := by
  rw [k3_off4_eq]; exact ⟨base_eq L, rfl, rfl⟩
theorem off5 (L : grid1.Coords) : k3_off5 L 0 = 256 * wid L + 128 ∧ k3_off5 L 1 = 0 ∧ k3_off5 L 2 = 0 := by
  rw [k3_off5_eq]; exact ⟨congrArg (· + 128) (base_eq L), rfl, rfl⟩

theorem sub4 (L : grid1.Coords) : (outS (k3_off4 L) (k3_off4_inb L)).view.set ⊆ outR (wid L) := fun x hx => by
  obtain ⟨h0, h1, h2⟩ := off4 L
  have := (mem_outS _ _ h0 h1 h2 _ x).mp hx
  rw [mem_outR]; omega
theorem sub5 (L : grid1.Coords) : (outS (k3_off5 L) (k3_off5_inb L)).view.set ⊆ outR (wid L) \ (outS (k3_off4 L) (k3_off4_inb L)).view.set := fun x hx => by
  obtain ⟨h0, h1, h2⟩ := off4 L
  obtain ⟨h0', h1', h2'⟩ := off5 L
  have := (mem_outS _ _ h0' h1' h2' _ x).mp hx
  rw [Finset.mem_sdiff, mem_outR, mem_outS _ _ h0 h1 h2]; omega
theorem rest45 (L : grid1.Coords) : ((outR (wid L) \ (outS (k3_off4 L) (k3_off4_inb L)).view.set) \ (outS (k3_off5 L) (k3_off5_inb L)).view.set) = ∅ := by
  obtain ⟨h0, h1, h2⟩ := off4 L
  obtain ⟨h0', h1', h2'⟩ := off5 L
  ext x
  rw [Finset.mem_sdiff, Finset.mem_sdiff, mem_outR, mem_outS _ _ h0 h1 h2, mem_outS _ _ h0' h1' h2']
  simp only [Finset.notMem_empty, iff_false]
  omega

/-- The tile's own modes. -/
theorem mine7 (f : S256.Idx → BitVec 32) (w : S256.Idx → BitVec 32)
    (hw : w = ((Memref.whole main_v9_scv : Memref sig .scVector .hbm S8192 .i32).slice (Rect.unit (s := S8192) (k3_off1 L) S256.size (k3_off1_inb L)) (fun _ => rfl)).view.read (Elt F) md) :
    View.write (Elt F) ((Memref.whole cc3_scratch0 : Memref sig .scVector .vmem S256 .i32).view) f w Finset.univ = fun x => md (tw L x) := by
  refine (View.write_whole_univ _ _ _).trans ?_
  subst hw
  funext y
  rw [View.read_apply, cast_eq]
  unfold tw
  refine congrArg md (ext1 ?_)
  show k3_off1 L 0 + 1 * (y 0).val = 256 * wid L + (y 0).val
  have e : k3_off1 L 0 = 512 * (L 1).val + 256 * (L 0).val := congrFun (k3_off1_eq L) 0
  have := base_eq L
  omega

/-- … and ranks. -/
theorem mine8 (f : S256.Idx → BitVec 32) (w : S256.Idx → BitVec 32)
    (hw : w = ((Memref.whole main_v10_scv : Memref sig .scVector .hbm S8192 .i32).slice (Rect.unit (s := S8192) (k3_off1 L) S256.size (k3_off1_inb L)) (fun _ => rfl)).view.read (Elt F) rk) :
    View.write (Elt F) ((Memref.whole cc3_scratch1 : Memref sig .scVector .vmem S256 .i32).view) f w Finset.univ = fun x => rk (tw L x) := by
  refine (View.write_whole_univ _ _ _).trans ?_
  subst hw
  funext y
  rw [View.read_apply, cast_eq]
  unfold tw
  refine congrArg rk (ext1 ?_)
  show k3_off1 L 0 + 1 * (y 0).val = 256 * wid L + (y 0).val
  have e : k3_off1 L 0 = 512 * (L 1).val + 256 * (L 0).val := congrFun (k3_off1_eq L) 0
  have := base_eq L
  omega

/-- The segments' starts, as the tile computes them. -/
theorem segs_val (f f0 : S16.Idx → BitVec 32) (l) (hl : l = [⟨Rect.unit (s := S16) ![0] S16.size inb_S16_S16_0,
      k3_pay1 (F := F) (View.readAt (Elt F) (Memref.whole cc3_scratch4 : Memref sig .scVector .vmem S16 .i32).view (Rect.unit (s := S16) ![0] S16.size inb_S16_S16_0).toLoadRect (View.write (Elt F) (Memref.whole cc3_scratch4 : Memref sig .scVector .vmem S16 .i32).view f ((Memref.whole main_v11_scv : Memref sig .scVector .hbm S16 .i32).view.read (Elt F) ct) Finset.univ))⟩]) :
    (Memref.whole cc3_scratch3 : Memref sig .scVector .vmem S16 .i32).view.writes (Elt F) f0 l = gsW ct := by
  subst hl
  have e : (View.readAt (Elt F) (Memref.whole cc3_scratch4 : Memref sig .scVector .vmem S16 .i32).view (Rect.unit (s := S16) ![0] S16.size inb_S16_S16_0).toLoadRect
      (View.write (Elt F) (Memref.whole cc3_scratch4 : Memref sig .scVector .vmem S16 .i32).view f ((Memref.whole main_v11_scv : Memref sig .scVector .hbm S16 .i32).view.read (Elt F) ct) Finset.univ)) = ct := by
    rw [View.write_whole_univ]
    funext x
    rw [View.readAt_apply, View.read_apply, cast_eq]
    rw [View.read_apply, cast_eq]
    refine congrArg ct (ext1 ?_)
    show 0 + 1 * (x 0).val = (x 0).val
    omega
  rw [e]
  refine (View.read_whole (Val := Elt F) cc1_scratch3 _).symm.trans ?_
  exact LaneScatter.read_whole_store (Val := Elt F) ((Memref.whole cc3_scratch3 : Memref sig .scVector .vmem S16 .i32).view) _ (show ∀ a : Fin 1, (![0] : Fin 1 → ℕ) a = 0 by decide) _ _

/-- The rows of the tokens `b …`. -/
def halfV (b : ℕ) (hb : b + 128 ≤ 8192) (y : S128x2x128.Idx) : Elt F .f32 :=
  outV ys md rk ct (ix3 ⟨b + (y 0).val, by have h : (y 0).val < 128 := (y 0).isLt; omega⟩ (y 1) (y 2))

theorem hb_of (o : Fin 1 → ℕ) (inb : ∀ a : Fin 1, o a + S128.size a ≤ S256.size a) : (256 * wid L + o 0) + 128 ≤ 8192 := by
  have := wid_lt L; have := inb0 o inb; omega

theorem half12 (hR : Routed md rk ct) (o : Fin 1 → ℕ) (inb : ∀ a : Fin 1, o a + S128.size a ≤ S256.size a) (f : S128x2x128.Idx → Elt F .f32) :
    View.write (Elt F) (Memref.whole cc3_scratch5 : Memref sig .scVector .vmem S128x2x128 .f32).view f (SparseCore.gatherPayload gathers_S12288x2x128_S128x2x128 (srcK.view.read (Elt F) ys)
        (SparseCore.rows (F := F) ((offR o inb).view.read (Elt F) (pT L md rk ct)) hn3 (hin3 L md rk ct hR o inb))) Finset.univ
      = halfV ys md rk ct (256 * wid L + o 0) (hb_of L o inb) := by
  refine (View.write_whole_univ _ _ _).trans ?_
  funext y
  rw [gather_val (L := L) (hR := hR) (o := o) (inb := inb)]
  exact congrArg (outV ys md rk ct) (ext3 (Nat.add_assoc _ _ _).symm rfl rfl)

theorem half13 (hR : Routed md rk ct) (o : Fin 1 → ℕ) (inb : ∀ a : Fin 1, o a + S128.size a ≤ S256.size a) (f : S128x2x128.Idx → Elt F .f32) :
    View.write (Elt F) (Memref.whole cc3_scratch6 : Memref sig .scVector .vmem S128x2x128 .f32).view f (SparseCore.gatherPayload gathers_S12288x2x128_S128x2x128 (srcK.view.read (Elt F) ys)
        (SparseCore.rows (F := F) ((offR o inb).view.read (Elt F) (pT L md rk ct)) hn3 (hin3 L md rk ct hR o inb))) Finset.univ
      = halfV ys md rk ct (256 * wid L + o 0) (hb_of L o inb) := by
  refine (View.write_whole_univ _ _ _).trans ?_
  funext y
  rw [gather_val (L := L) (hR := hR) (o := o) (inb := inb)]
  exact congrArg (outV ys md rk ct) (ext3 (Nat.add_assoc _ _ _).symm rfl rfl)

theorem out4 (f : S8192x2x128.Idx → Elt F .f32) (w : S128x2x128.Idx → Elt F .f32)
    (hw : w = (Memref.whole cc3_scratch5 : Memref sig .scVector .vmem S128x2x128 .f32).view.read (Elt F) (halfV ys md rk ct (256 * wid L + (![0] : Fin 1 → ℕ) 0) (hb_of L ![0] inb_S256_S128_0))) :
    ∀ x ∈ (outS (k3_off4 L) (k3_off4_inb L)).view.set, (outS (k3_off4 L) (k3_off4_inb L)).view.writes (Elt F) f [⟨Rect.whole S128x2x128, w⟩] x = outV ys md rk ct x := by
  obtain ⟨h0, h1, h2⟩ := off4 L
  refine out_val _ _ h0 h1 h2 _ f (outV ys md rk ct) w (hb_of L ![0] inb_S256_S128_0) fun y => ?_
  subst hw; rfl

theorem out5 (f : S8192x2x128.Idx → Elt F .f32) (w : S128x2x128.Idx → Elt F .f32)
    (hw : w = (Memref.whole cc3_scratch6 : Memref sig .scVector .vmem S128x2x128 .f32).view.read (Elt F) (halfV ys md rk ct (256 * wid L + (![128] : Fin 1 → ℕ) 0) (hb_of L ![128] inb_S256_S128_128))) :
    ∀ x ∈ (outS (k3_off5 L) (k3_off5_inb L)).view.set, (outS (k3_off5 L) (k3_off5_inb L)).view.writes (Elt F) f [⟨Rect.whole S128x2x128, w⟩] x = outV ys md rk ct x := by
  obtain ⟨h0, h1, h2⟩ := off5 L
  refine out_val _ _ h0 h1 h2 _ f (outV ys md rk ct) w (hb_of L ![128] inb_S256_S128_128) fun y => ?_
  subst hw; rfl

set_option maxHeartbeats 4000000 in
/-- One tile's gather. -/
theorem tile3 (hF : (K (F := F)).Facts) (q : PosShare TreeShare) (hR : Routed md rk ct)
    (O : CellTallies nD τ sig (HIx 2)) (W : Waits sig (HIx 2)) (hO : ∀ g, O g none = 0) :
    iprop(levAts (K (F := F)).L (K (F := F)).lev ∗ emp
        ∗ tileOut d ys md rk ct q (outR (wid L)) o0
        ∗ scopedBufs (thr d L) ∗ scopedSems0 (thr d L) ∗ owes (thr d L) O W)
      ⊢ wp frame (wpE (defs₀ (F := F)) 𝒱₀ (thr d L) none) Set.univ
          (cc3_k L (Memref.whole main_v19_scv : Memref sig .scVector .hbm S12288x2x128 .f32) (Memref.isWhole_whole _) (Memref.whole main_v9_scv : Memref sig .scVector .hbm S8192 .i32) (Memref.isWhole_whole _) (Memref.whole main_v10_scv : Memref sig .scVector .hbm S8192 .i32) (Memref.isWhole_whole _)
            (Memref.whole main_v11_scv : Memref sig .scVector .hbm S16 .i32) (Memref.isWhole_whole _) (Memref.whole main_v20_scv : Memref sig .scVector .hbm S8192x2x128 .f32) (Memref.isWhole_whole _)
            (Memref.whole cc3_scratch0 : Memref sig .scVector .vmem S256 .i32) (Memref.isWhole_whole _) (Memref.whole cc3_scratch1 : Memref sig .scVector .vmem S256 .i32) (Memref.isWhole_whole _) (Memref.whole cc3_scratch2 : Memref sig .scVector .vmem S256 .i32) (Memref.isWhole_whole _)
            (Memref.whole cc3_scratch3 : Memref sig .scVector .vmem S16 .i32) (Memref.isWhole_whole _) (Memref.whole cc3_scratch4 : Memref sig .scVector .vmem S16 .i32) (Memref.isWhole_whole _) (Memref.whole cc3_scratch5 : Memref sig .scVector .vmem S128x2x128 .f32) (Memref.isWhole_whole _) (Memref.whole cc3_scratch6 : Memref sig .scVector .vmem S128x2x128 .f32) (Memref.isWhole_whole _)
            cc3_scratch7 cc3_scratch8 cc3_scoped0 cc3_scoped1 cc3_scoped2 cc3_scoped3 cc3_scoped4)
          fun _ => iprop(tileOut d ys md rk ct q (outR (wid L)) (outV ys md rk ct)
            ∗ scopedBufs (thr d L) ∗ scopedSems0 (thr d L)
            ∗ ∃ W', ⌜∀ p ∈ W', p ∈ W ∨ p.2 = none⌝ ∗ owes (thr d L) O W') := by
  simp only [cc3_k_eq_skeleton]; unfold cc3_k_skel
  simp only [k3_part1_eq_skeleton]; unfold k3_part1_skel
  rw [(K (F := F)).scopedBufs_V hF d (cV L) (jV L), SparseCore.Cfg.scopedSems0_V (Val := Elt F) d (cV L) (jV L), ownSems_two, ownBufs_two]
  iintro ⟨#Hlv, -, ⟨Hys, Hmd, Hrk, Hct, Ho⟩, ⟨⟨%f7, H7⟩, ⟨%f8, H8⟩, ⟨%f9, H9⟩, ⟨%f10, H10⟩, ⟨%f11, H11⟩, ⟨%f12, H12⟩, ⟨%f13, H13⟩, Hbufs⟩, ⟨Hs7, Hs8, Hr0, Hr1, Hr2, Hr3, Hr4, Hsems⟩, HO⟩
  ihave Hmw := (show levAts (K (F := F)).L (K (F := F)).lev ⊢ Transfers.MayWaits (thr d L) (default : HIx 2) O from
    (K (F := F)).mayWaits_none (thr := thr d L) hO) $$ Hlv
  ihave Hmd := (Entails.of_eq (show (loc d main_v9 ↦{q} md : sProp 𝕄) = ((Memref.whole main_v9_scv : Memref sig .scVector .hbm S8192 .i32).view.loc (thr d L) ↦{q} md) from rfl)) $$ Hmd
  ihave Hrk := (Entails.of_eq (show (loc d main_v10 ↦{q} rk : sProp 𝕄) = ((Memref.whole main_v10_scv : Memref sig .scVector .hbm S8192 .i32).view.loc (thr d L) ↦{q} rk) from rfl)) $$ Hrk
  ihave Hct := (Entails.of_eq (show (loc d main_v11 ↦{q} ct : sProp 𝕄) = ((Memref.whole main_v11_scv : Memref sig .scVector .hbm S16 .i32).view.loc (thr d L) ↦{q} ct) from rfl)) $$ Hct
  ihave H7 := (Entails.of_eq (show ((thr d L).loc cc3_scratch0 ↦{fullShare} f7 : sProp 𝕄) = ((Memref.whole cc3_scratch0 : Memref sig .scVector .vmem S256 .i32).view.loc (thr d L) ↦{fullShare} f7) from rfl)) $$ H7
  ihave H8 := (Entails.of_eq (show ((thr d L).loc cc3_scratch1 ↦{fullShare} f8 : sProp 𝕄) = ((Memref.whole cc3_scratch1 : Memref sig .scVector .vmem S256 .i32).view.loc (thr d L) ↦{fullShare} f8) from rfl)) $$ H8
  ihave H9 := (Entails.of_eq (show ((thr d L).loc cc3_scratch2 ↦{fullShare} f9 : sProp 𝕄) = ((Memref.whole cc3_scratch2 : Memref sig .scVector .vmem S256 .i32).view.loc (thr d L) ↦{fullShare} f9) from rfl)) $$ H9
  ihave H10 := (Entails.of_eq (show ((thr d L).loc cc3_scratch3 ↦{fullShare} f10 : sProp 𝕄) = ((Memref.whole cc3_scratch3 : Memref sig .scVector .vmem S16 .i32).view.loc (thr d L) ↦{fullShare} f10) from rfl)) $$ H10
  ihave H11 := (Entails.of_eq (show ((thr d L).loc cc3_scratch4 ↦{fullShare} f11 : sProp 𝕄) = ((Memref.whole cc3_scratch4 : Memref sig .scVector .vmem S16 .i32).view.loc (thr d L) ↦{fullShare} f11) from rfl)) $$ H11
  ihave H12 := (Entails.of_eq (show ((thr d L).loc cc3_scratch5 ↦{fullShare} f12 : sProp 𝕄) = ((Memref.whole cc3_scratch5 : Memref sig .scVector .vmem S128x2x128 .f32).view.loc (thr d L) ↦{fullShare} f12) from rfl)) $$ H12
  ihave H13 := (Entails.of_eq (show ((thr d L).loc cc3_scratch6 ↦{fullShare} f13 : sProp 𝕄) = ((Memref.whole cc3_scratch6 : Memref sig .scVector .vmem S128x2x128 .f32).view.loc (thr d L) ↦{fullShare} f13) from rfl)) $$ H13
  ihave Hys := (Entails.of_eq (show (loc d main_v19 ↦{q} ys : sProp 𝕄) = ((Memref.whole main_v19_scv : Memref sig .scVector .hbm S12288x2x128 .f32).view.loc (thr d L) ↦{q} ys) from rfl)) $$ Hys
  ihave Hs := (pointsTo_split_subset (ℓ := (Memref.whole main_v20_scv : Memref sig .scVector .hbm S8192x2x128 .f32).view.loc (thr d L)) (q := fullShare) (f := o0) (sub4 L)).1 $$ Ho
  icases Hs with ⟨Ho4, Ho⟩
  ihave Hs := (pointsTo_split_subset (ℓ := (Memref.whole main_v20_scv : Memref sig .scVector .hbm S8192x2x128 .f32).view.loc (thr d L)) (q := fullShare) (f := o0) (sub5 L)).1 $$ Ho
  icases Hs with ⟨Ho5, Hoe⟩
  sl_exec
  ihave H7 := (Entails.of_eq (congrArg (fun g => ((Memref.whole cc3_scratch0 : Memref sig .scVector .vmem S256 .i32).view.loc (thr d L) ↦{fullShare} g : sProp 𝕄)) (mine7 (F := F) L md f7 (tile3.sl.dma0 L md) rfl))) $$ H7
  ihave H8 := (Entails.of_eq (congrArg (fun g => ((Memref.whole cc3_scratch1 : Memref sig .scVector .vmem S256 .i32).view.loc (thr d L) ↦{fullShare} g : sProp 𝕄)) (mine8 (F := F) L rk f8 (tile3.sl.dma0_1 L rk) rfl))) $$ H8
  ihave H10 := (Entails.of_eq (congrArg (fun g => ((Memref.whole cc3_scratch3 : Memref sig .scVector .vmem S16 .i32).view.loc (thr d L) ↦{fullShare} g : sProp 𝕄)) (segs_val (F := F) ct f11 f10 [⟨Rect.unit (s := S16) ![0] S16.size inb_S16_S16_0, k3_pay1 (F := F) (View.readAt (Elt F) (Memref.whole cc3_scratch4 : Memref sig .scVector .vmem S16 .i32).view (Rect.unit (s := S16) ![0] S16.size inb_S16_S16_0).toLoadRect (View.write (Elt F) (Memref.whole cc3_scratch4 : Memref sig .scVector .vmem S16 .i32).view f11 (tile3.sl.dma0_2 ct) Finset.univ))⟩] rfl))) $$ H10
  rw [bind_assoc]
  sl_for (inv1 d L md rk ct O (insert (SemLoc.dma cc3_scoped2.sem, (default : HIx 2)) (insert (SemLoc.dma cc3_scoped1.sem, (default : HIx 2)) (insert (SemLoc.dma cc3_scoped0.sem, (default : HIx 2)) W)))) $$ [H7 H8 H9 H10 HO]
  case region =>
    intro k _
    exact trip1 d L md rk ct hR O (insert (SemLoc.dma cc3_scoped2.sem, (default : HIx 2)) (insert (SemLoc.dma cc3_scoped1.sem, (default : HIx 2)) (insert (SemLoc.dma cc3_scoped0.sem, (default : HIx 2)) W))) k
  · unfold inv1
    isplitr; · iexact Hmw
    isplitl [H7]; · iexact H7
    isplitl [H8]; · iexact H8
    isplitl [H10]; · iexact H10
    isplitl [H9]
    · iexists f9; isplitr
      · ipureintro; intro x hx; exact absurd hx (by omega)
      · iexact H9
    · iexact HO
  iintro %_ HI
  rw [show Scf.trips k3_t1_loop.lb k3_t1_loop.ub k3_t1_loop.st = 16 by decide]
  unfold inv1
  icases HI with ⟨-, H7, H8, H10, ⟨%f, %hf, H9⟩, HO⟩
  obtain rfl : f = pT L md rk ct := funext fun x => hf x (x 0).isLt
  have hset12 : (Memref.whole cc3_scratch5 : Memref sig .scVector .vmem S128x2x128 .f32).view.set = Finset.univ := View.set_whole _
  have hset13 : (Memref.whole cc3_scratch6 : Memref sig .scVector .vmem S128x2x128 .f32).view.set = Finset.univ := View.set_whole _
  have hN12 : ∀ h : S12288x2x128.Gathers 0 S128x2x128, ∑ j, ((Memref.whole cc3_scratch5 : Memref sig .scVector .vmem S128x2x128 .f32).slice (S128x2x128.rowRect h.axis' j) (S128x2x128.stride_rowRect h.axis' j)).view.dmaCredit
      = (Memref.whole cc3_scratch5 : Memref sig .scVector .vmem S128x2x128 .f32).view.dmaCredit := by decide
  have hN13 : ∀ h : S12288x2x128.Gathers 0 S128x2x128, ∑ j, ((Memref.whole cc3_scratch6 : Memref sig .scVector .vmem S128x2x128 .f32).slice (S128x2x128.rowRect h.axis' j) (S128x2x128.stride_rowRect h.axis' j)).view.dmaCredit
      = (Memref.whole cc3_scratch6 : Memref sig .scVector .vmem S128x2x128 .f32).view.dmaCredit := by decide
  ihave Hs := (pointsTo_share (ℓ := (Memref.whole main_v19_scv : Memref sig .scVector .hbm S12288x2x128 .f32).view.loc (thr d L)) (I := Finset.univ) (f := ys) (PosShare.mem_left_op_right q)).1 $$ Hys
  icases Hs with ⟨Hys1, Hys2⟩
  ihave Hs := (pointsTo_share (ℓ := (Memref.whole cc3_scratch2 : Memref sig .scVector .vmem S256 .i32).view.loc (thr d L)) (I := Finset.univ) (f := pT L md rk ct) (PosShare.mem_left_op_right fullShare)).1 $$ H9
  icases Hs with ⟨H91, H92⟩
  sl_exec
  ihave Hs := (pointsTo_split_subset (ℓ := (Memref.whole main_v19_scv : Memref sig .scVector .hbm S12288x2x128 .f32).view.loc (thr d L)) (q := q.left) (f := ys) (S := Finset.univ) (Finset.subset_univ srcK.view.set)).1 $$ Hys1
  icases Hs with ⟨Hys1, Hyr1⟩
  ihave Hs := (pointsTo_split_subset (ℓ := (Memref.whole cc3_scratch2 : Memref sig .scVector .vmem S256 .i32).view.loc (thr d L)) (q := fullShare.left) (f := pT L md rk ct) (S := Finset.univ) (Finset.subset_univ (offR ![0] inb_S256_S128_0).view.set)).1 $$ H91
  icases Hs with ⟨H91, H9r1⟩
  ihave H12 := (Entails.of_eq (show ((Memref.whole cc3_scratch5 : Memref sig .scVector .vmem S128x2x128 .f32).view.loc (thr d L) ↦{fullShare} f12 : sProp 𝕄) = ((Memref.whole cc3_scratch5 : Memref sig .scVector .vmem S128x2x128 .f32).view.loc (thr d L) ↦[(Memref.whole cc3_scratch5 : Memref sig .scVector .vmem S128x2x128 .f32).view.set]{fullShare} f12) by rw [hset12])) $$ H12
  iapply (SparseCore.wp_indirectGatherLocal countersEmb 𝒱₀ (thr d L) none (src := srcK) (dst := (Memref.whole cc3_scratch5 : Memref sig .scVector .vmem S128x2x128 .f32)) (offs := offR ![0] inb_S256_S128_0) (hg := gathers_S12288x2x128_S128x2x128) (default : HIx 2)
      (Memref.whole cc3_scratch5 : Memref sig .scVector .vmem S128x2x128 .f32).view.dmaCredit (hN12 _) (by decide) (hin3 L md rk ct hR ![0] inb_S256_S128_0)) $$ [Hys1 H12 H91 Hs7]
  · isplitl [Hys1]; · iexact Hys1
    isplitl [H12]; · iexact H12
    isplitl [H91]; · iexact H91
    iexact Hs7
  iintro Hfl1
  sl_exec
  ihave Hs := (pointsTo_split_subset (ℓ := (Memref.whole main_v19_scv : Memref sig .scVector .hbm S12288x2x128 .f32).view.loc (thr d L)) (q := q.right) (f := ys) (S := Finset.univ) (Finset.subset_univ srcK.view.set)).1 $$ Hys2
  icases Hs with ⟨Hys2, Hyr2⟩
  ihave Hs := (pointsTo_split_subset (ℓ := (Memref.whole cc3_scratch2 : Memref sig .scVector .vmem S256 .i32).view.loc (thr d L)) (q := fullShare.right) (f := pT L md rk ct) (S := Finset.univ) (Finset.subset_univ (offR ![128] inb_S256_S128_128).view.set)).1 $$ H92
  icases Hs with ⟨H92, H9r2⟩
  ihave H13 := (Entails.of_eq (show ((Memref.whole cc3_scratch6 : Memref sig .scVector .vmem S128x2x128 .f32).view.loc (thr d L) ↦{fullShare} f13 : sProp 𝕄) = ((Memref.whole cc3_scratch6 : Memref sig .scVector .vmem S128x2x128 .f32).view.loc (thr d L) ↦[(Memref.whole cc3_scratch6 : Memref sig .scVector .vmem S128x2x128 .f32).view.set]{fullShare} f13) by rw [hset13])) $$ H13
  iapply (SparseCore.wp_indirectGatherLocal countersEmb 𝒱₀ (thr d L) none (src := srcK) (dst := (Memref.whole cc3_scratch6 : Memref sig .scVector .vmem S128x2x128 .f32)) (offs := offR ![128] inb_S256_S128_128) (hg := gathers_S12288x2x128_S128x2x128) (default : HIx 2)
      (Memref.whole cc3_scratch6 : Memref sig .scVector .vmem S128x2x128 .f32).view.dmaCredit (hN13 _) (by decide) (hin3 L md rk ct hR ![128] inb_S256_S128_128)) $$ [Hys2 H13 H92 Hs8]
  · isplitl [Hys2]; · iexact Hys2
    isplitl [H13]; · iexact H13
    isplitl [H92]; · iexact H92
    iexact Hs8
  iintro Hfl2
  ihave Ho4 := (Entails.of_eq (show ((Memref.whole main_v20_scv : Memref sig .scVector .hbm S8192x2x128 .f32).view.loc (thr d L) ↦[(outS (k3_off4 L) (k3_off4_inb L)).view.set]{fullShare} o0 : sProp 𝕄) = ((outS (k3_off4 L) (k3_off4_inb L)).view.loc (thr d L) ↦[(outS (k3_off4 L) (k3_off4_inb L)).view.set]{fullShare} o0) from rfl)) $$ Ho4
  ihave Ho5 := (Entails.of_eq (show ((Memref.whole main_v20_scv : Memref sig .scVector .hbm S8192x2x128 .f32).view.loc (thr d L) ↦[(outS (k3_off5 L) (k3_off5_inb L)).view.set]{fullShare} o0 : sProp 𝕄) = ((outS (k3_off5 L) (k3_off5_inb L)).view.loc (thr d L) ↦[(outS (k3_off5 L) (k3_off5_inb L)).view.set]{fullShare} o0) from rfl)) $$ Ho5
  sl_exec
  iapply (Transfers.wp_waitLocalO countersEmb 𝒱₀ (thr d L) none (default : HIx 2) (rfl : (Memref.whole cc3_scratch5 : Memref sig .scVector .vmem S128x2x128 .f32).view.dmaCredit = _)) $$ [Hfl1 HO]
  · isplitl [Hfl1]; · iexact Hfl1
    isplitl [HO]; · iexact HO
    iapply (Transfers.MayWaits.elim (SemLoc.dma cc3_scratch7.sem)) $$ Hmw
  iintro ⟨⟨H12, Hys1, H91⟩, Hs7, HO⟩
  ihave H12 := (Entails.of_eq (congrArg (fun g => ((Memref.whole cc3_scratch5 : Memref sig .scVector .vmem S128x2x128 .f32).view.loc (thr d L) ↦[(Memref.whole cc3_scratch5 : Memref sig .scVector .vmem S128x2x128 .f32).view.set]{fullShare} g : sProp 𝕄)) (half12 L ys md rk ct hR ![0] inb_S256_S128_0 f12))) $$ H12
  ihave H12 := (Entails.of_eq (congrArg (fun I => ((Memref.whole cc3_scratch5 : Memref sig .scVector .vmem S128x2x128 .f32).view.loc (thr d L) ↦[I]{fullShare} (halfV ys md rk ct (256 * wid L + (![0] : Fin 1 → ℕ) 0) (hb_of L ![0] inb_S256_S128_0)) : sProp 𝕄)) hset12)) $$ H12
  sl_exec
  iapply (Transfers.wp_waitLocalO countersEmb 𝒱₀ (thr d L) none (default : HIx 2) (rfl : (Memref.whole cc3_scratch6 : Memref sig .scVector .vmem S128x2x128 .f32).view.dmaCredit = _)) $$ [Hfl2 HO]
  · isplitl [Hfl2]; · iexact Hfl2
    isplitl [HO]; · iexact HO
    iapply (Transfers.MayWaits.elim (SemLoc.dma cc3_scratch8.sem)) $$ Hmw
  iintro ⟨⟨H13, Hys2, H92⟩, Hs8, HO⟩
  ihave H13 := (Entails.of_eq (congrArg (fun g => ((Memref.whole cc3_scratch6 : Memref sig .scVector .vmem S128x2x128 .f32).view.loc (thr d L) ↦[(Memref.whole cc3_scratch6 : Memref sig .scVector .vmem S128x2x128 .f32).view.set]{fullShare} g : sProp 𝕄)) (half13 L ys md rk ct hR ![128] inb_S256_S128_128 f13))) $$ H13
  ihave H13 := (Entails.of_eq (congrArg (fun I => ((Memref.whole cc3_scratch6 : Memref sig .scVector .vmem S128x2x128 .f32).view.loc (thr d L) ↦[I]{fullShare} (halfV ys md rk ct (256 * wid L + (![128] : Fin 1 → ℕ) 0) (hb_of L ![128] inb_S256_S128_128)) : sProp 𝕄)) hset13)) $$ H13
  sl_exec
  ihave Ho4 := (Entails.of_eq (pointsTo_congr (ℓ := (outS (k3_off4 L) (k3_off4_inb L)).view.loc (thr d L)) (q := fullShare) (out4 L ys md rk ct o0 (tile3.sl.dma0_3 L ys md rk ct) rfl))) $$ Ho4
  ihave Ho5 := (Entails.of_eq (pointsTo_congr (ℓ := (outS (k3_off5 L) (k3_off5_inb L)).view.loc (thr d L)) (q := fullShare) (out5 L ys md rk ct o0 (tile3.sl.dma0_4 L ys md rk ct) rfl))) $$ Ho5
  ihave Hoe := (Entails.of_eq (pointsTo_congr (ℓ := (Memref.whole main_v20_scv : Memref sig .scVector .hbm S8192x2x128 .f32).view.loc (thr d L)) (q := fullShare) (f := o0) (g := outV ys md rk ct) (I := (outR (wid L) \ (outS (k3_off4 L) (k3_off4_inb L)).view.set) \ (outS (k3_off5 L) (k3_off5_inb L)).view.set)
    (fun x hx => absurd (rest45 L ▸ hx) (Finset.notMem_empty x)))) $$ Hoe
  ihave Ho := (pointsTo_split_subset (ℓ := (Memref.whole main_v20_scv : Memref sig .scVector .hbm S8192x2x128 .f32).view.loc (thr d L)) (q := fullShare) (f := outV ys md rk ct) (sub5 L)).2 $$ [Ho5 Hoe]
  · isplitl [Ho5]; · iexact Ho5
    iexact Hoe
  ihave Ho := (pointsTo_split_subset (ℓ := (Memref.whole main_v20_scv : Memref sig .scVector .hbm S8192x2x128 .f32).view.loc (thr d L)) (q := fullShare) (f := outV ys md rk ct) (sub4 L)).2 $$ [Ho4 Ho]
  · isplitl [Ho4]; · iexact Ho4
    iexact Ho
  ihave Hys1 := (pointsTo_split_subset (ℓ := (Memref.whole main_v19_scv : Memref sig .scVector .hbm S12288x2x128 .f32).view.loc (thr d L)) (q := q.left) (f := ys) (S := Finset.univ) (Finset.subset_univ srcK.view.set)).2 $$ [Hys1 Hyr1]
  · isplitl [Hys1]; · iexact Hys1
    iexact Hyr1
  ihave Hys2 := (pointsTo_split_subset (ℓ := (Memref.whole main_v19_scv : Memref sig .scVector .hbm S12288x2x128 .f32).view.loc (thr d L)) (q := q.right) (f := ys) (S := Finset.univ) (Finset.subset_univ srcK.view.set)).2 $$ [Hys2 Hyr2]
  · isplitl [Hys2]; · iexact Hys2
    iexact Hyr2
  ihave Hys := (pointsTo_share (ℓ := (Memref.whole main_v19_scv : Memref sig .scVector .hbm S12288x2x128 .f32).view.loc (thr d L)) (I := Finset.univ) (f := ys) (PosShare.mem_left_op_right q)).2 $$ [Hys1 Hys2]
  · isplitl [Hys1]; · iexact Hys1
    iexact Hys2
  ihave H91 := (pointsTo_split_subset (ℓ := (Memref.whole cc3_scratch2 : Memref sig .scVector .vmem S256 .i32).view.loc (thr d L)) (q := fullShare.left) (f := pT L md rk ct) (S := Finset.univ) (Finset.subset_univ (offR ![0] inb_S256_S128_0).view.set)).2 $$ [H91 H9r1]
  · isplitl [H91]; · iexact H91
    iexact H9r1
  ihave H92 := (pointsTo_split_subset (ℓ := (Memref.whole cc3_scratch2 : Memref sig .scVector .vmem S256 .i32).view.loc (thr d L)) (q := fullShare.right) (f := pT L md rk ct) (S := Finset.univ) (Finset.subset_univ (offR ![128] inb_S256_S128_128).view.set)).2 $$ [H92 H9r2]
  · isplitl [H92]; · iexact H92
    iexact H9r2
  ihave H9 := (pointsTo_share (ℓ := (Memref.whole cc3_scratch2 : Memref sig .scVector .vmem S256 .i32).view.loc (thr d L)) (I := Finset.univ) (f := pT L md rk ct) (PosShare.mem_left_op_right fullShare)).2 $$ [H91 H92]
  · isplitl [H91]; · iexact H91
    iexact H92
  rw [wp_ret]; imodintro
  isplitl [Hys Hmd Hrk Hct Ho]
  · isplitl [Hys]; · iexact Hys
    isplitl [Hmd]; · iexact Hmd
    isplitl [Hrk]; · iexact Hrk
    isplitl [Hct]; · iexact Hct
    iexact Ho
  isplitl [H7 H8 H9 H10 H11 H12 H13 Hbufs]
  · isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexact Hbufs
  isplitl [Hs7 Hs8 Hr0 Hr1 Hr2 Hr3 Hr4 Hsems]
  · isplitl [Hs7]; · iexact Hs7
    isplitl [Hs8]; · iexact Hs8
    isplitl [Hr0]; · iexact Hr0
    isplitl [Hr1]; · iexact Hr1
    isplitl [Hr2]; · iexact Hr2
    isplitl [Hr3]; · iexact Hr3
    isplitl [Hr4]; · iexact Hr4
    iexact Hsems
  iexists _; isplitr
  rotate_left
  · iexact HO
  ipureintro; intro p hp
  repeat' (rcases Finset.mem_insert.mp hp with hp | hp; · exact .inr (hp ▸ rfl))
  exact .inl hp

end Tile

end Combine

end Cert.Proof
-- ==== Proof.Calls.lean ====
/-
  The two SparseCore calls as the launch sees them: what each hands its tiles and takes back, the
  tiles' obligations, and the arrays dealt to the thirty-two tiles and collected again.
-/
module

public import proofs.«01_k».proof.Proof.Dispatch
public import proofs.«01_k».proof.Proof.Combine
public import Idealize.ShloMosaic.Lib.ShareLeaves
public import Idealize.ShloMosaic.Lib.SparseCore.Quiescent

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Combine (outV outR mem_outR tileOut tile3)

variable {F : FTy → Type} [FloatOps F]

local notation "𝕄" => MT nD τ sig (HIx 2) (Elt F) ℕ UU ℕ

/-- What the arrays of the two calls hold on each device when they run. -/
structure Cts (F : FTy → Type) [FloatOps F] where
  obs : Dev nD → S8192x4096.Idx → Elt F .f32
  md : Dev nD → S8192.Idx → BitVec 32
  rk : Dev nD → S8192.Idx → BitVec 32
  ct : Dev nD → S16.Idx → BitVec 32
  xs0 : Dev nD → S12288x4096.Idx → Elt F .f32
  ys : Dev nD → S12288x2x128.Idx → Elt F .f32
  o0 : Dev nD → S8192x2x128.Idx → Elt F .f32

/-- The coordinates of subcore `i` of core `c`. -/
def co (c : Fin 2) (i : Fin 16) : grid1.Coords :=
  fun | 0 => c | 1 => i | ⟨_ + 2, h⟩ => absurd h (Nat.not_lt.2 (Nat.le_add_left _ _))

theorem wid_co (c : Fin 2) (i : Fin 16) : wid (co c i) = 2 * i.val + c.val := rfl

/-- The tiles, by core and subcore, are numbered 0 to 31. -/
def tileEquiv : Fin 2 × Fin 16 ≃ Fin (2 ^ 5) where
  toFun p := ⟨wid (co p.1 p.2), wid_lt _⟩
  invFun w := (⟨w.val % 2, Nat.mod_lt _ (by decide)⟩, ⟨w.val / 2, by have := w.isLt; omega⟩)
  left_inv p := by
    obtain ⟨c, i⟩ := p
    have hc := c.isLt
    simp only [wid_co]
    refine Prod.ext (Fin.ext ?_) (Fin.ext ?_) <;> simp only <;> omega
  right_inv w := by
    refine Fin.ext ?_
    simp only [wid_co]
    omega

/-- The share of a read array that a tile holds. -/
def sh (L : grid1.Coords) : PosShare TreeShare := leaf 5 fullShare ⟨wid L, wid_lt L⟩

theorem tiles (Φ : Fin (2 ^ 5) → sProp 𝕄) :
    bigSep Finset.univ Φ = bigSep Finset.univ fun c : Fin 2 => bigSep Finset.univ fun i : Fin 16 => Φ ⟨wid (co c i), wid_lt _⟩ :=
  (bigSep_univ_equiv tileEquiv Φ).trans (bigSep_univ_prod fun p => Φ (tileEquiv p))

/-- An array's whole content is the tiles' shares of it. -/
theorem deal_shares {ℓ : Loc nD τ sig} (f : Buf (Elt F) ℓ) :
    (ℓ ↦{fullShare} f : sProp 𝕄) = bigSep Finset.univ fun c : Fin 2 => bigSep Finset.univ fun i : Fin 16 => ℓ ↦{sh (co c i)} f :=
  (pointsTo_leaves Finset.univ f 5 fullShare).trans (tiles fun w => ℓ ↦{leaf 5 fullShare w} f)

/-- An array's whole content is the tiles' parts of it. -/
theorem deal_parts {ℓ : Loc nD τ sig} (f : Buf (Elt F) ℓ) (I : ℕ → Finset (Idx ℓ))
    (hd : ∀ w w', w ≠ w' → Disjoint (I w) (I w')) (hc : ∀ x, ∃ w, w < 32 ∧ x ∈ I w) :
    (ℓ ↦{fullShare} f : sProp 𝕄) = bigSep Finset.univ fun c : Fin 2 => bigSep Finset.univ fun i : Fin 16 => ℓ ↦[I (wid (co c i))]{fullShare} f := by
  have hu : (Finset.univ : Finset (Fin (2 ^ 5))).biUnion (fun w => I w.val) = Finset.univ := by
    refine Finset.eq_univ_of_forall fun x => ?_
    obtain ⟨w, hw, hx⟩ := hc x
    exact Finset.mem_biUnion.mpr ⟨⟨w, hw⟩, Finset.mem_univ _, hx⟩
  rw [← tiles fun w => ℓ ↦[I w.val]{fullShare} f, ← pointsTo_biUnion Finset.univ (ℓ := ℓ) (fun w : Fin (2 ^ 5) => I w.val)
    (fun w _ w' _ h => hd _ _ fun e => h (Fin.ext e)), hu]

theorem own_disjoint (md rk : S8192.Idx → BitVec 32) (ct : S16.Idx → BitVec 32) (w w' : ℕ) (h : w ≠ w') : Disjoint (own md rk ct w) (own md rk ct w') :=
  Finset.disjoint_left.mpr fun _ h1 h2 => h ((mem_own.mp h1).symm.trans (mem_own.mp h2))

theorem own_cover (md rk : S8192.Idx → BitVec 32) (ct : S16.Idx → BitVec 32) (x : S12288x4096.Idx) : ∃ w, w < 32 ∧ x ∈ own md rk ct w :=
  ⟨_, Nat.mod_lt _ (by decide), mem_own.mpr rfl⟩

theorem outR_disjoint (w w' : ℕ) (h : w ≠ w') : Disjoint (outR w) (outR w') :=
  Finset.disjoint_left.mpr fun x h1 h2 => h (((mem_outR w x).mp h1).symm.trans ((mem_outR w' x).mp h2))

theorem outR_cover (x : S8192x2x128.Idx) : ∃ w, w < 32 ∧ x ∈ outR w :=
  ⟨_, by have : (x 0).val < 8192 := (x 0).isLt; omega, (mem_outR _ x).mpr rfl⟩

variable (X : Cts F)

/-- A tile's operands of the dispatch, and its results. -/
def dIn (d : Dev nD) (L : grid1.Coords) (xs : S12288x4096.Idx → Elt F .f32) : sProp 𝕄 :=
  tileIn d (X.obs d) (X.md d) (X.rk d) (X.ct d) (sh L) (own (X.md d) (X.rk d) (X.ct d) (wid L)) xs

/-- A tile's operands of the combine, and its results. -/
def cIn (d : Dev nD) (L : grid1.Coords) (o : S8192x2x128.Idx → Elt F .f32) : sProp 𝕄 :=
  tileOut d (X.ys d) (X.md d) (X.rk d) (X.ct d) (sh L) (outR (wid L)) o

/-- The sorted array the dispatch leaves. -/
abbrev xs1 (d : Dev nD) : S12288x4096.Idx → Elt F .f32 := xsV (X.obs d) (X.md d) (X.rk d) (X.ct d) (X.xs0 d)

/-- The result the combine leaves. -/
abbrev o1 (d : Dev nD) : S8192x2x128.Idx → Elt F .f32 := outV (X.ys d) (X.md d) (X.rk d) (X.ct d)

instance dIn_storable (d : Dev nD) (L : grid1.Coords) (xs : S12288x4096.Idx → Elt F .f32) : BI.Storable (upEmb : UEmb _ 𝕄) (dIn X d L xs) := by
  unfold dIn tileIn; infer_instance
instance cIn_storable (d : Dev nD) (L : grid1.Coords) (o : S8192x2x128.Idx → Elt F .f32) : BI.Storable (upEmb : UEmb _ 𝕄) (cIn X d L o) := by
  unfold cIn tileOut; infer_instance

/-- Each call takes its tiles' operands and brings back their results. -/
def P : (K (F := F)).Pay (nD := nD) (Val := Elt F) (Name := ℕ) (U := UU) where
  st := fun q d c => match q with
    | 0 => bigSep Finset.univ fun i : Fin 16 => dIn X d (co ⟨c.val, c.isLt⟩ i) (X.xs0 d)
    | 1 => bigSep Finset.univ fun i : Fin 16 => cIn X d (co ⟨c.val, c.isLt⟩ i) (X.o0 d)
  dn := fun q d c => match q with
    | 0 => bigSep Finset.univ fun i : Fin 16 => dIn X d (co ⟨c.val, c.isLt⟩ i) (xs1 X d)
    | 1 => bigSep Finset.univ fun i : Fin 16 => cIn X d (co ⟨c.val, c.isLt⟩ i) (o1 X d)
  go := fun q d c i => match q with
    | 0 => dIn X d (co ⟨c.val, c.isLt⟩ ⟨i.val, i.isLt⟩) (X.xs0 d)
    | 1 => cIn X d (co ⟨c.val, c.isLt⟩ ⟨i.val, i.isLt⟩) (X.o0 d)
  td := fun q d c i => match q with
    | 0 => dIn X d (co ⟨c.val, c.isLt⟩ ⟨i.val, i.isLt⟩) (xs1 X d)
    | 1 => cIn X d (co ⟨c.val, c.isLt⟩ ⟨i.val, i.isLt⟩) (o1 X d)
  x := fun _ _ => iprop(emp)

instance P_storable : (P X).IsStorable where
  st q d c := match q with
    | 0 => (inferInstance : BI.Storable (upEmb : UEmb _ 𝕄) (bigSep Finset.univ fun i : Fin 16 => dIn X d (co ⟨c.val, c.isLt⟩ i) (X.xs0 d)))
    | 1 => (inferInstance : BI.Storable (upEmb : UEmb _ 𝕄) (bigSep Finset.univ fun i : Fin 16 => cIn X d (co ⟨c.val, c.isLt⟩ i) (X.o0 d)))
  dn q d c := match q with
    | 0 => (inferInstance : BI.Storable (upEmb : UEmb _ 𝕄) (bigSep Finset.univ fun i : Fin 16 => dIn X d (co ⟨c.val, c.isLt⟩ i) (xs1 X d)))
    | 1 => (inferInstance : BI.Storable (upEmb : UEmb _ 𝕄) (bigSep Finset.univ fun i : Fin 16 => cIn X d (co ⟨c.val, c.isLt⟩ i) (o1 X d)))
  go q d c i := match q with
    | 0 => (inferInstance : BI.Storable (upEmb : UEmb _ 𝕄) (dIn X d (co ⟨c.val, c.isLt⟩ ⟨i.val, i.isLt⟩) (X.xs0 d)))
    | 1 => (inferInstance : BI.Storable (upEmb : UEmb _ 𝕄) (cIn X d (co ⟨c.val, c.isLt⟩ ⟨i.val, i.isLt⟩) (X.o0 d)))
  td q d c i := match q with
    | 0 => (inferInstance : BI.Storable (upEmb : UEmb _ 𝕄) (dIn X d (co ⟨c.val, c.isLt⟩ ⟨i.val, i.isLt⟩) (xs1 X d)))
    | 1 => (inferInstance : BI.Storable (upEmb : UEmb _ 𝕄) (cIn X d (co ⟨c.val, c.isLt⟩ ⟨i.val, i.isLt⟩) (o1 X d)))

theorem vecSplit0 : (K (F := F)).VecSplit' (P X) 0 := by
  intro d c
  show (bigSep Finset.univ fun i : Fin 16 => dIn X d (co ⟨c.val, c.isLt⟩ i) (X.xs0 d)) ⊢ |={Set.univ}=> iprop(
      (bigSep Finset.univ fun i : Fin 16 => dIn X d (co ⟨c.val, c.isLt⟩ i) (X.xs0 d))
      ∗ ((bigSep Finset.univ fun i : Fin 16 => dIn X d (co ⟨c.val, c.isLt⟩ i) (xs1 X d))
          -∗ bigSep Finset.univ fun i : Fin 16 => dIn X d (co ⟨c.val, c.isLt⟩ i) (xs1 X d)))
  iintro H; imodintro
  isplitl [H]; · iexact H
  iintro H; iexact H

theorem vecSplit1 : (K (F := F)).VecSplit' (P X) 1 := by
  intro d c
  show (bigSep Finset.univ fun i : Fin 16 => cIn X d (co ⟨c.val, c.isLt⟩ i) (X.o0 d)) ⊢ |={Set.univ}=> iprop(
      (bigSep Finset.univ fun i : Fin 16 => cIn X d (co ⟨c.val, c.isLt⟩ i) (X.o0 d))
      ∗ ((bigSep Finset.univ fun i : Fin 16 => cIn X d (co ⟨c.val, c.isLt⟩ i) (o1 X d))
          -∗ bigSep Finset.univ fun i : Fin 16 => cIn X d (co ⟨c.val, c.isLt⟩ i) (o1 X d)))
  iintro H; imodintro
  isplitl [H]; · iexact H
  iintro H; iexact H

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl0 (hR : ∀ d, Routed (X.md d) (X.rk d) (X.ct d)) : (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  unfold defs₀
  simp only [SparseCore.onTile, hci, and_self, ↓reduceDIte]
  exact (tile1 d (co ⟨c.val, c.isLt⟩ ⟨i.val, i.isLt⟩) (X.obs d) (X.md d) (X.rk d) (X.ct d) (X.xs0 d) facts (sh (co ⟨c.val, c.isLt⟩ ⟨i.val, i.isLt⟩)) (hR d) O W hO).trans
    (wp_mono frame _ _ fun _ => obl_post)

set_option maxRecDepth 16384 in
theorem tileObl1 (hR : ∀ d, Routed (X.md d) (X.rk d) (X.ct d)) : (K (F := F)).TileObl (D (F := F)) 𝒱 (P X) v₀ 1 := by
  intro d c i O W hO _ _
  simp only [show (P X).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  unfold defs₀
  simp only [SparseCore.onTile, hci, and_self, ↓reduceDIte]
  exact (tile3 d (co ⟨c.val, c.isLt⟩ ⟨i.val, i.isLt⟩) (X.ys d) (X.md d) (X.rk d) (X.ct d) (X.o0 d) facts (sh (co ⟨c.val, c.isLt⟩ ⟨i.val, i.isLt⟩)) (hR d) O W hO).trans
    (wp_mono frame _ _ fun _ => obl_post)

/-- The dispatch's operands, and its results, are the tiles'. -/
theorem dispatch_all (d : Dev nD) (xs : S12288x4096.Idx → Elt F .f32) :
    (bigSep Finset.univ fun c : Fin 2 => bigSep Finset.univ fun i : Fin 16 => dIn X d (co c i) xs)
      = (iprop((loc d main_arg0 ↦{fullShare} X.obs d) ∗ (loc d main_v9 ↦{fullShare} X.md d) ∗ (loc d main_v10 ↦{fullShare} X.rk d)
          ∗ (loc d main_v11 ↦{fullShare} X.ct d) ∗ (loc d main_v12 ↦{fullShare} xs)) : sProp 𝕄) := by
  rw [deal_shares (ℓ := loc d main_arg0), deal_shares (ℓ := loc d main_v9), deal_shares (ℓ := loc d main_v10), deal_shares (ℓ := loc d main_v11),
    deal_parts (ℓ := loc d main_v12) xs (own (X.md d) (X.rk d) (X.ct d)) (own_disjoint _ _ _) (own_cover _ _ _)]
  simp only [← bigSep_sep']
  rfl

/-- The combine's operands, and its results, are the tiles'. -/
theorem combine_all (d : Dev nD) (o : S8192x2x128.Idx → Elt F .f32) :
    (bigSep Finset.univ fun c : Fin 2 => bigSep Finset.univ fun i : Fin 16 => cIn X d (co c i) o)
      = (iprop((loc d main_v19 ↦{fullShare} X.ys d) ∗ (loc d main_v9 ↦{fullShare} X.md d) ∗ (loc d main_v10 ↦{fullShare} X.rk d)
          ∗ (loc d main_v11 ↦{fullShare} X.ct d) ∗ (loc d main_v20 ↦{fullShare} o)) : sProp 𝕄) := by
  rw [deal_shares (ℓ := loc d main_v19), deal_shares (ℓ := loc d main_v9), deal_shares (ℓ := loc d main_v10), deal_shares (ℓ := loc d main_v11),
    deal_parts (ℓ := loc d main_v20) o outR outR_disjoint outR_cover]
  simp only [← bigSep_sep']
  rfl

end Cert.Proof

end
-- ==== Proof.Vals.lean ====
/-
  The program's host operations in order, and the buffers' contents between its four calls.
-/
module

public import proofs.«01_k».proof.Proof.TailR
public import proofs.«01_k».proof.Proof.ExpR
public import proofs.«01_k».proof.Proof.Calls
public import Idealize.ShloMosaic.Lib.Pipeline.FrameTail
public import Idealize.ShloMosaic.Lib.Pipeline.RegionArraysS

@[expose] public section

noncomputable section

namespace Cert.Proof

open Cert.KernelIdeal Cert.KernelIdeal.Gen

open Idealize.ShloMosaic
open Idealize.ShloMosaic.TcCoe
open Idealize.ShloMosaic.StableHlo (seq after)
open Idealize.ShloMosaic.Pipeline (afterRegion arrRef)
open Idealize.SL Idealize.SL.Sem
open Combine (outV)

variable {F : FTy → Type} [FloatOps F]

/-- The classifier's first layer, and its other biases as rows. -/
def opsA : List (HloOp τ sig (Elt F)) :=
  [ StableHlo.binary main_arg0 main_arg1 main_v0 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    StableHlo.unary main_arg2 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S8192x64 ![0, 1] bcast_S1x64_S8192x64_0_1 : (⟨S1x64, .f32⟩ : BufTy).Contents (Elt F) → (⟨S8192x64, .f32⟩ : BufTy).Contents (Elt F)),
    StableHlo.binary main_v0 main_v2 main_v3 (addf : (⟨S8192x64, .f32⟩ : BufTy).Contents (Elt F) → (⟨S8192x64, .f32⟩ : BufTy).Contents (Elt F) → (⟨S8192x64, .f32⟩ : BufTy).Contents (Elt F)),
    StableHlo.TRef.nullary main_call0.cst (constant S_ .f32 0x00000000#32),
    StableHlo.TRef.unary main_call0.cst main_call0.v0 (broadcastInDim S8192x64 ![] bcast_S_S8192x64),
    StableHlo.TRef.binary (.of main_v3) main_call0.v0 main_call0.v1 maximumf,
    StableHlo.reshape main_arg4 main_v5 (rfl : (.f32 : EltTy) = .f32) shapeCasts_S64_S1x64,
    StableHlo.reshape main_arg6 main_v6 (rfl : (.f32 : EltTy) = .f32) shapeCasts_S64_S1x64,
    StableHlo.reshape main_arg8 main_v7 (rfl : (.f32 : EltTy) = .f32) shapeCasts_S8_S1x8 ]

/-- The modes, the ranks and the counts as vectors. -/
def opsB : List (HloOp τ sig (Elt F)) :=
  [ StableHlo.reshape main_v8_0 main_v9 (rfl : (.i32 : EltTy) = .i32) shapeCasts_S8192x1_S8192,
    StableHlo.reshape main_v8_1 main_v10 (rfl : (.i32 : EltTy) = .i32) shapeCasts_S8192x1_S8192,
    StableHlo.reshape main_v8_2 main_v11 (rfl : (.i32 : EltTy) = .i32) shapeCasts_S1x16_S16 ]

/-- The blocks' experts as a vector, the experts' biases as rows. -/
def opsC : List (HloOp τ sig (Elt F)) :=
  [ StableHlo.reshape main_v8_3 main_v13 (rfl : (.i32 : EltTy) = .i32) shapeCasts_S128x1_S128,
    StableHlo.reshape main_arg10 main_v14 (rfl : (.f32 : EltTy) = .f32) shapeCasts_S8x64_S8x1x64,
    StableHlo.reshape main_arg12 main_v15 (rfl : (.f32 : EltTy) = .f32) shapeCasts_S8x64_S8x1x64,
    StableHlo.reshape main_arg14 main_v16 (rfl : (.f32 : EltTy) = .f32) shapeCasts_S8x64_S8x1x64,
    StableHlo.reshape main_arg16 main_v17 (rfl : (.f32 : EltTy) = .f32) shapeCasts_S8x256_S8x1x256 ]

/-- The experts' rows in two halves. -/
def opsD : List (HloOp τ sig (Elt F)) :=
  [ StableHlo.reshape main_v18 main_v19 (rfl : (.f32 : EltTy) = .f32) shapeCasts_S12288x256_S12288x2x128 ]

/-- The result's halves joined. -/
def opsE : List (HloOp τ sig (Elt F)) :=
  [ StableHlo.reshape main_v20 main_v21 (rfl : (.f32 : EltTy) = .f32) shapeCasts_S8192x2x128_S8192x256 ]

theorem main_eq (d : Dev nD) : main (F := F) d = (do
    seq opsA
    Prog.lift (.customCall (SparseCore.inner (Pipeline.entry 0)) ())
    seq opsB
    (K (F := F)).run d 0
    seq opsC
    Prog.lift (.customCall (SparseCore.inner (Pipeline.entry 1)) ())
    seq opsD
    (K (F := F)).run d 1
    seq opsE) := by
  unfold opsA opsB opsC opsD opsE
  simp only [main, fn_relu.body, seq, bind_assoc, pure_bind]

variable (m : (ℓ : Loc nD τ sig) → Buf (Elt F) ℓ) (a : (p : Fin 2) → (pcfgs (F := F) p).Adm)

/-- At launch. -/
def V0 (d : Dev nD) : Valuation τ sig (Elt F) := fun b => m (d, b)
/-- Before the tail of the classifier. -/
def VA (d : Dev nD) : Valuation τ sig (Elt F) := after opsA (V0 m d)
/-- After it. -/
def VB (d : Dev nD) : Valuation τ sig (Elt F) := afterRegion (Tail.dat (VA m) d) (VA m d)
/-- Before the dispatch. -/
def VC (d : Dev nD) : Valuation τ sig (Elt F) := after opsB (VB m d)
/-- After it: the rows sorted. -/
def VD (d : Dev nD) : Valuation τ sig (Elt F) :=
  Function.update (VC m d) (Proc.devRef .tc main_v12)
    (xsV (VC m d (Proc.devRef .tc main_arg0)) (VC m d (Proc.devRef .tc main_v9)) (VC m d (Proc.devRef .tc main_v10)) (VC m d (Proc.devRef .tc main_v11))
      (VC m d (Proc.devRef .tc main_v12)))
/-- Before the experts. -/
def VE (d : Dev nD) : Valuation τ sig (Elt F) := after opsC (VD m d)
/-- After them. -/
def VF (d : Dev nD) : Valuation τ sig (Elt F) := afterRegion (Experts.dat (VE m) a d) (VE m d)
/-- Before the combine. -/
def VG (d : Dev nD) : Valuation τ sig (Elt F) := after opsD (VF m a d)
/-- After it. -/
def VH (d : Dev nD) : Valuation τ sig (Elt F) :=
  Function.update (VG m a d) (Proc.devRef .tc main_v20)
    (outV (VG m a d (Proc.devRef .tc main_v19)) (VG m a d (Proc.devRef .tc main_v9)) (VG m a d (Proc.devRef .tc main_v10)) (VG m a d (Proc.devRef .tc main_v11)))
/-- At the end. -/
def VI (d : Dev nD) : Valuation τ sig (Elt F) := after opsE (VH m a d)

/-- The two SparseCore calls' contents. -/
def cts : Cts F where
  obs d := VC m d (Proc.devRef .tc main_arg0)
  md d := VC m d (Proc.devRef .tc main_v9)
  rk d := VC m d (Proc.devRef .tc main_v10)
  ct d := VC m d (Proc.devRef .tc main_v11)
  xs0 d := VC m d (Proc.devRef .tc main_v12)
  ys d := VG m a d (Proc.devRef .tc main_v19)
  o0 d := VG m a d (Proc.devRef .tc main_v20)

/-! ## Buffers the calls leave alone -/

/-- The tail's call changes its four results. -/
theorem VB_keeps (d : Dev nD) (r : Ref sig .tc) (h : ∀ w, arrRef spec0 w = r → (cfg0.win w).isOut = false) :
    VB m d (Proc.devRef .tc r) = VA m d (Proc.devRef .tc r) :=
  Pipeline.afterRegion_keeps (Tail.dat (VA m) d) (VA m d) (launch0 (F := F)).win.arr_inj (fun w => rfl) r h

/-- The experts' call changes its result. -/
theorem VF_keeps (d : Dev nD) (r : Ref sig .tc) (h : ∀ w, arrRef spec2 w = r → ((cfg2 (F := F) (a 1)).win w).isOut = false) :
    VF m a d (Proc.devRef .tc r) = VE m d (Proc.devRef .tc r) :=
  Pipeline.afterRegion_keeps (Experts.dat (VE m) a d) (VE m d) (launch2 (F := F)).win.arr_inj (fun w => rfl) r h

end Cert.Proof

end
-- ==== Proof.Count.lean ====
/-
  Sorting tokens into blocks of 512 by class, over the naturals: `e i` is the class of token `i`, of eight classes and
  8192 tokens. A token's place is its rank within its class past the blocks of the classes before it.
-/
module

public import proofs.«01_k».proof.Proof.Common

@[expose] public section

namespace Cert.Proof.Count

open Finset

variable (e : ℕ → ℕ)

/-- How many of the first `n` tokens have class `k`. -/
def cnt (k n : ℕ) : ℕ := Nat.count (fun j => e j = k) n
/-- How many blocks class `k` takes. -/
def nb (k : ℕ) : ℕ := (cnt e k 8192 + 511) / 512
/-- How many blocks the first `k` classes take. -/
def cum (k : ℕ) : ℕ := ∑ j ∈ range k, nb e j
/-- The place of token `i`. -/
def pos (i : ℕ) : ℕ := cnt e (e i) i + 512 * cum e (e i)
/-- The class of block `b`, as the count of the classes that end at or before it. -/
def tab (b : ℕ) : ℕ := ((range 8).filter fun k => cum e (k + 1) ≤ b).card

theorem cnt_succ (k n : ℕ) : cnt e k (n + 1) = cnt e k n + if e n = k then 1 else 0 := Nat.count_succ _ _

theorem cnt_le (k n : ℕ) : cnt e k n ≤ n := Nat.count_le _

theorem cnt_mono (k : ℕ) {m n : ℕ} (h : m ≤ n) : cnt e k m ≤ cnt e k n := Nat.count_monotone _ h

theorem cnt_add (k m n : ℕ) : cnt e k (m + n) = cnt e k m + cnt (fun j => e (m + j)) k n := Nat.count_add _ _ _

theorem sum_cnt (he : ∀ i, e i < 8) (n : ℕ) : ∑ k ∈ range 8, cnt e k n = n := by
  induction n with
  | zero => simp [cnt]
  | succ n ih =>
    simp only [cnt_succ, sum_add_distrib, ih]
    rw [sum_ite_eq, if_pos (mem_range.mpr (he n))]

theorem cum_succ (k : ℕ) : cum e (k + 1) = cum e k + nb e k := sum_range_succ _ _

theorem cum_mono {j k : ℕ} (h : j ≤ k) : cum e j ≤ cum e k :=
  sum_le_sum_of_subset (range_subset_range.mpr h)

theorem cum_eight (he : ∀ i, e i < 8) : cum e 8 ≤ 23 := by
  have h := sum_cnt e he 8192
  have h2 : 512 * cum e 8 ≤ ∑ k ∈ range 8, (cnt e k 8192 + 511) := by
    unfold cum
    rw [mul_sum]
    refine sum_le_sum fun k _ => ?_
    unfold nb
    exact Nat.mul_div_le _ _
  rw [sum_add_distrib, h] at h2
  simp at h2
  omega

theorem rank_lt {i : ℕ} (hi : i < 8192) : cnt e (e i) i < 512 * nb e (e i) := by
  have h := cnt_succ e (e i) i
  rw [if_pos rfl] at h
  have h2 := cnt_mono e (e i) (show i + 1 ≤ 8192 by omega)
  unfold nb
  omega

theorem pos_lt_cum {i : ℕ} (hi : i < 8192) : pos e i < 512 * cum e (e i + 1) := by
  have := rank_lt e hi
  rw [cum_succ]; unfold pos; omega

theorem pos_lt (he : ∀ i, e i < 8) {i : ℕ} (hi : i < 8192) : pos e i < 11776 := by
  have h := pos_lt_cum e hi
  have h2 := cum_mono e (show e i + 1 ≤ 8 from he i)
  have h3 := cum_eight e he
  omega

theorem pos_ne_of_lt {i j : ℕ} (hi : i < 8192) (h : e i < e j) : pos e i < pos e j := by
  have h1 := pos_lt_cum e hi
  have h2 := cum_mono e (show e i + 1 ≤ e j from h)
  have : 512 * cum e (e j) ≤ pos e j := by unfold pos; omega
  omega

theorem rank_lt_of_lt {i j : ℕ} (h : e i = e j) (hij : i < j) : cnt e (e i) i < cnt e (e j) j := by
  have h1 := cnt_succ e (e i) i
  rw [if_pos rfl] at h1
  have h2 := cnt_mono e (e i) (show i + 1 ≤ j from hij)
  rw [← h]; omega

theorem pos_inj {i j : ℕ} (hi : i < 8192) (hj : j < 8192) (h : pos e i = pos e j) : i = j := by
  rcases lt_trichotomy (e i) (e j) with h1 | h1 | h1
  · have := pos_ne_of_lt e hi h1; omega
  · rcases lt_trichotomy i j with h2 | h2 | h2
    · have := rank_lt_of_lt e h1 h2
      unfold pos at h; rw [← h1] at h this; omega
    · exact h2
    · have := rank_lt_of_lt e h1.symm h2
      unfold pos at h; rw [← h1] at h this; omega
  · have := pos_ne_of_lt e hj h1; omega

/-- The block of a token's place has the token's class. -/
theorem tab_pos (he : ∀ i, e i < 8) {i : ℕ} (hi : i < 8192) : tab e (pos e i / 512) = e i := by
  have h1 := pos_lt_cum e hi
  have h2 : 512 * cum e (e i) ≤ pos e i := by unfold pos; omega
  have hk := he i
  have : ((range 8).filter fun k => cum e (k + 1) ≤ pos e i / 512) = range (e i) := by
    ext k
    simp only [mem_filter, mem_range]
    constructor
    · rintro ⟨_, h⟩
      by_contra hc
      have := cum_mono e (show e i + 1 ≤ k + 1 by omega)
      omega
    · intro h
      have := cum_mono e (show k + 1 ≤ e i from h)
      omega
  unfold tab
  rw [this, card_range]

theorem tab_le (b : ℕ) : tab e b ≤ 8 := (card_filter_le _ _).trans (by simp)

theorem nb_le (k : ℕ) : nb e k ≤ 16 := by
  have := cnt_le e k 8192; unfold nb; omega

theorem cum_le (k : ℕ) : cum e k ≤ k * 16 := by
  unfold cum
  exact (sum_le_card_nsmul _ _ 16 fun j _ => nb_le e j).trans (by simp)

end Cert.Proof.Count
-- ==== Proof.RankVal.lean ====
/-
  The tail's counting, at the ideal values: where the modes of a block of 512 tokens are the words of their classes, the
  ranks are the words of the counts of earlier tokens of the class, and the counts grow by the block's.
-/
module

public import proofs.«01_k».proof.Proof.Count
public import proofs.«01_k».proof.Proof.Tail1
public import Idealize.ShloMosaic.PureOps.Ideal.Laws
public import Idealize.ShloMosaic.Lib.MatmulPlain
public import Idealize.ShloMosaic.Lib.IdealHost
public import Idealize.ShloMosaic.Lib.ValueLayout
public import Idealize.ShloMosaic.Lib.ValueLayoutCasts
public import Idealize.ShloMosaic.Lib.IndicatorCount
public import Idealize.ShloMosaic.Lib.WordCmp

@[expose] public section

noncomputable section

namespace Cert.Proof.Tail

open Cert.KernelIdeal Cert.KernelIdeal.Gen
open Idealize.ShloMosaic Idealize.ShloMosaic.ValueIdx Idealize.ShloMosaic.WordCmp
open Cert.Proof.Count

/-! ## Naturals among the extended reals -/

/-- A natural as an extended real. -/
def nr (n : ℕ) : EReal := ((n : ℝ) : EReal)

theorem nr_zero : nr 0 = 0 := by simp [nr]
theorem nr_one : nr 1 = 1 := by simp [nr]
theorem nr_add (a b : ℕ) : nr a + nr b = nr (a + b) := by
  unfold nr; rw [← EReal.coe_add]; norm_cast
theorem nr_sub {a b : ℕ} (h : b ≤ a) : nr a - nr b = nr (a - b) := by
  unfold nr; rw [← EReal.coe_sub, Nat.cast_sub h]
theorem nr_sum {ι : Type} (s : Finset ι) (f : ι → ℕ) : ∑ i ∈ s, nr (f i) = nr (∑ i ∈ s, f i) := by
  classical
  induction s using Finset.induction_on with
  | empty => simp [nr_zero]
  | insert a s ha ih => rw [Finset.sum_insert ha, Finset.sum_insert ha, ih, nr_add]

theorem word_nr {n : ℕ} (h : n < 2 ^ 31) : Ideal.fptosi 32 (nr n) = BitVec.ofNat 32 n := by
  have h1 : Ideal.toIntClamped (-(2 ^ (32 - 1) : ℕ)) ((2 ^ (32 - 1) : ℕ) - 1) (nr n) = (n : ℤ) := by
    show max _ (min _ (if (0 : ℝ) ≤ (n : ℝ) then ⌊(n : ℝ)⌋ else ⌈(n : ℝ)⌉)) = (n : ℤ)
    rw [if_pos (Nat.cast_nonneg n), Int.floor_natCast]
    omega
  unfold Ideal.fptosi
  rw [h1, BitVec.ofInt_natCast]

theorem nr_word {n : ℕ} (h : n < 2 ^ 31) : (((BitVec.ofNat 32 n).toInt : ℝ) : EReal) = nr n := by
  rw [toInt_ofNat_of_lt (w := 32) h]; simp [nr]

/-- The word of a comparison, as a number. -/
theorem nr_ofBool (p : Prop) [Decidable p] : (((((BitVec.ofBool (decide p)).setWidth 32 : BitVec 32).toInt : ℤ) : ℝ) : EReal) = nr (if p then 1 else 0) := by
  by_cases h : p
  · simp [h, nr]
  · simp [h, nr]

/-! ## Sums and maxima along the lanes -/

theorem lift_row (r : Fin 512) (k : Fin 8) : (reduces_S512x8_S512).lift (ix1 r) k = ix2 r k := by
  funext a; apply Fin.ext
  match a with
  | ⟨0, _⟩ => rfl
  | ⟨1, _⟩ => rfl

theorem row_sum (x : FVec Ideal S512x8 .f32) (r : Fin 512) :
    multiReduction (F := Ideal) .add [1] S512 x 0x00000000#32 reduces_S512x8_S512 (.inl rfl) rfl (ix1 r) = ∑ k : Fin 8, (x (ix2 r k) : EReal) := by
  refine (Ideal.multiReduction_add_single (φ := .f32) x 0x00000000#32 reduces_S512x8_S512 (.inl rfl) rfl (ix1 r)).trans ?_
  exact Finset.sum_congr rfl fun k _ => congrArg x (lift_row r k)

theorem row_max (x : FVec Ideal S512x8 .f32) (r : Fin 512) :
    multiReduction (F := Ideal) .maximumf [1] S512 x 0xFF800000#32 reduces_S512x8_S512 (.inl rfl) rfl (ix1 r)
      = (Finset.univ : Finset (Fin 8)).fold max (Ideal.ofBits .f32 0xFF800000#32) (fun k => (x (ix2 r k) : EReal)) := by
  refine (Ideal.multiReduction_maximumf_single (φ := .f32) x 0xFF800000#32 reduces_S512x8_S512 (.inl rfl) rfl (ix1 r)).trans ?_
  exact Finset.fold_congr fun k _ => congrArg x (lift_row r k)

/-! ## The ranks -/

section
variable (p mx : FVec Ideal S512x8 .f32) (e : ℕ → ℕ) (he : ∀ i, e i < 8)
  (hm : ∀ r : Fin 512, k0_pay4 (F := Ideal) p lanes mx (ix2 r (0 : Fin 1)) = BitVec.ofNat 32 (e r.val))
include he hm

theorem pay6_apply (r : Fin 512) (k : Fin 8) :
    k0_pay6 (F := Ideal) p lanes mx (ix2 r k) = nr (if e r.val = k.val then 1 else 0) := by
  have h1 : broadcastTo S512x8 (k0_pay4 (F := Ideal) p lanes mx) broadcasts_S512x1_S512x8 (ix2 r k) = BitVec.ofNat 32 (e r.val) :=
    (broadcastTo_apply _ _ _ (ix2 r (0 : Fin 1)) (fun a => by match a with | ⟨0, _⟩ => rfl | ⟨1, _⟩ => rfl)).trans (hm r)
  have h2 : lanes (ix2 r k) = BitVec.ofNat 32 k.val := iota_single_apply .tc S512x8 32 1 iota_S512x8_d1_w32 (ix2 r k)
  have h3 : k0_pay6 (F := Ideal) p lanes mx (ix2 r k)
      = ((((IntOp.cmpi .eq (broadcastTo S512x8 (k0_pay4 (F := Ideal) p lanes mx) broadcasts_S512x1_S512x8 (ix2 r k)) (lanes (ix2 r k))).setWidth 32 : BitVec 32).toInt : ℝ) : EReal) := rfl
  rw [h3, h1, h2, cmpi_eq_eq]
  have h4 : (BitVec.ofNat 32 (e r.val) = BitVec.ofNat 32 k.val) ↔ e r.val = k.val :=
    ofNat_eq_ofNat_iff (by have := he r.val; omega) (by have := k.isLt; omega)
  simp only [h4]
  exact nr_ofBool _

omit he hm in
theorem count_upto (k r n : ℕ) (h : r < n) : ∑ j ∈ Finset.range n, (if j ≤ r ∧ e j = k then 1 else 0) = cnt e k (r + 1) := by
  have key : ∀ m, ∑ j ∈ Finset.range m, (if j ≤ r ∧ e j = k then 1 else 0) = cnt e k (min m (r + 1)) := by
    intro m
    induction m with
    | zero => simp [cnt]
    | succ m ih =>
      rw [Finset.sum_range_succ, ih]
      by_cases hr : m ≤ r
      · rw [min_eq_left (by omega), min_eq_left (by omega), cnt_succ]
        simp [hr]
      · rw [min_eq_right (by omega), min_eq_right (by omega)]
        simp [hr]
  rw [key, min_eq_right (by omega)]

theorem pay7_apply (r : Fin 512) (k : Fin 8) :
    k0_pay7 (F := Ideal) p lanes mx (ix2 r k) = nr (cnt e k.val (r.val + 1)) := by
  have h := Ideal.matmul_plain_apply (M := 512) (K := 512) (N := 8) (φ₁ := .f32) (φ₂ := .f32) none
    (sitofp .f32 (extui 32 (cmpi .sle (iota .tc S512x512 32 [1] iota_S512x512_d1_w32) (iota .tc S512x512 32 [0] iota_S512x512_d0_w32)) natLt_1_32))
    (k0_pay6 (F := Ideal) p lanes mx) (constant S512x8 .f32 0x00000000#32) r k
  refine h.trans ?_
  rw [show (constant (F := Ideal) S512x8 .f32 0x00000000#32) (ix2 r k) = 0 from Ideal.ofBits_zero_f32, zero_add]
  have ht : ∀ j : Fin 512, (sitofp (F := Ideal) .f32 (extui 32 (cmpi .sle (iota .tc S512x512 32 [1] iota_S512x512_d1_w32) (iota .tc S512x512 32 [0] iota_S512x512_d0_w32)) natLt_1_32)) (ix2 r j)
      = nr (if j.val ≤ r.val then 1 else 0) := by
    intro j
    have e1 : (iota .tc S512x512 32 [1] iota_S512x512_d1_w32) (ix2 r j) = BitVec.ofNat 32 j.val := iota_single_apply .tc S512x512 32 1 iota_S512x512_d1_w32 (ix2 r j)
    have e0 : (iota .tc S512x512 32 [0] iota_S512x512_d0_w32) (ix2 r j) = BitVec.ofNat 32 r.val := iota_single_apply .tc S512x512 32 0 iota_S512x512_d0_w32 (ix2 r j)
    show ((((IntOp.cmpi .sle ((iota .tc S512x512 32 [1] iota_S512x512_d1_w32) (ix2 r j)) ((iota .tc S512x512 32 [0] iota_S512x512_d0_w32) (ix2 r j))).setWidth 32 : BitVec 32).toInt : ℝ) : EReal) = _
    rw [e1, e0, cmpi_sle_eq, toInt_ofNat_of_lt (w := 32) (by have := j.isLt; omega), toInt_ofNat_of_lt (w := 32) (by have := r.isLt; omega), nr_ofBool]
    simp only [Nat.cast_le]
  rw [Finset.sum_congr rfl fun j _ => show _ = nr (if j.val ≤ r.val ∧ e j.val = k.val then 1 else 0) by
    rw [ht j, pay6_apply p mx e he hm j k]
    by_cases h1 : j.val ≤ r.val <;> by_cases h2 : e j.val = k.val <;> simp [h1, h2, nr_zero, nr_one]]
  rw [nr_sum, Fin.sum_univ_eq_sum_range (fun j => if j ≤ r.val ∧ e j = k.val then 1 else 0) 512, count_upto e k.val r.val 512 r.isLt]

theorem pay8_apply (C : FVec Ideal S1x8 .f32) (c : ℕ → ℕ) (hc : ∀ k, c k ≤ 8192) (hC : ∀ k : Fin 8, C (ix2 (0 : Fin 1) k) = nr (c k.val)) (r : Fin 512) :
    k0_pay8 (F := Ideal) p lanes mx C (ix2 r (0 : Fin 1)) = BitVec.ofNat 32 (c (e r.val) + cnt e (e r.val) r.val) := by
  have h1 : k0_pay8 (F := Ideal) p lanes mx C (ix2 r (0 : Fin 1))
      = Ideal.fptosi 32 (shapeCast S512x1 (multiReduction (F := Ideal) .add [1] S512
          (mulf (k0_pay6 p lanes mx) (subf (addf (k0_pay7 p lanes mx) (broadcastTo S512x8 C broadcasts_S1x8_S512x8)) (broadcast S512x8 (Scalar.ofBits .f32 0x3F800000#32))))
          0x00000000#32 reduces_S512x8_S512 (.inl rfl) rfl) shapeCasts_S512_S512x1 (ix2 r (0 : Fin 1))) := rfl
  rw [h1, shapeCast_a_a1_apply]
  refine (congrArg (Ideal.fptosi 32) (row_sum _ r)).trans ?_
  have hcnt := cnt_succ e (e r.val) r.val
  rw [if_pos rfl] at hcnt
  rw [Finset.sum_eq_single (⟨e r.val, he r.val⟩ : Fin 8)]
  · show Ideal.fptosi 32 (k0_pay6 (F := Ideal) p lanes mx (ix2 r _) * (k0_pay7 (F := Ideal) p lanes mx (ix2 r _) + broadcastTo S512x8 C broadcasts_S1x8_S512x8 (ix2 r _) - Ideal.ofBits .f32 0x3F800000#32)) = _
    rw [pay6_apply p mx e he hm, pay7_apply p mx e he hm, broadcastTo_1b_ab_apply, hC, if_pos rfl, nr_one, one_mul, Ideal.ofBits_one_f32,
      ← nr_one, nr_add, nr_sub (show 1 ≤ cnt e (e r.val) (r.val + 1) + c (e r.val) by omega), word_nr]
    · congr 1
      show cnt e (e r.val) (r.val + 1) + c (e r.val) - 1 = _
      omega
    · have := hc (e r.val)
      have := cnt_le e (e r.val) (r.val + 1)
      have := r.isLt
      show cnt e (e r.val) (r.val + 1) + c (e r.val) - 1 < _
      omega
  · intro k _ hk
    show k0_pay6 (F := Ideal) p lanes mx (ix2 r k) * _ = 0
    rw [pay6_apply p mx e he hm, if_neg (fun h => hk (Fin.ext h.symm)), nr_zero, zero_mul]
  · intro h; exact absurd (Finset.mem_univ _) h

theorem pay9_apply (C : FVec Ideal S1x8 .f32) (c : ℕ → ℕ) (hC : ∀ k : Fin 8, C (ix2 (0 : Fin 1) k) = nr (c k.val)) (k : Fin 8) :
    k0_pay9 (F := Ideal) p lanes mx C (ix2 (0 : Fin 1) k) = nr (c k.val + cnt e k.val 512) := by
  have h1 : extractStridedSlice S1x8 ![511, 0] (k0_pay7 (F := Ideal) p lanes mx) slices_S512x8_o511_0_S1x8 (ix2 (0 : Fin 1) k)
      = k0_pay7 (F := Ideal) p lanes mx (ix2 (⟨511, by decide⟩ : Fin 512) k) := slice2_axis0_apply 511 _ _ _ _ _ rfl
  show C (ix2 (0 : Fin 1) k) + extractStridedSlice S1x8 ![511, 0] (k0_pay7 (F := Ideal) p lanes mx) slices_S512x8_o511_0_S1x8 (ix2 (0 : Fin 1) k) = _
  rw [h1, pay7_apply p mx e he hm, hC, nr_add]

theorem pay10_apply (C : FVec Ideal S1x8 .f32) (c : ℕ → ℕ) (hC : ∀ k : Fin 8, C (ix2 (0 : Fin 1) k) = nr (c k.val)) (k : Fin 8) :
    k0_pay10 (F := Ideal) p lanes mx C (ix2 (0 : Fin 1) k) = nr (c k.val + cnt e k.val 512) := by
  show shapeCast S1x8 (k0_pay9 (F := Ideal) p lanes mx C) shapeCasts_S1x8_S1x8 _ = _
  rw [shapeCast_self]
  exact pay9_apply p mx e he hm C c hC k

theorem pay11_apply (C : FVec Ideal S1x8 .f32) (c : ℕ → ℕ) (hc : ∀ k, c k ≤ 8192) (hC : ∀ k : Fin 8, C (ix2 (0 : Fin 1) k) = nr (c k.val)) (l : Fin 16) :
    k0_pay11 (F := Ideal) p lanes mx C (ix2 (0 : Fin 1) l) = BitVec.ofNat 32 (if l.val < 8 then c l.val + cnt e l.val 512 else 0) := by
  by_cases hl : l.val < 8
  · rw [if_pos hl]
    have h1 : k0_pay11 (F := Ideal) p lanes mx C (ix2 (0 : Fin 1) l) = fptosi 32 (k0_pay9 (F := Ideal) p lanes mx C) (ix2 (0 : Fin 1) (⟨l.val, hl⟩ : Fin 8)) :=
      concatenate_pair_apply_left 1 _ _ concatenates_S1x8_S1x8_S1x16_d1 (ix2 (0 : Fin 1) l) rfl (ix2 (0 : Fin 1) (⟨l.val, hl⟩ : Fin 8))
        (fun b => by match b with | ⟨0, _⟩ => rfl | ⟨1, _⟩ => rfl)
    rw [h1]
    show Ideal.fptosi 32 (k0_pay9 (F := Ideal) p lanes mx C _) = _
    rw [pay9_apply p mx e he hm C c hC, word_nr]
    have := hc l.val
    have := cnt_le e l.val 512
    show c l.val + cnt e l.val 512 < _
    omega
  · rw [if_neg hl]
    exact concatenate_pair_apply_right 1 _ _ concatenates_S1x8_S1x8_S1x16_d1 (ix2 (0 : Fin 1) l) rfl rfl (ix2 (0 : Fin 1) (⟨l.val - 8, by have := l.isLt; omega⟩ : Fin 8))
        (fun b hb => by match b with | ⟨0, _⟩ => rfl | ⟨1, _⟩ => exact absurd rfl hb)
        (by show l.val - 8 + 8 = l.val; omega)

end

end Cert.Proof.Tail
-- ==== Proof.TableVal.lean ====
/-
  The blocks: the table of a count vector names each block's class, and the dispatch's start words are the starts of the
  classes' blocks.
-/
module

public import proofs.«01_k».proof.Proof.RankVal

@[expose] public section

noncomputable section

namespace Cert.Proof.Tail

open Cert.KernelIdeal Cert.KernelIdeal.Gen
open Idealize.ShloMosaic Idealize.ShloMosaic.ValueIdx Idealize.ShloMosaic.WordCmp
open Cert.Proof.Count

/-! ## Sums shifted along the lanes -/

/-- A lane with the lane `s` before it. -/
def sh (s : ℕ) (g : ℕ → ℕ) (k : ℕ) : ℕ := g k + if s ≤ k then g (k - s) else 0

theorem sh_sum (g : ℕ → ℕ) (k : ℕ) (hk : k < 8) : sh 4 (sh 2 (sh 1 g)) k = ∑ j ∈ Finset.range (k + 1), g j := by
  interval_cases k <;> simp [sh, Finset.sum_range_succ] <;> omega

theorem bits_511 : Ideal.ofBits .f32 0x43FF8000#32 = nr 511 := by
  unfold nr
  simp [Ideal.ofBits, Ideal.ieee, -EReal.coe_mul]; norm_num

theorem bits_512 : Ideal.ofBits .f32 0x44000000#32 = nr 512 := by
  unfold nr
  simp [Ideal.ofBits, Ideal.ieee, -EReal.coe_mul]; norm_num

theorem word_zero : (Scalar.sitofp (F := Ideal) .f32 0#32 : EReal) = 0 := by
  show (((0#32 : BitVec 32).toInt : ℝ) : EReal) = 0
  simp

theorem floor_div (n : ℕ) : Ideal.liftRound Int.floor (Ideal.div (nr n) (nr 512)) = nr (n / 512) := by
  have h : Ideal.div (nr n) (nr 512) = (((n : ℝ) / 512 : ℝ) : EReal) := by
    unfold Ideal.div nr
    rw [if_neg (by norm_num), ← EReal.coe_inv, ← EReal.coe_mul]
    congr 1
  rw [h]
  show (((⌊(n : ℝ) / 512⌋ : ℤ) : ℝ) : EReal) = nr (n / 512)
  have h2 : ⌊(n : ℝ) / 512⌋ = ((n / 512 : ℕ) : ℤ) := by
    have h3 : n = 512 * (n / 512) + n % 512 := (Nat.div_add_mod n 512).symm
    have h4 : n % 512 < 512 := Nat.mod_lt _ (by norm_num)
    generalize n / 512 = q at h3 ⊢
    generalize n % 512 = r at h3 h4
    subst h3
    rw [Int.floor_eq_iff]
    have h5 : (r : ℝ) < 512 := by exact_mod_cast h4
    have h6 : (0 : ℝ) ≤ r := Nat.cast_nonneg r
    push_cast
    constructor <;> linarith
  rw [h2]; unfold nr; norm_cast

theorem shift_1 (v : FVec Ideal S1x8 .f32) (g : ℕ → ℕ) (hv : ∀ k : Fin 8, v (ix2 (0 : Fin 1) k) = nr (g k.val)) (k : Fin 8) :
    addf v (extractStridedSlice S1x8 ![0, 0] (concatenate S1x9 1 [⟨S1x1, broadcast S1x1 (Scalar.sitofp (F := Ideal) .f32 0#32)⟩, ⟨S1x8, v⟩] concatenates_S1x1_S1x8_S1x9_d1) slices_S1x9_o0_0_S1x8) (ix2 (0 : Fin 1) k)
      = nr (sh 1 g k.val) := by
  rw [addf_apply, hv, slice2_axis1_apply 0 _ _ (0 : Fin 1) k (⟨k.val, by have := k.isLt; omega⟩ : Fin 9) (Nat.zero_add _).symm]
  unfold sh
  by_cases h : 1 ≤ k.val
  · rw [if_pos h, ← nr_add]
    refine congrArg (nr (g k.val) + ·) ?_
    refine (concatenate_pair_apply_right 1 _ _ concatenates_S1x1_S1x8_S1x9_d1 (ix2 (0 : Fin 1) (⟨k.val, by have := k.isLt; omega⟩ : Fin 9)) rfl rfl (ix2 (0 : Fin 1) (⟨k.val - 1, by have := k.isLt; omega⟩ : Fin 8))
      (fun b hb => by match b with | ⟨0, _⟩ => rfl | ⟨1, _⟩ => exact absurd rfl hb) (by show k.val - 1 + 1 = k.val; omega)).trans (hv _)
  · rw [if_neg h, ← nr_add, nr_zero]
    refine congrArg (nr (g k.val) + ·) ?_
    exact (concatenate_pair_apply_left 1 _ _ concatenates_S1x1_S1x8_S1x9_d1 (ix2 (0 : Fin 1) (⟨k.val, by have := k.isLt; omega⟩ : Fin 9)) rfl (ix2 (0 : Fin 1) (⟨k.val, by omega⟩ : Fin 1))
      (fun b => by match b with | ⟨0, _⟩ => rfl | ⟨1, _⟩ => rfl)).trans word_zero

theorem shift_2 (v : FVec Ideal S1x8 .f32) (g : ℕ → ℕ) (hv : ∀ k : Fin 8, v (ix2 (0 : Fin 1) k) = nr (g k.val)) (k : Fin 8) :
    addf v (extractStridedSlice S1x8 ![0, 0] (concatenate S1x10 1 [⟨S1x2, broadcast S1x2 (Scalar.sitofp (F := Ideal) .f32 0#32)⟩, ⟨S1x8, v⟩] concatenates_S1x2_S1x8_S1x10_d1) slices_S1x10_o0_0_S1x8) (ix2 (0 : Fin 1) k)
      = nr (sh 2 g k.val) := by
  rw [addf_apply, hv, slice2_axis1_apply 0 _ _ (0 : Fin 1) k (⟨k.val, by have := k.isLt; omega⟩ : Fin 10) (Nat.zero_add _).symm]
  unfold sh
  by_cases h : 2 ≤ k.val
  · rw [if_pos h, ← nr_add]
    refine congrArg (nr (g k.val) + ·) ?_
    refine (concatenate_pair_apply_right 1 _ _ concatenates_S1x2_S1x8_S1x10_d1 (ix2 (0 : Fin 1) (⟨k.val, by have := k.isLt; omega⟩ : Fin 10)) rfl rfl (ix2 (0 : Fin 1) (⟨k.val - 2, by have := k.isLt; omega⟩ : Fin 8))
      (fun b hb => by match b with | ⟨0, _⟩ => rfl | ⟨1, _⟩ => exact absurd rfl hb) (by show k.val - 2 + 2 = k.val; omega)).trans (hv _)
  · rw [if_neg h, ← nr_add, nr_zero]
    refine congrArg (nr (g k.val) + ·) ?_
    exact (concatenate_pair_apply_left 1 _ _ concatenates_S1x2_S1x8_S1x10_d1 (ix2 (0 : Fin 1) (⟨k.val, by have := k.isLt; omega⟩ : Fin 10)) rfl (ix2 (0 : Fin 1) (⟨k.val, by omega⟩ : Fin 2))
      (fun b => by match b with | ⟨0, _⟩ => rfl | ⟨1, _⟩ => rfl)).trans word_zero

theorem shift_4 (v : FVec Ideal S1x8 .f32) (g : ℕ → ℕ) (hv : ∀ k : Fin 8, v (ix2 (0 : Fin 1) k) = nr (g k.val)) (k : Fin 8) :
    addf v (extractStridedSlice S1x8 ![0, 0] (concatenate S1x12 1 [⟨S1x4, broadcast S1x4 (Scalar.sitofp (F := Ideal) .f32 0#32)⟩, ⟨S1x8, v⟩] concatenates_S1x4_S1x8_S1x12_d1) slices_S1x12_o0_0_S1x8) (ix2 (0 : Fin 1) k)
      = nr (sh 4 g k.val) := by
  rw [addf_apply, hv, slice2_axis1_apply 0 _ _ (0 : Fin 1) k (⟨k.val, by have := k.isLt; omega⟩ : Fin 12) (Nat.zero_add _).symm]
  unfold sh
  by_cases h : 4 ≤ k.val
  · rw [if_pos h, ← nr_add]
    refine congrArg (nr (g k.val) + ·) ?_
    refine (concatenate_pair_apply_right 1 _ _ concatenates_S1x4_S1x8_S1x12_d1 (ix2 (0 : Fin 1) (⟨k.val, by have := k.isLt; omega⟩ : Fin 12)) rfl rfl (ix2 (0 : Fin 1) (⟨k.val - 4, by have := k.isLt; omega⟩ : Fin 8))
      (fun b hb => by match b with | ⟨0, _⟩ => rfl | ⟨1, _⟩ => exact absurd rfl hb) (by show k.val - 4 + 4 = k.val; omega)).trans (hv _)
  · rw [if_neg h, ← nr_add, nr_zero]
    refine congrArg (nr (g k.val) + ·) ?_
    exact (concatenate_pair_apply_left 1 _ _ concatenates_S1x4_S1x8_S1x12_d1 (ix2 (0 : Fin 1) (⟨k.val, by have := k.isLt; omega⟩ : Fin 12)) rfl (ix2 (0 : Fin 1) (⟨k.val, by omega⟩ : Fin 4))
      (fun b => by match b with | ⟨0, _⟩ => rfl | ⟨1, _⟩ => rfl)).trans word_zero

/-! ## The table -/

theorem lift_col (b : Fin 128) (k : Fin 8) : (reduces_S128x8_S128).lift (ix1 b) k = ix2 b k := by
  funext a; apply Fin.ext
  match a with
  | ⟨0, _⟩ => rfl
  | ⟨1, _⟩ => rfl

theorem col_sum (x : IVec S128x8 1) (b : Fin 128) :
    multiReductionI .add [1] S128 (extui 32 x natLt_1_32) 0#32 reduces_S128x8_S128 rfl (ix1 b)
      = BitVec.ofNat 32 ((Finset.univ : Finset (Fin 8)).filter fun k => x (ix2 b k) = 1#1).card := by
  refine (multiReductionI_eq_fold _ _ _ _ _ _).trans ?_
  refine ((reduces_S128x8_S128).fold_filter_drop_single _ _ _ (ix1 b)).trans ?_
  refine Eq.trans (Finset.fold_congr (g := fun k : Fin 8 => (x (ix2 b k)).setWidth 32) fun k _ => ?_) (IndicatorCount.fold_addi_setWidth_eq_card (fun k : Fin 8 => x (ix2 b k)) Finset.univ)
  exact congrArg (fun i => (x i).setWidth 32) (lift_col b k)

section
variable (v : FVec Ideal S1x8 .f32) (e : ℕ → ℕ) (hv : ∀ k : Fin 8, v (ix2 (0 : Fin 1) k) = nr (cnt e k.val 8192))
include hv

/-- The blocks' running totals, as words. -/
theorem table_apply (b : Fin 128) : k0_pay1 (F := Ideal) v (ix2 b (0 : Fin 1)) = BitVec.ofNat 32 (min (tab e b.val) 7) := by
  let v79 : FVec Ideal S1x8 .f32 := floor (divf (addf v (broadcast S1x8 (Scalar.ofBits .f32 0x43FF8000#32))) (broadcast S1x8 (Scalar.ofBits .f32 0x44000000#32)))
  have h79 : ∀ k : Fin 8, v79 (ix2 (0 : Fin 1) k) = nr (nb e k.val) := by
    intro k
    show Ideal.liftRound Int.floor (Ideal.div (v (ix2 (0 : Fin 1) k) + Ideal.ofBits .f32 0x43FF8000#32) (Ideal.ofBits .f32 0x44000000#32)) = _
    rw [hv, bits_511, bits_512, nr_add, floor_div]
    rfl
  let v84 : FVec Ideal S1x8 .f32 := addf v79 (extractStridedSlice S1x8 ![0, 0] (concatenate S1x9 1 [⟨S1x1, broadcast S1x1 (Scalar.sitofp (F := Ideal) .f32 0#32)⟩, ⟨S1x8, v79⟩] concatenates_S1x1_S1x8_S1x9_d1) slices_S1x9_o0_0_S1x8)
  have h84 : ∀ k : Fin 8, v84 (ix2 (0 : Fin 1) k) = nr (sh 1 (nb e) k.val) := shift_1 v79 _ h79
  let v89 : FVec Ideal S1x8 .f32 := addf v84 (extractStridedSlice S1x8 ![0, 0] (concatenate S1x10 1 [⟨S1x2, broadcast S1x2 (Scalar.sitofp (F := Ideal) .f32 0#32)⟩, ⟨S1x8, v84⟩] concatenates_S1x2_S1x8_S1x10_d1) slices_S1x10_o0_0_S1x8)
  have h89 : ∀ k : Fin 8, v89 (ix2 (0 : Fin 1) k) = nr (sh 2 (sh 1 (nb e)) k.val) := shift_2 v84 _ h84
  let v94 : FVec Ideal S1x8 .f32 := addf v89 (extractStridedSlice S1x8 ![0, 0] (concatenate S1x12 1 [⟨S1x4, broadcast S1x4 (Scalar.sitofp (F := Ideal) .f32 0#32)⟩, ⟨S1x8, v89⟩] concatenates_S1x4_S1x8_S1x12_d1) slices_S1x12_o0_0_S1x8)
  have h94 : ∀ k : Fin 8, v94 (ix2 (0 : Fin 1) k) = nr (cum e (k.val + 1)) := fun k =>
    (shift_4 v89 _ h89 k).trans (congrArg nr (sh_sum (nb e) k.val k.isLt))
  have hcum : ∀ k : Fin 8, cum e (k.val + 1) ≤ 128 := fun k => by
    have := cum_le e (k.val + 1); have := k.isLt; omega
  let x : IVec S128x8 1 := cmpi .sge (iota .tc S128x8 32 [0] iota_S128x8_d0_w32) (broadcastTo S128x8 (shapeCast S1x8 (fptosi 32 v94) shapeCasts_S1x8_S1x8) broadcasts_S1x8_S128x8)
  have hx : ∀ k : Fin 8, x (ix2 b k) = 1#1 ↔ cum e (k.val + 1) ≤ b.val := by
    intro k
    have e0 : (iota .tc S128x8 32 [0] iota_S128x8_d0_w32) (ix2 b k) = BitVec.ofNat 32 b.val := iota_single_apply .tc S128x8 32 0 iota_S128x8_d0_w32 (ix2 b k)
    have e1 : (broadcastTo S128x8 (shapeCast S1x8 (fptosi 32 v94) shapeCasts_S1x8_S1x8) broadcasts_S1x8_S128x8) (ix2 b k) = BitVec.ofNat 32 (cum e (k.val + 1)) := by
      rw [broadcastTo_1b_ab_apply, shapeCast_self]
      show Ideal.fptosi 32 (v94 (ix2 (0 : Fin 1) k)) = _
      rw [h94, word_nr (lt_of_le_of_lt (hcum k) (by norm_num))]
    show IntOp.cmpi .sge ((iota .tc S128x8 32 [0] iota_S128x8_d0_w32) (ix2 b k)) ((broadcastTo S128x8 (shapeCast S1x8 (fptosi 32 v94) shapeCasts_S1x8_S1x8) broadcasts_S1x8_S128x8) (ix2 b k)) = 1#1 ↔ _
    rw [e0, e1, cmpi_sge_eq, toInt_ofNat_of_lt (w := 32) (lt_trans b.isLt (by norm_num)), toInt_ofNat_of_lt (w := 32) (lt_of_le_of_lt (hcum k) (by norm_num)), ofBool_decide_eq_one_iff]
    exact Nat.cast_le
  have hcard : ((Finset.univ : Finset (Fin 8)).filter fun k => x (ix2 b k) = 1#1).card = tab e b.val := by
    rw [Finset.filter_congr fun k _ => hx k]
    unfold tab
    rw [← Finset.card_map Fin.valEmbedding]
    congr 1
    ext j
    simp only [Finset.mem_map, Finset.mem_filter, Finset.mem_univ, true_and, Finset.mem_range, Fin.valEmbedding_apply]
    exact ⟨fun ⟨k, h1, h2⟩ => h2 ▸ ⟨k.isLt, h1⟩, fun ⟨h1, h2⟩ => ⟨⟨j, h1⟩, h2, rfl⟩⟩
  have h1 : k0_pay1 (F := Ideal) v (ix2 b (0 : Fin 1))
      = IntOp.minsi (shapeCast S128x1 (multiReductionI .add [1] S128 (extui 32 x natLt_1_32) 0#32 reduces_S128x8_S128 rfl) shapeCasts_S128_S128x1 (ix2 b (0 : Fin 1))) 7#32 := rfl
  rw [h1, shapeCast_a_a1_apply, col_sum, hcard]
  have := tab_le e b.val
  generalize tab e b.val = n at this
  interval_cases n <;> decide

end

/-! ## The starts of the classes -/

theorem foldl_words (f : ℕ → ℕ) (l : List (Fin 16)) (a : ℕ) :
    l.foldl (fun r k => r + BitVec.ofNat 32 (f k.val)) (BitVec.ofNat 32 a) = BitVec.ofNat 32 (a + (l.map fun k => f k.val).sum) := by
  induction l generalizing a with
  | nil => simp
  | cons k l ih =>
    rw [List.foldl_cons, ← BitVec.ofNat_add, ih, List.map_cons, List.sum_cons, Nat.add_assoc]

theorem scan_words (v : IVec S16 32) (f : ℕ → ℕ) (hv : ∀ k : Fin 16, v (ix1 k) = BitVec.ofNat 32 (f k.val)) (k : Fin 16) (hk : k.val < 8) :
    scan .sum v (ix1 k) = BitVec.ofNat 32 (∑ j ∈ Finset.range (k.val + 1), f j) := by
  have hl : ∀ k : Fin 16, v (Shape.ofLane (d := ![16]) k) = BitVec.ofNat 32 (f k.val) := fun k => (congrArg v (by funext a; match a with | ⟨0, _⟩ => rfl)).trans (hv k)
  have h1 : scan .sum v (ix1 k) = ((List.finRange 16).filter fun j => decide (0 < j.val ∧ j.val ≤ k.val)).foldl
      (fun r j => r + v (Shape.ofLane (d := ![16]) j)) (v (Shape.ofLane (d := ![16]) (⟨0, by decide⟩ : Fin 16))) := rfl
  have h2 : (fun (r : BitVec 32) (j : Fin 16) => r + v (Shape.ofLane (d := ![16]) j)) = fun r j => r + BitVec.ofNat 32 (f j.val) := funext fun r => funext fun j => congrArg (r + ·) (hl j)
  refine (h1.trans ((congrArg (List.foldl · _ _) h2).trans (congrArg (List.foldl _ · _) (hl ⟨0, by decide⟩)))).trans ((foldl_words f _ _).trans ?_)
  congr 1
  obtain ⟨k, hk16⟩ := k
  simp only at hk
  interval_cases k <;> simp [List.finRange_succ, Finset.sum_range_succ] <;> omega

theorem shr_word (n : ℕ) (h : n ≤ 8192) : IntOp.shrsi .vector (BitVec.ofNat 32 n + 511#32) 9#32 = BitVec.ofNat 32 ((n + 511) / 512) := by
  have h1 : BitVec.ofNat 32 n + 511#32 = BitVec.ofNat 32 (n + 511) := (BitVec.ofNat_add ..).symm
  rw [h1]
  have h2 : IntOp.shrsi .vector (BitVec.ofNat 32 (n + 511)) 9#32 = (BitVec.ofNat 32 (n + 511)).sshiftRight 9 := rfl
  rw [h2, BitVec.sshiftRight_eq_of_msb_false]
  · apply BitVec.eq_of_toNat_eq
    rw [BitVec.toNat_ushiftRight, BitVec.toNat_ofNat, BitVec.toNat_ofNat, Nat.shiftRight_eq_div_pow]
    omega
  · rw [BitVec.msb_eq_false_iff_two_mul_lt, BitVec.toNat_ofNat]
    omega

theorem shl_word (n : ℕ) (h : n ≤ 128) : IntOp.shli .vector (BitVec.ofNat 32 n) 9#32 = BitVec.ofNat 32 (512 * n) := by
  have h2 : IntOp.shli .vector (BitVec.ofNat 32 n) 9#32 = (BitVec.ofNat 32 n) <<< 9 := rfl
  rw [h2]
  apply BitVec.eq_of_toNat_eq
  rw [BitVec.toNat_shiftLeft, BitVec.toNat_ofNat, BitVec.toNat_ofNat, Nat.shiftLeft_eq]
  omega

/-- The start of class `k`, from the counts of all tokens. -/
theorem starts_apply (ct : IVec S16 32) (e : ℕ → ℕ)
    (hct : ∀ l : Fin 16, ct (ix1 l) = BitVec.ofNat 32 (if l.val < 8 then cnt e l.val 8192 else 0)) (k : Fin 16) (hk : k.val < 8) :
    k1_pay1 (F := Bits) ct (ix1 k) = BitVec.ofNat 32 (512 * cum e k.val) := by
  let v7 : IVec S16 32 := shrsi (addi ct (broadcast S16 511#32)) (broadcast S16 9#32)
  have h7 : ∀ l : Fin 16, v7 (ix1 l) = BitVec.ofNat 32 (if l.val < 8 then nb e l.val else 0) := by
    intro l
    show IntOp.shrsi .vector (ct (ix1 l) + 511#32) 9#32 = _
    rw [hct]
    by_cases h : l.val < 8
    · rw [if_pos h, if_pos h]; exact shr_word _ (cnt_le _ _ _)
    · rw [if_neg h, if_neg h]; exact shr_word 0 (by norm_num)
  have hs := scan_words v7 (fun l => if l < 8 then nb e l else 0) h7 k hk
  have h1 : k1_pay1 (F := Bits) ct (ix1 k) = IntOp.shli .vector (scan .sum v7 (ix1 k) - v7 (ix1 k)) 9#32 := rfl
  have h2 : ∑ j ∈ Finset.range (k.val + 1), (if j < 8 then nb e j else 0) = cum e k.val + nb e k.val := by
    rw [← cum_succ]
    exact Finset.sum_congr rfl fun j hj => if_pos (by have := Finset.mem_range.mp hj; omega)
  rw [h1, hs, h7, if_pos hk, h2, BitVec.ofNat_add, BitVec.add_sub_cancel]
  exact shl_word _ (by have := cum_le e k.val; omega)

end Cert.Proof.Tail
-- ==== Proof.Rows.lean ====
/-
  One row at a time, over the extended reals: an affine layer, the rectifier, the softmax of eight logits, the first lane
  that attains a row's maximum, and the two ways the programs find it.
-/
module

public import proofs.«01_k».proof.Proof.RankVal

@[expose] public section

noncomputable section

namespace Cert.Proof.Rows

open Idealize.ShloMosaic Idealize.ShloMosaic.WordCmp

/-- An affine layer. -/
def lin {K N : ℕ} (x : Fin K → EReal) (w : Fin K → Fin N → EReal) (b : Fin N → EReal) (n : Fin N) : EReal := (∑ k, x k * w k n) + b n
/-- The rectifier. -/
def rl {N : ℕ} (x : Fin N → EReal) (n : Fin N) : EReal := max (x n) 0
/-- The greatest of eight. -/
def top (x : Fin 8 → EReal) : EReal := (Finset.univ : Finset (Fin 8)).fold max (Ideal.ofBits .f32 0xFF800000#32) x
/-- The softmax of eight logits. -/
def soft (z : Fin 8 → EReal) (k : Fin 8) : EReal := Ideal.div (Ideal.exp (z k - top z)) (∑ j, Ideal.exp (z j - top z))
/-- The classifier's three layers after its first. -/
def logits (h : Fin 64 → EReal) (w1 : Fin 64 → Fin 64 → EReal) (b1 : Fin 64 → EReal) (w2 : Fin 64 → Fin 64 → EReal) (b2 : Fin 64 → EReal)
    (w3 : Fin 64 → Fin 8 → EReal) (b3 : Fin 8 → EReal) : Fin 8 → EReal := lin (rl (lin (rl (lin h w1 b1)) w2 b2)) w3 b3
/-- An expert's four layers. -/
def net (x : Fin 4096 → EReal) (w0 : Fin 4096 → Fin 64 → EReal) (b0 : Fin 64 → EReal) (w1 : Fin 64 → Fin 64 → EReal) (b1 : Fin 64 → EReal)
    (w2 : Fin 64 → Fin 64 → EReal) (b2 : Fin 64 → EReal) (w3 : Fin 64 → Fin 256 → EReal) (b3 : Fin 256 → EReal) : Fin 256 → EReal :=
  lin (rl (lin (rl (lin (rl (lin x w0 b0)) w1 b1)) w2 b2)) w3 b3

theorem bits_bot : Ideal.ofBits .f32 0xFF800000#32 = (⊥ : EReal) := by
  simp [Ideal.ofBits, Ideal.ieee, -EReal.coe_mul]

theorem le_top (x : Fin 8 → EReal) (k : Fin 8) : x k ≤ top x :=
  Finset.le_fold_max _ |>.mpr (Or.inr ⟨k, Finset.mem_univ _, le_rfl⟩)

theorem max_bot_top (x : Fin 8 → EReal) : max (Ideal.ofBits .f32 0xFF800000#32) (top x) = top x := by
  rw [bits_bot]; exact max_eq_right bot_le

/-- `k` is the first lane at which the row is greatest. -/
structure IsMode (p : Fin 8 → EReal) (k : Fin 8) : Prop where
  le : ∀ j, p j ≤ p k
  first : ∀ j, p j = p k → k ≤ j

theorem IsMode.unique {p : Fin 8 → EReal} {k k' : Fin 8} (h : IsMode p k) (h' : IsMode p k') : k = k' := by
  have e : p k = p k' := le_antisymm (h'.le k) (h.le k')
  exact le_antisymm (h.first k' e.symm) (h'.first k e)

theorem exists_mode (p : Fin 8 → EReal) : ∃ k, IsMode p k := by
  obtain ⟨m, -, hm⟩ := Finset.exists_max_image (Finset.univ : Finset (Fin 8)) p ⟨0, Finset.mem_univ _⟩
  let s := (Finset.univ : Finset (Fin 8)).filter fun j => p j = p m
  have hs : s.Nonempty := ⟨m, Finset.mem_filter.mpr ⟨Finset.mem_univ _, rfl⟩⟩
  have h1 := (Finset.mem_filter.mp (s.min'_mem hs)).2
  refine ⟨s.min' hs, fun j => h1 ▸ hm j (Finset.mem_univ _), fun j hj => s.min'_le j (Finset.mem_filter.mpr ⟨Finset.mem_univ _, hj.trans h1⟩)⟩

/-- The first lane at which the row is greatest. -/
def modeOf (p : Fin 8 → EReal) : Fin 8 := Classical.choose (exists_mode p)
theorem modeOf_spec (p : Fin 8 → EReal) : IsMode p (modeOf p) := Classical.choose_spec (exists_mode p)

theorem top_eq (p : Fin 8 → EReal) : top p = p (modeOf p) := by
  apply le_antisymm
  · unfold top
    rw [bits_bot]
    exact (Finset.fold_max_le _).mpr ⟨bot_le, fun j _ => (modeOf_spec p).le j⟩
  · exact le_top p _

/-- The least lane number among those at which the row meets its maximum, eight standing for the others. -/
theorem fold_minsi (p : Fin 8 → EReal) :
    (Finset.univ : Finset (Fin 8)).fold IntOp.minsi 2147483647#32
      (fun k => Scalar.select (FloatOps.cmpf (F := Ideal) (φ := .f32) .oeq (p k) (top p)) (BitVec.ofNat 32 k.val) 8#32)
      = BitVec.ofNat 32 (modeOf p).val := by
  have hf : ∀ k : Fin 8, Scalar.select (FloatOps.cmpf (F := Ideal) (φ := .f32) .oeq (p k) (top p)) (BitVec.ofNat 32 k.val) 8#32
      = BitVec.ofNat 32 (if p k = p (modeOf p) then k.val else 8) := by
    intro k
    rw [top_eq]
    show Scalar.select (BitVec.ofBool (decide (p k = p (modeOf p)))) _ _ = _
    by_cases h : p k = p (modeOf p)
    · simp [h, Scalar.select]
    · simp [h, Scalar.select]
  rw [Finset.fold_congr fun k _ => hf k]
  have hm := (modeOf_spec p).first
  generalize modeOf p = m at hm
  obtain ⟨w, hwd⟩ : ∃ w : Fin 8 → ℕ, ∀ k, (if p k = p m then k.val else 8) = w k := ⟨_, fun _ => rfl⟩
  have hw : ∀ k : Fin 8, w k ≤ 8 := fun k => by rw [← hwd]; split <;> omega
  have hw1 : w m = m.val := by rw [← hwd]; exact if_pos rfl
  have hw2 : ∀ k : Fin 8, m.val ≤ w k := fun k => by
    rw [← hwd]
    split
    · exact hm k ‹_›
    · omega
  simp only [hwd]
  have key : ∀ s : Finset (Fin 8), s.fold IntOp.minsi 2147483647#32 (fun k => BitVec.ofNat 32 (w k)) = BitVec.ofNat 32 (s.fold min 2147483647 w) ∧ s.fold min 2147483647 w ≤ 2147483647 := by
    intro s
    induction s using Finset.induction_on with
    | empty => exact ⟨rfl, le_rfl⟩
    | insert a s ha ih =>
      rw [Finset.fold_insert ha, Finset.fold_insert ha, ih.1]
      refine ⟨?_, (min_le_right _ _).trans ih.2⟩
      have h1 := hw a
      generalize s.fold min 2147483647 w = y at ih
      unfold IntOp.minsi
      rw [BitVec.slt_eq_decide, toInt_ofNat_of_lt (w := 32) (lt_of_le_of_lt h1 (by norm_num)), toInt_ofNat_of_lt (w := 32) (lt_of_le_of_lt ih.2 (by norm_num))]
      by_cases h : w a < y
      · rw [if_pos (by simpa using h), min_eq_left h.le]
      · rw [if_neg (by simpa using h), min_eq_right (not_lt.mp h)]
  rw [(key _).1]
  congr 1
  apply le_antisymm
  · exact (Finset.fold_min_le _).mpr (Or.inr ⟨m, Finset.mem_univ _, hw1.le⟩)
  · exact (Finset.le_fold_min _).mpr ⟨by have := m.isLt; omega, fun k _ => hw2 k⟩

/-- One step of the reference's search. -/
def step (a b : EReal × BitVec 32) : EReal × BitVec 32 :=
  (if b.1 < a.1 then a.1 else b.1, if b.1 < a.1 ∨ (a.1 = b.1 ∧ a.2.toInt < b.2.toInt) then a.2 else b.2)

/-- The search over the pairs of a row, in any order. -/
theorem foldl_step (p : Fin 8 → EReal) (l : List (EReal × BitVec 32)) (hl : ∀ x ∈ l, ∃ j : Fin 8, x = (p j, BitVec.ofNat 32 j.val))
    (hall : ∀ j : Fin 8, (p j, BitVec.ofNat 32 j.val) ∈ l) :
    (l.foldl step (⊥, 0#32)).2 = BitVec.ofNat 32 (modeOf p).val := by
  have key : ∀ l : List (EReal × BitVec 32), (∀ x ∈ l, ∃ j : Fin 8, x = (p j, BitVec.ofNat 32 j.val)) →
      ∀ s : EReal × BitVec 32, ((∃ j : Fin 8, s = (p j, BitVec.ofNat 32 j.val)) ∨ s = (⊥, 0#32)) →
        ∀ done : List (EReal × BitVec 32), (∀ x ∈ done, x.1 ≤ s.1 ∧ (x.1 = s.1 → s.2.toInt ≤ x.2.toInt)) →
        ((∃ j : Fin 8, l.foldl step s = (p j, BitVec.ofNat 32 j.val)) ∨ l.foldl step s = (⊥, 0#32))
        ∧ ∀ x ∈ done ++ l, x.1 ≤ (l.foldl step s).1 ∧ (x.1 = (l.foldl step s).1 → (l.foldl step s).2.toInt ≤ x.2.toInt) := by
    intro l
    induction l with
    | nil =>
      intro _ s hs done hd
      refine ⟨hs, fun x hx => hd x (by simpa using hx)⟩
    | cons a l ih =>
      intro hl s hs done hd
      have hc : step s a = s ∨ step s a = a := by
        unfold step
        by_cases h1 : a.1 < s.1
        · left; rw [if_pos h1, if_pos (Or.inl h1)]
        · rw [if_neg h1]
          by_cases h2 : s.1 = a.1 ∧ s.2.toInt < a.2.toInt
          · left; rw [if_pos (Or.inr h2), ← h2.1]
          · right; rw [if_neg (by rintro (h | h); exacts [h1 h, h2 h])]
      have hb : s.1 ≤ (step s a).1 ∧ (s.1 = (step s a).1 → (step s a).2.toInt ≤ s.2.toInt) ∧ a.1 ≤ (step s a).1 ∧ (a.1 = (step s a).1 → (step s a).2.toInt ≤ a.2.toInt) := by
        unfold step
        by_cases h1 : a.1 < s.1
        · rw [if_pos h1, if_pos (Or.inl h1)]
          exact ⟨le_rfl, fun _ => le_rfl, h1.le, fun h => absurd h h1.ne⟩
        · rw [if_neg h1]
          by_cases h2 : s.1 = a.1 ∧ s.2.toInt < a.2.toInt
          · rw [if_pos (Or.inr h2)]
            exact ⟨h2.1.le, fun _ => le_rfl, le_rfl, fun _ => h2.2.le⟩
          · rw [if_neg (by rintro (h | h); exacts [h1 h, h2 h])]
            exact ⟨not_lt.mp h1, fun h => not_lt.mp fun h3 => h2 ⟨h, h3⟩, le_rfl, fun _ => le_rfl⟩
      have := ih (fun x hx => hl x (List.mem_cons_of_mem _ hx)) (step s a)
        (by rcases hc with h | h
            · rw [h]; exact hs
            · rw [h]; exact Or.inl (hl a List.mem_cons_self))
        (done ++ [a]) (by
          intro x hx
          rcases List.mem_append.mp hx with h | h
          · have h0 := hd x h
            refine ⟨h0.1.trans hb.1, fun h3 => ?_⟩
            have h4 : x.1 = s.1 := le_antisymm h0.1 (h3 ▸ hb.1)
            exact (hb.2.1 (h4.symm.trans h3)).trans (h0.2 h4)
          · obtain rfl : x = a := by simpa using h
            exact ⟨hb.2.2.1, hb.2.2.2⟩)
      simpa using this
  obtain ⟨hs, hx⟩ := key l hl (⊥, 0#32) (Or.inr rfl) [] (by simp)
  rw [List.nil_append] at hx
  generalize l.foldl step (⊥, 0#32) = s at hs hx
  have hti : ∀ j : Fin 8, (BitVec.ofNat 32 j.val).toInt = (j.val : ℤ) := fun j => toInt_ofNat_of_lt (w := 32) (lt_trans j.isLt (by norm_num))
  have hs' : ∃ j : Fin 8, s = (p j, BitVec.ofNat 32 j.val) := by
    rcases hs with h | h
    · exact h
    · refine ⟨0, ?_⟩
      have h0 : p 0 = ⊥ := by
        have := (hx _ (hall 0)).1
        rw [h] at this
        exact le_bot_iff.mp this
      rw [h, h0]; rfl
  obtain ⟨k, rfl⟩ := hs'
  have hk : IsMode p k := by
    refine ⟨fun j => (hx _ (hall j)).1, fun j hj => ?_⟩
    have := (hx _ (hall j)).2 hj
    rw [hti, hti] at this
    exact Fin.le_def.mpr (by exact_mod_cast this)
  rw [hk.unique (modeOf_spec p)]

end Cert.Proof.Rows
-- ==== Proof.ModeVal.lean ====
/-
  The tail's rows: the modes of a block of tokens are the first lanes at which the rows' softmaxes are greatest.
-/
module

public import proofs.«01_k».proof.Proof.Rows
public import proofs.«01_k».proof.Proof.Exp1

@[expose] public section

noncomputable section

namespace Cert.Proof.Tail

open Cert.KernelIdeal Cert.KernelIdeal.Gen
open Idealize.ShloMosaic Idealize.ShloMosaic.ValueIdx Idealize.ShloMosaic.WordCmp
open Cert.Proof.Rows

theorem layer64 {φ : FTy} (x : FVec Ideal S512x64 φ) (w : FVec Ideal S64x64 φ) (b : FVec Ideal S1x64 .f32) (r : Fin 512) (n : Fin 64) :
    addf (matmul dot_S512x64_S64x64_S512x64_1_0_0_1_n_n none x w (constant S512x64 .f32 0x00000000#32)) (broadcastTo S512x64 b broadcasts_S1x64_S512x64) (ix2 r n)
      = lin (fun k => x (ix2 r k)) (fun k n => w (ix2 k n)) (fun n => b (ix2 (0 : Fin 1) n)) n := by
  rw [addf_apply, broadcastTo_1b_ab_apply]
  refine congrArg₂ (fun a b : EReal => a + b) ((Ideal.matmul_plain_apply (M := 512) (K := 64) (N := 64) none x w (constant S512x64 .f32 0x00000000#32) r n).trans ?_) rfl
  rw [show (constant (F := Ideal) S512x64 .f32 0x00000000#32) (ix2 r n) = 0 from Ideal.ofBits_zero_f32, zero_add]

theorem layer8 (x : FVec Ideal S512x64 .f32) (w : FVec Ideal S64x8 .f32) (b : FVec Ideal S1x8 .f32) (r : Fin 512) (n : Fin 8) :
    addf (matmul dot_S512x64_S64x8_S512x8_1_0_0_1_n_n none x w (constant S512x8 .f32 0x00000000#32)) (broadcastTo S512x8 b broadcasts_S1x8_S512x8) (ix2 r n)
      = lin (fun k => x (ix2 r k)) (fun k n => w (ix2 k n)) (fun n => b (ix2 (0 : Fin 1) n)) n := by
  rw [addf_apply, broadcastTo_1b_ab_apply]
  refine congrArg₂ (fun a b : EReal => a + b) ((Ideal.matmul_plain_apply (M := 512) (K := 64) (N := 8) none x w (constant S512x8 .f32 0x00000000#32) r n).trans ?_) rfl
  rw [show (constant (F := Ideal) S512x8 .f32 0x00000000#32) (ix2 r n) = 0 from Ideal.ofBits_zero_f32, zero_add]

theorem relu64 (x : FVec Ideal S512x64 .f32) (r : Fin 512) (n : Fin 64) :
    maximumf x (broadcast S512x64 (Scalar.ofBits .f32 0x00000000#32)) (ix2 r n) = rl (fun k => x (ix2 r k)) n := by
  show max (x (ix2 r n) : EReal) (Ideal.ofBits .f32 0x00000000#32) = max (x (ix2 r n) : EReal) 0
  rw [Ideal.ofBits_zero_f32]

/-- A block's logits. -/
def zV (X1 : FVec Ideal S512x64 .f32) (X2 : FVec Ideal S64x64 .f32) (X3 : FVec Ideal S1x64 .f32) (X4 : FVec Ideal S64x64 .f32) (X5 : FVec Ideal S1x64 .f32)
    (X6 : FVec Ideal S64x8 .f32) (X7 : FVec Ideal S1x8 .f32) : FVec Ideal S512x8 .f32 :=
  have v9 : FVec Ideal S512x64 .f32 := maximumf (addf (matmul dot_S512x64_S64x64_S512x64_1_0_0_1_n_n none (shapeCast S512x64 X1 shapeCasts_S512x64_S512x64) X2 (constant S512x64 .f32 0x00000000#32)) (broadcastTo S512x64 (shapeCast S1x64 X3 shapeCasts_S1x64_S1x64) broadcasts_S1x64_S512x64)) (broadcast S512x64 (Scalar.ofBits .f32 0x00000000#32))
  have v17 : FVec Ideal S512x64 .f32 := maximumf (addf (matmul dot_S512x64_S64x64_S512x64_1_0_0_1_n_n none v9 X4 (constant S512x64 .f32 0x00000000#32)) (broadcastTo S512x64 (shapeCast S1x64 X5 shapeCasts_S1x64_S1x64) broadcasts_S1x64_S512x64)) (broadcast S512x64 (Scalar.ofBits .f32 0x00000000#32))
  addf (matmul dot_S512x64_S64x8_S512x8_1_0_0_1_n_n none v17 X6 (constant S512x8 .f32 0x00000000#32)) (broadcastTo S512x8 (shapeCast S1x8 X7 shapeCasts_S1x8_S1x8) broadcasts_S1x8_S512x8)

section
variable (X1 : FVec Ideal S512x64 .f32) (X2 : FVec Ideal S64x64 .f32) (X3 : FVec Ideal S1x64 .f32) (X4 : FVec Ideal S64x64 .f32) (X5 : FVec Ideal S1x64 .f32)
    (X6 : FVec Ideal S64x8 .f32) (X7 : FVec Ideal S1x8 .f32)

/-- A row's logits. -/
abbrev zRow (r : Fin 512) : Fin 8 → EReal := logits (fun k => X1 (ix2 r k)) (fun k n => X2 (ix2 k n)) (fun n => X3 (ix2 (0 : Fin 1) n)) (fun k n => X4 (ix2 k n)) (fun n => X5 (ix2 (0 : Fin 1) n))
  (fun k n => X6 (ix2 k n)) (fun n => X7 (ix2 (0 : Fin 1) n))

theorem zV_apply (r : Fin 512) (k : Fin 8) : zV X1 X2 X3 X4 X5 X6 X7 (ix2 r k) = zRow X1 X2 X3 X4 X5 X6 X7 r k := by
  unfold zV zRow logits
  simp only [shapeCast_self]
  rw [layer8]
  refine congrArg (fun f => lin f (fun k n => X6 (ix2 k n)) (fun n => X7 (ix2 (0 : Fin 1) n)) k) (funext fun j => ?_)
  rw [relu64]
  refine congrArg (fun f => rl f j) (funext fun j => ?_)
  rw [layer64]
  refine congrArg (fun f => lin f (fun k n => X4 (ix2 k n)) (fun n => X5 (ix2 (0 : Fin 1) n)) j) (funext fun j => ?_)
  rw [relu64]
  refine congrArg (fun f => rl f j) (funext fun j => ?_)
  rw [layer64]

theorem spread_row (v : FVec Ideal S512 .f32) (r : Fin 512) (k : Fin 8) :
    broadcastTo S512x8 (shapeCast S512x1 v shapeCasts_S512_S512x1) broadcasts_S512x1_S512x8 (ix2 r k) = v (ix1 r) := by
  rw [broadcastTo_apply _ _ _ (ix2 r (0 : Fin 1)) (fun a => by match a with | ⟨0, _⟩ => rfl | ⟨1, _⟩ => rfl), shapeCast_a_a1_apply]

theorem pV_apply (r : Fin 512) (k : Fin 8) : pV (F := Ideal) X1 X2 X3 X4 X5 X6 X7 (ix2 r k) = soft (zRow X1 X2 X3 X4 X5 X6 X7 r) k := by
  let z := zV X1 X2 X3 X4 X5 X6 X7
  let ez : FVec Ideal S512x8 .f32 := exp (subf z (broadcastTo S512x8 (shapeCast S512x1 (multiReduction .maximumf [1] S512 z 0xFF800000#32 reduces_S512x8_S512 (.inl rfl) rfl) shapeCasts_S512_S512x1) broadcasts_S512x1_S512x8))
  have hz : (fun k => z (ix2 r k)) = zRow X1 X2 X3 X4 X5 X6 X7 r := funext fun k => zV_apply X1 X2 X3 X4 X5 X6 X7 r k
  have hez : ∀ k : Fin 8, (ez (ix2 r k) : EReal) = Ideal.exp (zRow X1 X2 X3 X4 X5 X6 X7 r k - top (zRow X1 X2 X3 X4 X5 X6 X7 r)) := by
    intro k
    show Ideal.exp ((z (ix2 r k) : EReal) - broadcastTo S512x8 (shapeCast S512x1 (multiReduction .maximumf [1] S512 z 0xFF800000#32 reduces_S512x8_S512 (.inl rfl) rfl) shapeCasts_S512_S512x1) broadcasts_S512x1_S512x8 (ix2 r k)) = _
    rw [spread_row, ← hz]
    exact congrArg (fun m => Ideal.exp ((z (ix2 r k) : EReal) - m)) (row_max z r)
  have h1 : pV (F := Ideal) X1 X2 X3 X4 X5 X6 X7 (ix2 r k)
      = Ideal.div (ez (ix2 r k)) (broadcastTo S512x8 (shapeCast S512x1 (multiReduction .add [1] S512 ez 0x00000000#32 reduces_S512x8_S512 (.inl rfl) rfl) shapeCasts_S512_S512x1) broadcasts_S512x1_S512x8 (ix2 r k)) := rfl
  rw [h1, spread_row, hez]
  exact congrArg (Ideal.div _) ((row_sum ez r).trans (Finset.sum_congr rfl fun j _ => hez j))

theorem mxV_apply (r : Fin 512) (k : Fin 8) : mxV (F := Ideal) X1 X2 X3 X4 X5 X6 X7 (ix2 r k) = top (soft (zRow X1 X2 X3 X4 X5 X6 X7 r)) := by
  refine (spread_row _ r k).trans ((row_max _ r).trans ?_)
  exact Finset.fold_congr fun j _ => pV_apply X1 X2 X3 X4 X5 X6 X7 r j

theorem modeV_apply (r : Fin 512) :
    k0_pay4 (F := Ideal) (pV (F := Ideal) X1 X2 X3 X4 X5 X6 X7) lanes (mxV (F := Ideal) X1 X2 X3 X4 X5 X6 X7) (ix2 r (0 : Fin 1))
      = BitVec.ofNat 32 (modeOf (soft (zRow X1 X2 X3 X4 X5 X6 X7 r))).val := by
  rw [← fold_minsi]
  unfold k0_pay4
  refine (shapeCast_a_a1_apply _ _ r _).trans ?_
  refine (multiReductionI_eq_fold _ _ _ _ _ _).trans ?_
  refine ((reduces_S512x8_S512).fold_filter_drop_single _ _ _ (ix1 r)).trans ?_
  refine Finset.fold_congr fun k _ => ?_
  have h2 : lanes (ix2 r k) = BitVec.ofNat 32 k.val := iota_single_apply .tc S512x8 32 1 iota_S512x8_d1_w32 (ix2 r k)
  have h3 := pV_apply X1 X2 X3 X4 X5 X6 X7 r k
  have h4 := mxV_apply X1 X2 X3 X4 X5 X6 X7 r k
  refine (congrArg (select (cmpf (F := Ideal) (φ := .f32) .oeq (pV (F := Ideal) X1 X2 X3 X4 X5 X6 X7) (mxV (F := Ideal) X1 X2 X3 X4 X5 X6 X7)) lanes (broadcast S512x8 8#32)) (lift_row r k)).trans ?_
  show Scalar.select (FloatOps.cmpf (F := Ideal) (φ := .f32) .oeq (pV (F := Ideal) X1 X2 X3 X4 X5 X6 X7 (ix2 r k)) (mxV (F := Ideal) X1 X2 X3 X4 X5 X6 X7 (ix2 r k))) (lanes (ix2 r k)) 8#32 = _
  rw [h2, h3, h4]

end

end Cert.Proof.Tail

namespace Cert.Proof.Experts

open Cert.KernelIdeal Cert.KernelIdeal.Gen
open Idealize.ShloMosaic Idealize.ShloMosaic.ValueIdx
open Cert.Proof.Rows Cert.Proof.Tail

theorem layer4096 {φ : FTy} (x : FVec Ideal S512x4096 φ) (w : FVec Ideal S4096x64 φ) (b : FVec Ideal S1x64 .f32) (r : Fin 512) (n : Fin 64) :
    addf (matmul dot_S512x4096_S4096x64_S512x64_1_0_0_1_n_n none x w (constant S512x64 .f32 0x00000000#32)) (broadcastTo S512x64 b broadcasts_S1x64_S512x64) (ix2 r n)
      = lin (fun k => x (ix2 r k)) (fun k n => w (ix2 k n)) (fun n => b (ix2 (0 : Fin 1) n)) n := by
  rw [addf_apply, broadcastTo_1b_ab_apply]
  refine congrArg₂ (fun a b : EReal => a + b) ((Ideal.matmul_plain_apply (M := 512) (K := 4096) (N := 64) none x w (constant S512x64 .f32 0x00000000#32) r n).trans ?_) rfl
  rw [show (constant (F := Ideal) S512x64 .f32 0x00000000#32) (ix2 r n) = 0 from Ideal.ofBits_zero_f32, zero_add]

theorem layer256 {φ : FTy} (x : FVec Ideal S512x64 φ) (w : FVec Ideal S64x256 φ) (b : FVec Ideal S1x256 .f32) (r : Fin 512) (n : Fin 256) :
    addf (matmul dot_S512x64_S64x256_S512x256_1_0_0_1_n_n none x w (constant S512x256 .f32 0x00000000#32)) (broadcastTo S512x256 b broadcasts_S1x256_S512x256) (ix2 r n)
      = lin (fun k => x (ix2 r k)) (fun k n => w (ix2 k n)) (fun n => b (ix2 (0 : Fin 1) n)) n := by
  rw [addf_apply, broadcastTo_1b_ab_apply]
  refine congrArg₂ (fun a b : EReal => a + b) ((Ideal.matmul_plain_apply (M := 512) (K := 64) (N := 256) none x w (constant S512x256 .f32 0x00000000#32) r n).trans ?_) rfl
  rw [show (constant (F := Ideal) S512x256 .f32 0x00000000#32) (ix2 r n) = 0 from Ideal.ofBits_zero_f32, zero_add]

theorem bodyV_apply (x : FVec Ideal S512x4096 .f32) (w0 : FVec Ideal S1x4096x64 .f32) (b0 : FVec Ideal S1x1x64 .f32)
    (w1 : FVec Ideal S1x64x64 .f32) (b1 : FVec Ideal S1x1x64 .f32) (w2 : FVec Ideal S1x64x64 .f32) (b2 : FVec Ideal S1x1x64 .f32)
    (w3 : FVec Ideal S1x64x256 .f32) (b3 : FVec Ideal S1x1x256 .f32) (r : Fin 512) (n : Fin 256) :
    bodyV (F := Ideal) x w0 b0 w1 b1 w2 b2 w3 b3 (ix2 r n)
      = net (fun k => x (ix2 r k)) (fun k n => w0 (ix3 (0 : Fin 1) k n)) (fun n => b0 (ix3 (0 : Fin 1) (0 : Fin 1) n))
          (fun k n => w1 (ix3 (0 : Fin 1) k n)) (fun n => b1 (ix3 (0 : Fin 1) (0 : Fin 1) n))
          (fun k n => w2 (ix3 (0 : Fin 1) k n)) (fun n => b2 (ix3 (0 : Fin 1) (0 : Fin 1) n))
          (fun k n => w3 (ix3 (0 : Fin 1) k n)) (fun n => b3 (ix3 (0 : Fin 1) (0 : Fin 1) n)) n := by
  unfold bodyV k2_pay1 k2_pay2 net
  refine (layer256 _ _ _ r n).trans ?_
  congr 1
  · funext j
    refine (relu64 _ r j).trans (congrArg (fun f => rl f j) (funext fun j => ?_))
    refine (layer64 _ _ _ r j).trans ?_
    congr 1
    · funext j
      refine (relu64 _ r j).trans (congrArg (fun f => rl f j) (funext fun j => ?_))
      refine (layer64 _ _ _ r j).trans ?_
      congr 1
      · funext j
        refine (relu64 _ r j).trans (congrArg (fun f => rl f j) (funext fun j => ?_))
        refine (layer4096 _ _ _ r j).trans ?_
        congr 1
        · funext k
          exact congrFun (shapeCast_self _ _) _
        · funext k n
          exact shapeCast_1ab_ab_apply _ _ k n
        · funext n
          exact shapeCast_1ab_ab_apply _ _ (0 : Fin 1) n
      · funext k n
        exact shapeCast_1ab_ab_apply _ _ k n
      · funext n
        exact shapeCast_1ab_ab_apply _ _ (0 : Fin 1) n
    · funext k n
      exact shapeCast_1ab_ab_apply _ _ k n
    · funext n
      exact shapeCast_1ab_ab_apply _ _ (0 : Fin 1) n
  · funext k n
    exact shapeCast_1ab_ab_apply _ _ k n
  · funext n
    exact shapeCast_1ab_ab_apply _ _ (0 : Fin 1) n

end Cert.Proof.Experts
-- ==== Proof.KernA.lean ====
/-
  The tail's four results at the ideal values: each token's mode and its rank within it, the modes' counts and the blocks' experts.
-/
module

public import proofs.«01_k».proof.Proof.Vals
public import proofs.«01_k».proof.Proof.TableVal
public import proofs.«01_k».proof.Proof.ModeVal
public import Idealize.ShloMosaic.Lib.Pointwise.Contract
public import Idealize.ShloMosaic.Lib.StableHlo.RunRead
public import Idealize.ShloMosaic.Lib.Pipeline.ValueKit.Geometry

@[expose] public section

noncomputable section

namespace Cert.Proof

open Cert.KernelIdeal Cert.KernelIdeal.Gen
open Idealize.ShloMosaic hiding ix1 ix2 ix3
open Idealize.ShloMosaic.ValueIdx
open Idealize.ShloMosaic.StableHlo (after after_unwritten)
open Idealize.ShloMosaic.Pipeline (Dat afterRegion arrRef)
open Cert.Proof.Rows Cert.Proof.Tail Cert.Proof.Count

theorem ix2_same {a b : ℕ} (i : Fin a) (j : Fin b) : Idealize.ShloMosaic.ix2 i j = ix2 i j := ValueIdx.eq_ix2 _

variable (m : (ℓ : Loc nD τ sig) → Buf (Elt Ideal) ℓ) (d : Dev nD)

abbrev A0 : FVec Ideal S8192x4096 .f32 := m (d, Proc.devRef .tc main_arg0)
abbrev A1 : FVec Ideal S4096x64 .f32 := m (d, Proc.devRef .tc main_arg1)
abbrev A2 : FVec Ideal S64 .f32 := m (d, Proc.devRef .tc main_arg2)
abbrev A3 : FVec Ideal S64x64 .f32 := m (d, Proc.devRef .tc main_arg3)
abbrev A4 : FVec Ideal S64 .f32 := m (d, Proc.devRef .tc main_arg4)
abbrev A5 : FVec Ideal S64x64 .f32 := m (d, Proc.devRef .tc main_arg5)
abbrev A6 : FVec Ideal S64 .f32 := m (d, Proc.devRef .tc main_arg6)
abbrev A7 : FVec Ideal S64x8 .f32 := m (d, Proc.devRef .tc main_arg7)
abbrev A8 : FVec Ideal S8 .f32 := m (d, Proc.devRef .tc main_arg8)
abbrev A9 : FVec Ideal S8x4096x64 .f32 := m (d, Proc.devRef .tc main_arg9)
abbrev A10 : FVec Ideal S8x64 .f32 := m (d, Proc.devRef .tc main_arg10)
abbrev A11 : FVec Ideal S8x64x64 .f32 := m (d, Proc.devRef .tc main_arg11)
abbrev A12 : FVec Ideal S8x64 .f32 := m (d, Proc.devRef .tc main_arg12)
abbrev A13 : FVec Ideal S8x64x64 .f32 := m (d, Proc.devRef .tc main_arg13)
abbrev A14 : FVec Ideal S8x64 .f32 := m (d, Proc.devRef .tc main_arg14)
abbrev A15 : FVec Ideal S8x64x256 .f32 := m (d, Proc.devRef .tc main_arg15)
abbrev A16 : FVec Ideal S8x256 .f32 := m (d, Proc.devRef .tc main_arg16)

/-! ## Before the tail -/

/-- A token's logits. -/
def zK (i : Fin 8192) : Fin 8 → EReal :=
  logits (rl (lin (fun k => A0 m d (ix2 i k)) (fun k n => A1 m d (ix2 k n)) (fun n => A2 m d (ix1 n)))) (fun k n => A3 m d (ix2 k n)) (fun n => A4 m d (ix1 n))
    (fun k n => A5 m d (ix2 k n)) (fun n => A6 m d (ix1 n)) (fun k n => A7 m d (ix2 k n)) (fun n => A8 m d (ix1 n))
/-- A token's mode. -/
def modeK (i : Fin 8192) : Fin 8 := modeOf (soft (zK m d i))
/-- The tokens' modes, as numbers. -/
def eK (i : ℕ) : ℕ := if h : i < 8192 then (modeK m d ⟨i, h⟩).val else 0

theorem eK_lt (i : ℕ) : eK m d i < 8 := by
  unfold eK; split
  · exact Fin.isLt _
  · norm_num

theorem VA_arg (r : Ref sig .tc) (h : r ∉ [main_v0, main_v1, main_v2, main_v3, main_call0_cst, main_call0_v0, main_v4, main_v5, main_v6, main_v7]) :
    VA m d (Proc.devRef .tc r) = m (d, Proc.devRef .tc r) :=
  after_unwritten [main_v0, main_v1, main_v2, main_v3, main_call0_cst, main_call0_v0, main_v4, main_v5, main_v6, main_v7] rfl h _

theorem VA_4 (i : Fin 8192) (n : Fin 64) : (VA m d (Proc.devRef .tc main_v4) : FVec Ideal S8192x64 .f32) (ix2 i n)
    = rl (lin (fun k => A0 m d (ix2 i k)) (fun k n => A1 m d (ix2 k n)) (fun n => A2 m d (ix1 n))) n := by
  have h : VA m d (Proc.devRef .tc main_v4) = maximumf (addf (Host.dotGeneral dot_S8192x4096_S4096x64_S8192x64_1_0_0_1_n_n none (A0 m d) (A1 m d))
      (broadcastInDim S8192x64 ![0, 1] bcast_S1x64_S8192x64_0_1 (broadcastInDim S1x64 ![1] bcast_S64_S1x64_1 (A2 m d))))
      (broadcastInDim S8192x64 ![] bcast_S_S8192x64 (constant S_ .f32 0x00000000#32)) := by
    unfold VA opsA
    after_results <;> rfl
  have h1 : broadcastInDim S8192x64 ![0, 1] bcast_S1x64_S8192x64_0_1 (broadcastInDim S1x64 ![1] bcast_S64_S1x64_1 (A2 m d)) (ix2 i n) = A2 m d (ix1 n) := by
    rw [broadcastInDim_apply _ _ _ _ (ix2 (0 : Fin 1) n) (fun a => by match a with | ⟨0, _⟩ => rfl | ⟨1, _⟩ => rfl),
      broadcastInDim_apply _ _ _ _ (ix1 n) (fun a => by match a with | ⟨0, _⟩ => rfl)]
  have h2 : Host.dotGeneral dot_S8192x4096_S4096x64_S8192x64_1_0_0_1_n_n none (A0 m d) (A1 m d) (ix2 i n) = ∑ k : Fin 4096, (A0 m d (ix2 i k) * A1 m d (ix2 k n) : EReal) := by
    simp only [pointwise, zero_add, ix2_same]
  rw [h]
  show max ((Host.dotGeneral dot_S8192x4096_S4096x64_S8192x64_1_0_0_1_n_n none (A0 m d) (A1 m d) (ix2 i n) : EReal)
      + broadcastInDim S8192x64 ![0, 1] bcast_S1x64_S8192x64_0_1 (broadcastInDim S1x64 ![1] bcast_S64_S1x64_1 (A2 m d)) (ix2 i n)) (Ideal.ofBits .f32 0x00000000#32) = _
  rw [h1, h2, Ideal.ofBits_zero_f32]
  rfl

theorem VA_5 (n : Fin 64) : (VA m d (Proc.devRef .tc main_v5) : FVec Ideal S1x64 .f32) (ix2 (0 : Fin 1) n) = A4 m d (ix1 n) := by
  have h : VA m d (Proc.devRef .tc main_v5) = shapeCast S1x64 (A4 m d) shapeCasts_S64_S1x64 := by
    unfold VA opsA
    after_results <;> rfl
  rw [h]
  exact shapeCast_a_1a_apply _ _ _ n

theorem VA_6 (n : Fin 64) : (VA m d (Proc.devRef .tc main_v6) : FVec Ideal S1x64 .f32) (ix2 (0 : Fin 1) n) = A6 m d (ix1 n) := by
  have h : VA m d (Proc.devRef .tc main_v6) = shapeCast S1x64 (A6 m d) shapeCasts_S64_S1x64 := by
    unfold VA opsA
    after_results <;> rfl
  rw [h]
  exact shapeCast_a_1a_apply _ _ _ n

theorem VA_7 (n : Fin 8) : (VA m d (Proc.devRef .tc main_v7) : FVec Ideal S1x8 .f32) (ix2 (0 : Fin 1) n) = A8 m d (ix1 n) := by
  have h : VA m d (Proc.devRef .tc main_v7) = shapeCast S1x8 (A8 m d) shapeCasts_S8_S1x8 := by
    unfold VA opsA
    after_results <;> rfl
  rw [h]
  exact shapeCast_a_1a_apply _ _ _ n

/-! ## The tail's blocks -/

theorem ix0_0 : ∀ t : Fin cfg0.N, win0_0.index t = ![(grid0.coords t 0).val, 0] := by decide +kernel

/-- Row `r` of block `t`. -/
abbrev rowOf (t : Fin cfg0.N) (r : Fin 512) : Fin 8192 := ⟨512 * t.val + r.val, by have := t.isLt; have h : cfg0.N = 16 := rfl; have := r.isLt; omega⟩

theorem x0_apply (t : Fin cfg0.N) (r : Fin 512) (k : Fin 64) :
    Tail.x0 (VA m) d t (ix2 r k) = (VA m d (Proc.devRef .tc main_v4) : FVec Ideal S8192x64 .f32) (ix2 (rowOf t r) k) := by
  show (VA m d (Proc.devRef .tc main_v4) : FVec Ideal S8192x64 .f32) ((win0_0.blk t).view.emb (ix2 r k)) = _
  refine congrArg _ (funext fun a => Fin.ext ?_)
  have hc := coord_val t
  have h01 : a = 0 ∨ a = 1 := by
    match a with
    | ⟨0, _⟩ => exact Or.inl rfl
    | ⟨1, _⟩ => exact Or.inr rfl
  rcases h01 with rfl | rfl
  · blk_simp [ix0_0]
    rw [hc]
    show t.val * 512 + r.val = 512 * t.val + r.val
    omega
  · blk_simp [ix0_0]
    rfl

theorem ix0_1 : ∀ t : Fin cfg0.N, win0_1.index t = ![0, 0] := by decide +kernel
theorem x1_apply (t : Fin cfg0.N) (k : Fin 64) (n : Fin 64) :
    Tail.x1 (VA m) d t (ix2 k n) = (VA m d (Proc.devRef .tc main_arg3) : FVec Ideal S64x64 .f32) (ix2 k n) := by
  show (VA m d (Proc.devRef .tc main_arg3) : FVec Ideal S64x64 .f32) ((win0_1.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_1]
    try rfl
  · blk_simp [ix0_1]
    try rfl

theorem ix0_2 : ∀ t : Fin cfg0.N, win0_2.index t = ![0, 0] := by decide +kernel
theorem x2_apply (t : Fin cfg0.N) (k : Fin 1) (n : Fin 64) :
    Tail.x2 (VA m) d t (ix2 k n) = (VA m d (Proc.devRef .tc main_v5) : FVec Ideal S1x64 .f32) (ix2 k n) := by
  show (VA m d (Proc.devRef .tc main_v5) : FVec Ideal S1x64 .f32) ((win0_2.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_2]
    try rfl
  · blk_simp [ix0_2]
    try rfl

theorem ix0_3 : ∀ t : Fin cfg0.N, win0_3.index t = ![0, 0] := by decide +kernel
theorem x3_apply (t : Fin cfg0.N) (k : Fin 64) (n : Fin 64) :
    Tail.x3 (VA m) d t (ix2 k n) = (VA m d (Proc.devRef .tc main_arg5) : FVec Ideal S64x64 .f32) (ix2 k n) := by
  show (VA m d (Proc.devRef .tc main_arg5) : FVec Ideal S64x64 .f32) ((win0_3.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_3]
    try rfl
  · blk_simp [ix0_3]
    try rfl

theorem ix0_4 : ∀ t : Fin cfg0.N, win0_4.index t = ![0, 0] := by decide +kernel
theorem x4_apply (t : Fin cfg0.N) (k : Fin 1) (n : Fin 64) :
    Tail.x4 (VA m) d t (ix2 k n) = (VA m d (Proc.devRef .tc main_v6) : FVec Ideal S1x64 .f32) (ix2 k n) := by
  show (VA m d (Proc.devRef .tc main_v6) : FVec Ideal S1x64 .f32) ((win0_4.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_4]
    try rfl
  · blk_simp [ix0_4]
    try rfl

theorem ix0_5 : ∀ t : Fin cfg0.N, win0_5.index t = ![0, 0] := by decide +kernel
theorem x5_apply (t : Fin cfg0.N) (k : Fin 64) (n : Fin 8) :
    Tail.x5 (VA m) d t (ix2 k n) = (VA m d (Proc.devRef .tc main_arg7) : FVec Ideal S64x8 .f32) (ix2 k n) := by
  show (VA m d (Proc.devRef .tc main_arg7) : FVec Ideal S64x8 .f32) ((win0_5.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_5]
    try rfl
  · blk_simp [ix0_5]
    try rfl

theorem ix0_6 : ∀ t : Fin cfg0.N, win0_6.index t = ![0, 0] := by decide +kernel
theorem x6_apply (t : Fin cfg0.N) (k : Fin 1) (n : Fin 8) :
    Tail.x6 (VA m) d t (ix2 k n) = (VA m d (Proc.devRef .tc main_v7) : FVec Ideal S1x8 .f32) (ix2 k n) := by
  show (VA m d (Proc.devRef .tc main_v7) : FVec Ideal S1x8 .f32) ((win0_6.blk t).view.emb (ix2 k n)) = _
  refine congrArg _ (funext fun a => Fin.ext ?_)
  have h01 : a = 0 ∨ a = 1 := by
    match a with
    | ⟨0, _⟩ => exact Or.inl rfl
    | ⟨1, _⟩ => exact Or.inr rfl
  rcases h01 with rfl | rfl
  · blk_simp [ix0_6]
    try rfl
  · blk_simp [ix0_6]
    try rfl

/-- The block's logits are its tokens'. -/
theorem zRow_eq (t : Fin cfg0.N) (r : Fin 512) :
    zRow (Tail.x0 (VA m) d t) (Tail.x1 (VA m) d t) (Tail.x2 (VA m) d t) (Tail.x3 (VA m) d t) (Tail.x4 (VA m) d t) (Tail.x5 (VA m) d t) (Tail.x6 (VA m) d t) r = zK m d (rowOf t r) := by
  unfold zRow zK
  congr 1
  · funext k; exact (x0_apply m d t r k).trans (VA_4 m d _ k)
  · funext k n; exact (x1_apply m d t k n).trans (congrFun (VA_arg m d main_arg3 (by decide)) _)
  · funext n; exact (x2_apply m d t 0 n).trans (VA_5 m d n)
  · funext k n; exact (x3_apply m d t k n).trans (congrFun (VA_arg m d main_arg5 (by decide)) _)
  · funext n; exact (x4_apply m d t 0 n).trans (VA_6 m d n)
  · funext k n; exact (x5_apply m d t k n).trans (congrFun (VA_arg m d main_arg7 (by decide)) _)
  · funext n; exact (x6_apply m d t 0 n).trans (VA_7 m d n)

/-- The modes within block `t`. -/
abbrev eT (t : Fin cfg0.N) (j : ℕ) : ℕ := eK m d (512 * t.val + j)

theorem mode_apply (t : Fin cfg0.N) (r : Fin 512) :
    k0_pay4 (F := Ideal) (pV (F := Ideal) (Tail.x0 (VA m) d t) (Tail.x1 (VA m) d t) (Tail.x2 (VA m) d t) (Tail.x3 (VA m) d t) (Tail.x4 (VA m) d t) (Tail.x5 (VA m) d t) (Tail.x6 (VA m) d t)) lanes
      (mxV (F := Ideal) (Tail.x0 (VA m) d t) (Tail.x1 (VA m) d t) (Tail.x2 (VA m) d t) (Tail.x3 (VA m) d t) (Tail.x4 (VA m) d t) (Tail.x5 (VA m) d t) (Tail.x6 (VA m) d t)) (ix2 r (0 : Fin 1))
      = BitVec.ofNat 32 (eT m d t r.val) := by
  rw [modeV_apply, zRow_eq]
  unfold eT eK
  rw [dif_pos (rowOf t r).isLt]
  rfl

theorem carry_apply (n : ℕ) (hn : n ≤ 16) (k : Fin 8) : Tail.carry (VA m) d n (ix2 (0 : Fin 1) k) = nr (cnt (eK m d) k.val (512 * n)) := by
  induction n generalizing k with
  | zero =>
    show Ideal.ofBits .f32 0x00000000#32 = _
    rw [Ideal.ofBits_zero_f32, show cnt (eK m d) k.val (512 * 0) = 0 from rfl, nr_zero]
  | succ n ih =>
    have h := carry_succ (VA m) d (⟨n, by show n < 16; omega⟩ : Fin cfg0.N)
    rw [show n + 1 = (⟨n, by show n < 16; omega⟩ : Fin cfg0.N).val + 1 from rfl, h]
    refine (pay10_apply _ _ (eT m d ⟨n, by show n < 16; omega⟩) (fun i => eK_lt m d _) (mode_apply m d _) _ (fun k => cnt (eK m d) k (512 * n)) (ih (by omega)) k).trans ?_
    rw [show 512 * ((⟨n, by show n < 16; omega⟩ : Fin cfg0.N).val + 1) = 512 * n + 512 from by show 512 * (n + 1) = _; omega, cnt_add]

/-! ## The tail's results -/

theorem ix0_7 : ∀ t : Fin cfg0.N, win0_7.index t = ![(grid0.coords t 0).val, 0] := by decide +kernel
theorem ix0_8 : ∀ t : Fin cfg0.N, win0_8.index t = ![(grid0.coords t 0).val, 0] := by decide +kernel

theorem VB_arr (w : Fin cfg0.W) : VB m d (Proc.devRef .tc (arrRef spec0 w)) = (Tail.dat (VA m) d).arrAt w cfg0.N :=
  Pipeline.afterRegion_arr (Tail.dat (VA m) d) (VA m d) (launch0 (F := Ideal)).win.arr_inj w

theorem emb7 (t : Fin cfg0.N) (r : Fin 512) : ((win0_7.blk t).view.emb (ix2 r (0 : Fin 1)) : S8192x1.Idx) = ix2 (rowOf t r) (0 : Fin 1) := by
  funext a
  refine Fin.ext ?_
  have hc := coord_val t
  have h01 : a = 0 ∨ a = 1 := by
    match a with
    | ⟨0, _⟩ => exact Or.inl rfl
    | ⟨1, _⟩ => exact Or.inr rfl
  rcases h01 with rfl | rfl
  · blk_simp [ix0_7]
    rw [hc]
    show t.val * 512 + r.val = 512 * t.val + r.val
    omega
  · blk_simp [ix0_7]
    try rfl

theorem emb8 (t : Fin cfg0.N) (r : Fin 512) : ((win0_8.blk t).view.emb (ix2 r (0 : Fin 1)) : S8192x1.Idx) = ix2 (rowOf t r) (0 : Fin 1) := by
  funext a
  refine Fin.ext ?_
  have hc := coord_val t
  have h01 : a = 0 ∨ a = 1 := by
    match a with
    | ⟨0, _⟩ => exact Or.inl rfl
    | ⟨1, _⟩ => exact Or.inr rfl
  rcases h01 with rfl | rfl
  · blk_simp [ix0_8]
    rw [hc]
    show t.val * 512 + r.val = 512 * t.val + r.val
    omega
  · blk_simp [ix0_8]
    try rfl

theorem eq_row (y : S512x1.Idx) : y = ix2 (y 0) (0 : Fin 1) := by
  refine (ValueIdx.eq_ix2 y).trans (congrArg (ix2 (y 0)) ?_)
  exact Fin.ext (by have := ValueIdx.idx2_lt1 y; show (y 1).val = 0; omega)

theorem VB_modes : VB m d (Proc.devRef .tc main_v8_0) = (fun y : S8192x1.Idx => BitVec.ofNat 32 (eK m d (y 0).val)) := by
  refine (VB_arr m d 7).trans ?_
  refine (Tail.dat (VA m) d).arrAt_eq_of_covers 7 _ (by decide +kernel) fun t hf y => ?_
  show modeV (F := Ideal) (Tail.x0 (VA m) d t) (Tail.x1 (VA m) d t) (Tail.x2 (VA m) d t) (Tail.x3 (VA m) d t) (Tail.x4 (VA m) d t) (Tail.x5 (VA m) d t) (Tail.x6 (VA m) d t) y
    = BitVec.ofNat 32 (eK m d (((win0_7.blk t).view.emb y : S8192x1.Idx) 0).val)
  have hy := eq_row y
  obtain ⟨r, hr⟩ : ∃ r : Fin 512, y = ix2 r (0 : Fin 1) := ⟨_, hy⟩
  subst hr
  rw [emb7]
  exact mode_apply m d t r

theorem VB_ranks : VB m d (Proc.devRef .tc main_v8_1) = (fun y : S8192x1.Idx => BitVec.ofNat 32 (cnt (eK m d) (eK m d (y 0).val) (y 0).val)) := by
  refine (VB_arr m d 8).trans ?_
  refine (Tail.dat (VA m) d).arrAt_eq_of_covers 8 _ (by decide +kernel) fun t hf y => ?_
  show rankV (F := Ideal) (Tail.x0 (VA m) d t) (Tail.x1 (VA m) d t) (Tail.x2 (VA m) d t) (Tail.x3 (VA m) d t) (Tail.x4 (VA m) d t) (Tail.x5 (VA m) d t) (Tail.x6 (VA m) d t) (Tail.carry (VA m) d t.val) y
    = BitVec.ofNat 32 (cnt (eK m d) (eK m d (((win0_8.blk t).view.emb y : S8192x1.Idx) 0).val) (((win0_8.blk t).view.emb y : S8192x1.Idx) 0).val)
  have hy := eq_row y
  obtain ⟨r, hr⟩ : ∃ r : Fin 512, y = ix2 r (0 : Fin 1) := ⟨_, hy⟩
  subst hr
  rw [emb8]
  have ht : t.val < 16 := t.isLt
  refine (pay8_apply _ _ (eT m d t) (fun i => eK_lt m d _) (mode_apply m d t) _ (fun k => cnt (eK m d) k (512 * t.val))
    (fun k => (cnt_le _ _ _).trans (by omega)) (carry_apply m d t.val (by omega)) r).trans ?_
  show BitVec.ofNat 32 (cnt (eK m d) (eK m d (512 * t.val + r.val)) (512 * t.val) + cnt (fun j => eK m d (512 * t.val + j)) (eK m d (512 * t.val + r.val)) r.val)
    = BitVec.ofNat 32 (cnt (eK m d) (eK m d (512 * t.val + r.val)) (512 * t.val + r.val))
  rw [cnt_add]

theorem VB_counts (l : Fin 16) : (VB m d (Proc.devRef .tc main_v8_2) : IVec S1x16 32) (ix2 (0 : Fin 1) l) = BitVec.ofNat 32 (if l.val < 8 then cnt (eK m d) l.val 8192 else 0) := by
  let t₀ : Fin cfg0.N := ⟨15, by decide⟩
  have h : VB m d (Proc.devRef .tc main_v8_2) = countV (F := Ideal) (Tail.x0 (VA m) d t₀) (Tail.x1 (VA m) d t₀) (Tail.x2 (VA m) d t₀) (Tail.x3 (VA m) d t₀) (Tail.x4 (VA m) d t₀) (Tail.x5 (VA m) d t₀) (Tail.x6 (VA m) d t₀) (Tail.carry (VA m) d 15) := by
    refine (VB_arr m d 9).trans ?_
    exact (Tail.dat (VA m) d).arrAt_eq_of_after_last 9 t₀ (by decide +kernel) _ fun j => rfl
  rw [h]
  refine (pay11_apply _ _ (eT m d t₀) (fun i => eK_lt m d _) (mode_apply m d t₀) _ (fun k => cnt (eK m d) k (512 * 15))
    (fun k => (cnt_le _ _ _).trans (by omega)) (carry_apply m d 15 (by omega)) l).trans ?_
  show BitVec.ofNat 32 (if l.val < 8 then cnt (eK m d) l.val (512 * 15) + cnt (fun j => eK m d (512 * 15 + j)) l.val 512 else 0) = _
  rw [← cnt_add]

theorem VB_table (b : Fin 128) : (VB m d (Proc.devRef .tc main_v8_3) : IVec S128x1 32) (ix2 b (0 : Fin 1)) = BitVec.ofNat 32 (min (tab (eK m d) b.val) 7) := by
  let t₀ : Fin cfg0.N := ⟨15, by decide⟩
  have h : VB m d (Proc.devRef .tc main_v8_3) = tableV (F := Ideal) (Tail.x0 (VA m) d t₀) (Tail.x1 (VA m) d t₀) (Tail.x2 (VA m) d t₀) (Tail.x3 (VA m) d t₀) (Tail.x4 (VA m) d t₀) (Tail.x5 (VA m) d t₀) (Tail.x6 (VA m) d t₀) (Tail.carry (VA m) d 15) := by
    refine (VB_arr m d 10).trans ?_
    exact (Tail.dat (VA m) d).arrAt_eq_of_after_last 10 t₀ (by decide +kernel) _ fun j => rfl
  rw [h]
  refine table_apply _ (eK m d) (fun k => ?_) b
  refine (pay9_apply _ _ (eT m d t₀) (fun i => eK_lt m d _) (mode_apply m d t₀) _ (fun k => cnt (eK m d) k (512 * 15)) (carry_apply m d 15 (by omega)) k).trans ?_
  show nr (cnt (eK m d) k.val (512 * 15) + cnt (fun j => eK m d (512 * 15 + j)) k.val 512) = _
  rw [← cnt_add]

end Cert.Proof
-- ==== Proof.Start.lean ====
/-
  The program's run: the host operations, the two pipelined calls and the two SparseCore calls in order,
  from any launch memory whose routing is in order, to every unscoped buffer at its final contents.
-/
module

public import proofs.«01_k».proof.Proof.Vals
public import proofs.«01_k».proof.Proof.Gen.KernelIdeal.Regions
public import Idealize.ShloMosaic.Lib.SparseCore.Quiescent
public import Idealize.ShloMosaic.Lib.StableHlo.RunRead
public import Idealize.ShloMosaic.Lib.Pipeline.FrameTail
public import Idealize.ShloMosaic.Lib.Pipeline.ValueKit.Geometry

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (seq after held after_unwritten)
open Idealize.ShloMosaic.Pipeline (Dat RegionSeg pin arrRef ucRefs afterRegion cellsGhost toksInit cells launchToks BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Combine (outV)

variable {F : FTy → Type} [FloatOps F]

local notation "𝕄" => MT nD τ sig (HIx 2) (Elt F) ℕ UU ℕ

/-- The pipelines' part of the ghost state. -/
def EP : Emb UP (MT nD τ sig (HIx 2) (Elt F) ℕ UU ℕ) := (Emb.inl : Emb UP (UP × Counters)).trans embR

instance EP_lands : (EP (F := F)).LandsIn (upEmb : UEmb _ 𝕄) := by
  unfold EP embR; infer_instance

variable (m : (ℓ : Loc nD τ sig) → Buf (Elt F) ℓ) (a : (p : Fin 2) → (pcfgs (F := F) p).Adm)

/-- The proof data of the two pipelined calls. -/
def pdats : (p : Fin 2) → (c : Dev nD) → Dat τ (Elt F) (HIx 2) ℕ UU ℕ (pin (pcfgs (F := F)) a p) c
  | ⟨0, _⟩ => fun c => Tail.dat (VA m) c
  | ⟨1, _⟩ => fun c => Experts.dat (VE m) a c

/-- The tail's call as a segment. -/
def seg0 : RegionSeg (pcfgs (F := F)) a (pdats m a) none (defs₀ (F := F)) 𝒱₀ (K (F := F)).L (K (F := F)).lev 0 :=
  seg a (pdats m a) 0 launch0 0 (fun c => (Tail.body_obligation (VA m) c).loose) (fun _ _ => rfl) (fun _ _ => rfl)
    (fun _ _ => by unfold Pipeline.Dat.share; split <;> rfl)
    (fun c => by exact sep_elim_left.trans (Tail.inv_zero (VA m) c))
    (fun c => by
      refine (Tail.inv_last (VA m) c _).trans ?_
      unfold Pipeline.tablesAt Pipeline.prefHeld
      rw [show (Finset.univ : Finset (Fin (pcfgs (F := F) 0).pre.K)) = ∅ from rfl, bigSep_empty]
      iintro H; isplitl [H]; · iexact H
      iempintro)
    (VA m) (VB m) (fun _ _ => rfl) (fun _ k => k.elim0)
    (fun c w => (Pipeline.afterRegion_arr (Tail.dat (VA m) c) (VA m c) (launch0 (F := F)).win.arr_inj w).symm)
    (fun c b hb => Pipeline.afterRegion_off (Tail.dat (VA m) c) (VA m c) Finset.univ b (Finset.mem_sdiff.mpr ⟨Finset.mem_univ _, hb⟩))

/-- The experts' call as a segment. -/
def seg2 (ha : ∀ d k, (a 1).1 k = VE m d (Proc.devRef .tc ((pcfgs (F := F) 1).pre.ref k))) :
    RegionSeg (pcfgs (F := F)) a (pdats m a) none (defs₀ (F := F)) 𝒱₀ (K (F := F)).L (K (F := F)).lev 1 :=
  seg a (pdats m a) 1 launch2 1 (fun c => (Experts.body_obligation (VE m) a c).loose) (fun _ _ => rfl) (fun _ _ => rfl)
    (fun _ _ => by unfold Pipeline.Dat.share; split <;> rfl)
    (fun c => .rfl) (fun c => .rfl)
    (VE m) (VF m a) (fun _ _ => rfl) ha
    (fun c w => (Pipeline.afterRegion_arr (Experts.dat (VE m) a c) (VE m c) (launch2 (F := F)).win.arr_inj w).symm)
    (fun c b hb => Pipeline.afterRegion_off (Experts.dat (VE m) a c) (VE m c) Finset.univ b (Finset.mem_sdiff.mpr ⟨Finset.mem_univ _, hb⟩))

/-- A pipelined call at the head of the TensorCore's program. -/
theorem wp_region [∀ e, Nonempty (Elt F e)] {p : Fin 2}
    (R : RegionSeg (pcfgs (F := F)) a (pdats m a) none (defs₀ (F := F)) 𝒱₀ (K (F := F)).L (K (F := F)).lev p) (d : Dev nD) {Φ : PUnit → sProp 𝕄} :
    iprop((iprop(boundary (T d) ∗ R.post d) -∗ Φ ⟨⟩) ∗ boundary (T d) ∗ R.pre d ∗ levAts (K (F := F)).L (K (F := F)).lev
        ∗ cellsGhost (pin (pcfgs (F := F)) a) EP p d ∗ toksInit (pin (pcfgs (F := F)) a) EP p d)
      ⊢ wp frame (wpE ((K (F := F)).defs (D (F := F))) 𝒱 (T d) none) Set.univ (Prog.lift (.customCall (SparseCore.inner (Pipeline.entry p)) ())) Φ := by
  have h := (K (F := F)).wp_liftProg (D (F := F)) 𝒱 (T d) Set.univ none
    (Prog.op (.customCall (Pipeline.entry p) ()) (fun r => Prog.ret r)) Φ
  refine BIBase.Entails.trans ?_ h
  refine BIBase.Entails.trans ?_ (RegionSeg.wp (pcfgs (F := F)) a (pdats m a) none (cellOf_inj a) EP (defs₀ (F := F)) 𝒱₀ (K (F := F)).L (K (F := F)).lev R d
    none (fun _ h => nomatch h) (fun r => Prog.ret r) Φ)
  iintro ⟨Hk, H⟩
  isplitl [Hk]
  · iintro Hp
    rw [wp_ret]; imodintro
    iapply Hk; iexact Hp
  iexact H

/-- The tail's call. -/
theorem wp_region0 [∀ e, Nonempty (Elt F e)] (d : Dev nD) {Φ : PUnit → sProp 𝕄} :
    iprop((iprop(boundary (T d) ∗ held (T d) (ucRefs τ sig) (VB m d) ∗ owesTc d 0) -∗ Φ ⟨⟩) ∗ boundary (T d)
        ∗ (held (T d) (ucRefs τ sig) (VA m d) ∗ owesTc d 0) ∗ levAts (K (F := F)).L (K (F := F)).lev
        ∗ cellsGhost (pin (pcfgs (F := F)) a) EP 0 d ∗ toksInit (pin (pcfgs (F := F)) a) EP 0 d)
      ⊢ wp frame (wpE ((K (F := F)).defs (D (F := F))) 𝒱 (T d) none) Set.univ (Prog.lift (.customCall (SparseCore.inner (Pipeline.entry 0)) ())) Φ :=
  wp_region m a (seg0 m a) d

/-- The experts' call. -/
theorem wp_region2 [∀ e, Nonempty (Elt F e)] (ha : ∀ d k, (a 1).1 k = VE m d (Proc.devRef .tc ((pcfgs (F := F) 1).pre.ref k)))
    (d : Dev nD) {Φ : PUnit → sProp 𝕄} :
    iprop((iprop(boundary (T d) ∗ held (T d) (ucRefs τ sig) (VF m a d) ∗ owesTc d 1) -∗ Φ ⟨⟩) ∗ boundary (T d)
        ∗ (held (T d) (ucRefs τ sig) (VE m d) ∗ owesTc d 1) ∗ levAts (K (F := F)).L (K (F := F)).lev
        ∗ cellsGhost (pin (pcfgs (F := F)) a) EP 1 d ∗ toksInit (pin (pcfgs (F := F)) a) EP 1 d)
      ⊢ wp frame (wpE ((K (F := F)).defs (D (F := F))) 𝒱 (T d) none) Set.univ (Prog.lift (.customCall (SparseCore.inner (Pipeline.entry 1)) ())) Φ :=
  wp_region m a (seg2 m a ha) d

/-! ## The host operations' buffers -/

theorem opsA_sub : ∀ op ∈ opsA (F := F), op.bufs ⊆ ucRefs τ sig := by
  intro op h
  refine Pipeline.sub_ucRefs op ?_
  simp only [opsA, List.mem_cons, List.not_mem_nil, or_false] at h
  rcases h with rfl | rfl | rfl | rfl | rfl | rfl | rfl | rfl | rfl | rfl <;> simp
theorem opsA_fresh : ∀ op ∈ opsA (F := F), op.fresh = ∅ := by
  intro op h
  simp only [opsA, List.mem_cons, List.not_mem_nil, or_false] at h
  rcases h with rfl | rfl | rfl | rfl | rfl | rfl | rfl | rfl | rfl | rfl <;> rfl
theorem opsB_sub : ∀ op ∈ opsB (F := F), op.bufs ⊆ ucRefs τ sig := by
  intro op h
  refine Pipeline.sub_ucRefs op ?_
  simp only [opsB, List.mem_cons, List.not_mem_nil, or_false] at h
  rcases h with rfl | rfl | rfl <;> simp
theorem opsB_fresh : ∀ op ∈ opsB (F := F), op.fresh = ∅ := by
  intro op h
  simp only [opsB, List.mem_cons, List.not_mem_nil, or_false] at h
  rcases h with rfl | rfl | rfl <;> rfl
theorem opsC_sub : ∀ op ∈ opsC (F := F), op.bufs ⊆ ucRefs τ sig := by
  intro op h
  refine Pipeline.sub_ucRefs op ?_
  simp only [opsC, List.mem_cons, List.not_mem_nil, or_false] at h
  rcases h with rfl | rfl | rfl | rfl | rfl <;> simp
theorem opsC_fresh : ∀ op ∈ opsC (F := F), op.fresh = ∅ := by
  intro op h
  simp only [opsC, List.mem_cons, List.not_mem_nil, or_false] at h
  rcases h with rfl | rfl | rfl | rfl | rfl <;> rfl
theorem opsD_sub : ∀ op ∈ opsD (F := F), op.bufs ⊆ ucRefs τ sig := by
  intro op h
  refine Pipeline.sub_ucRefs op ?_
  simp only [opsD, List.mem_cons, List.not_mem_nil, or_false] at h
  rcases h with rfl; simp
theorem opsD_fresh : ∀ op ∈ opsD (F := F), op.fresh = ∅ := by
  intro op h
  simp only [opsD, List.mem_cons, List.not_mem_nil, or_false] at h
  rcases h with rfl; rfl
theorem opsE_sub : ∀ op ∈ opsE (F := F), op.bufs ⊆ ucRefs τ sig := by
  intro op h
  refine Pipeline.sub_ucRefs op ?_
  simp only [opsE, List.mem_cons, List.not_mem_nil, or_false] at h
  rcases h with rfl; simp
theorem opsE_fresh : ∀ op ∈ opsE (F := F), op.fresh = ∅ := by
  intro op h
  simp only [opsE, List.mem_cons, List.not_mem_nil, or_false] at h
  rcases h with rfl; rfl

/-! ## The buffers of the SparseCore calls among the unscoped ones -/

/-- The dispatch's buffers. -/
def refs0 : Finset (DevRef τ sig) :=
  {Proc.devRef .tc main_arg0, Proc.devRef .tc main_v9, Proc.devRef .tc main_v10, Proc.devRef .tc main_v11, Proc.devRef .tc main_v12}
/-- The combine's buffers. -/
def refs1 : Finset (DevRef τ sig) :=
  {Proc.devRef .tc main_v19, Proc.devRef .tc main_v9, Proc.devRef .tc main_v10, Proc.devRef .tc main_v11, Proc.devRef .tc main_v20}

theorem refs0_sub : refs0 ⊆ ucRefs τ sig := by
  intro b hb
  simp only [refs0, Finset.mem_insert, Finset.mem_singleton] at hb
  rcases hb with rfl | rfl | rfl | rfl | rfl <;> exact Pipeline.devRef_mem_ucRefs rfl
theorem refs1_sub : refs1 ⊆ ucRefs τ sig := by
  intro b hb
  simp only [refs1, Finset.mem_insert, Finset.mem_singleton] at hb
  rcases hb with rfl | rfl | rfl | rfl | rfl <;> exact Pipeline.devRef_mem_ucRefs rfl

theorem held_dispatch (d : Dev nD) (W : Valuation τ sig (Elt F)) : (held (T d) (ucRefs τ sig) W : sProp 𝕄) = iprop(
    ((loc d main_arg0 ↦{fullShare} W (Proc.devRef .tc main_arg0)) ∗ (loc d main_v9 ↦{fullShare} W (Proc.devRef .tc main_v9))
      ∗ (loc d main_v10 ↦{fullShare} W (Proc.devRef .tc main_v10)) ∗ (loc d main_v11 ↦{fullShare} W (Proc.devRef .tc main_v11))
      ∗ (loc d main_v12 ↦{fullShare} W (Proc.devRef .tc main_v12)))
    ∗ held (T d) (ucRefs τ sig \ refs0) W) := by
  rw [StableHlo.held_sub_split (T d) refs0_sub W]
  congr 1
  unfold refs0 held
  rw [bigSep_insert (by decide), bigSep_insert (by decide), bigSep_insert (by decide), bigSep_insert (by decide), bigSep_singleton]
  rfl

theorem held_combine (d : Dev nD) (W : Valuation τ sig (Elt F)) : (held (T d) (ucRefs τ sig) W : sProp 𝕄) = iprop(
    ((loc d main_v19 ↦{fullShare} W (Proc.devRef .tc main_v19)) ∗ (loc d main_v9 ↦{fullShare} W (Proc.devRef .tc main_v9))
      ∗ (loc d main_v10 ↦{fullShare} W (Proc.devRef .tc main_v10)) ∗ (loc d main_v11 ↦{fullShare} W (Proc.devRef .tc main_v11))
      ∗ (loc d main_v20 ↦{fullShare} W (Proc.devRef .tc main_v20)))
    ∗ held (T d) (ucRefs τ sig \ refs1) W) := by
  rw [StableHlo.held_sub_split (T d) refs1_sub W]
  congr 1
  unfold refs1 held
  rw [bigSep_insert (by decide), bigSep_insert (by decide), bigSep_insert (by decide), bigSep_insert (by decide), bigSep_singleton]
  rfl

theorem VD_12 (d : Dev nD) : VD m d (Proc.devRef .tc main_v12) = xs1 (cts m a) d := Function.update_self _ _ _
theorem VD_off (d : Dev nD) (b : DevRef τ sig) (h : b ≠ Proc.devRef .tc main_v12) : VD m d b = VC m d b := Function.update_of_ne h _ _
theorem VH_20 (d : Dev nD) : VH m a d (Proc.devRef .tc main_v20)
    = outV (VG m a d (Proc.devRef .tc main_v19)) (VG m a d (Proc.devRef .tc main_v9)) (VG m a d (Proc.devRef .tc main_v10)) (VG m a d (Proc.devRef .tc main_v11)) := Function.update_self _ _ _
theorem VH_off (d : Dev nD) (b : DevRef τ sig) (h : b ≠ Proc.devRef .tc main_v20) : VH m a d b = VG m a d b := Function.update_of_ne h _ _

theorem held_VC (d : Dev nD) : (held (T d) (ucRefs τ sig) (VC m d) : sProp 𝕄)
    = iprop((bigSep Finset.univ fun c : Fin ((K (F := F)).nCore 0) => (P (cts m a)).st 0 d c) ∗ held (T d) (ucRefs τ sig \ refs0) (VC m d)) := by
  rw [held_dispatch]
  exact congrArg (fun R => iprop(R ∗ held (T d) (ucRefs τ sig \ refs0) (VC m d))) (dispatch_all (cts m a) d ((cts m a).xs0 d)).symm

/-- `held_dispatch` with the contents named. -/
theorem held_dispatch' (d : Dev nD) (W W' : Valuation τ sig (Elt F)) {f0 : S8192x4096.Idx → Elt F .f32} {f1 f2 : S8192.Idx → BitVec 32} {f3 : S16.Idx → BitVec 32}
    {f4 : S12288x4096.Idx → Elt F .f32} (h0 : W (Proc.devRef .tc main_arg0) = f0) (h1 : W (Proc.devRef .tc main_v9) = f1) (h2 : W (Proc.devRef .tc main_v10) = f2)
    (h3 : W (Proc.devRef .tc main_v11) = f3) (h4 : W (Proc.devRef .tc main_v12) = f4) (h : ∀ b ∈ ucRefs τ sig \ refs0, W b = W' b) :
    (held (T d) (ucRefs τ sig) W : sProp 𝕄) = iprop(
    ((loc d main_arg0 ↦{fullShare} f0) ∗ (loc d main_v9 ↦{fullShare} f1) ∗ (loc d main_v10 ↦{fullShare} f2) ∗ (loc d main_v11 ↦{fullShare} f3)
      ∗ (loc d main_v12 ↦{fullShare} f4)) ∗ held (T d) (ucRefs τ sig \ refs0) W') := by
  subst h0 h1 h2 h3 h4
  rw [← StableHlo.held_congr (T d) h]
  exact held_dispatch d W

/-- `held_combine` with the contents named. -/
theorem held_combine' (d : Dev nD) (W W' : Valuation τ sig (Elt F)) {f0 : S12288x2x128.Idx → Elt F .f32} {f1 f2 : S8192.Idx → BitVec 32} {f3 : S16.Idx → BitVec 32}
    {f4 : S8192x2x128.Idx → Elt F .f32} (h0 : W (Proc.devRef .tc main_v19) = f0) (h1 : W (Proc.devRef .tc main_v9) = f1) (h2 : W (Proc.devRef .tc main_v10) = f2)
    (h3 : W (Proc.devRef .tc main_v11) = f3) (h4 : W (Proc.devRef .tc main_v20) = f4) (h : ∀ b ∈ ucRefs τ sig \ refs1, W b = W' b) :
    (held (T d) (ucRefs τ sig) W : sProp 𝕄) = iprop(
    ((loc d main_v19 ↦{fullShare} f0) ∗ (loc d main_v9 ↦{fullShare} f1) ∗ (loc d main_v10 ↦{fullShare} f2) ∗ (loc d main_v11 ↦{fullShare} f3)
      ∗ (loc d main_v20 ↦{fullShare} f4)) ∗ held (T d) (ucRefs τ sig \ refs1) W') := by
  subst h0 h1 h2 h3 h4
  rw [← StableHlo.held_congr (T d) h]
  exact held_combine d W

theorem held_VD (d : Dev nD) : (held (T d) (ucRefs τ sig) (VD m d) : sProp 𝕄)
    = iprop((bigSep Finset.univ fun c : Fin ((K (F := F)).nCore 0) => (P (cts m a)).dn 0 d c) ∗ held (T d) (ucRefs τ sig \ refs0) (VC m d)) :=
  (held_dispatch' d (VD m d) (VC m d) (VD_off m d _ (by decide)) (VD_off m d _ (by decide)) (VD_off m d _ (by decide)) (VD_off m d _ (by decide))
    (VD_12 m a d) (fun b hb => VD_off m d b fun e => (Finset.mem_sdiff.mp hb).2 (e ▸ by decide))).trans
  (congrArg (fun R => iprop(R ∗ held (T d) (ucRefs τ sig \ refs0) (VC m d))) (dispatch_all (cts m a) d (xs1 (cts m a) d)).symm)

/-- The experts' call has one result window. -/
theorem outs2 (r : Ref sig .tc) (h : ∀ w : Fin 10, arrRef spec2 w = r → w = 9) (hr : r ≠ arrRef spec2 9) :
    ∀ w, arrRef spec2 w = r → ((cfg2 (F := F) (a 1)).win w).isOut = false :=
  fun w hw => absurd (h w hw ▸ hw).symm hr

theorem same_9 (d : Dev nD) : VG m a d (Proc.devRef .tc main_v9) = VC m d (Proc.devRef .tc main_v9) :=
  (after_unwritten [main_v19] rfl (by decide) _).trans ((VF_keeps m a d _ (outs2 a _ (by decide) (by decide))).trans
    ((after_unwritten [main_v13, main_v14, main_v15, main_v16, main_v17] rfl (by decide) _).trans (VD_off m d _ (by decide))))
theorem same_10 (d : Dev nD) : VG m a d (Proc.devRef .tc main_v10) = VC m d (Proc.devRef .tc main_v10) :=
  (after_unwritten [main_v19] rfl (by decide) _).trans ((VF_keeps m a d _ (outs2 a _ (by decide) (by decide))).trans
    ((after_unwritten [main_v13, main_v14, main_v15, main_v16, main_v17] rfl (by decide) _).trans (VD_off m d _ (by decide))))
theorem same_11 (d : Dev nD) : VG m a d (Proc.devRef .tc main_v11) = VC m d (Proc.devRef .tc main_v11) :=
  (after_unwritten [main_v19] rfl (by decide) _).trans ((VF_keeps m a d _ (outs2 a _ (by decide) (by decide))).trans
    ((after_unwritten [main_v13, main_v14, main_v15, main_v16, main_v17] rfl (by decide) _).trans (VD_off m d _ (by decide))))

theorem VH_20' (d : Dev nD) : VH m a d (Proc.devRef .tc main_v20) = o1 (cts m a) d := by
  rw [VH_20, same_9, same_10, same_11]; rfl

theorem held_VG (d : Dev nD) : (held (T d) (ucRefs τ sig) (VG m a d) : sProp 𝕄)
    = iprop((bigSep Finset.univ fun c : Fin ((K (F := F)).nCore 1) => (P (cts m a)).st 1 d c) ∗ held (T d) (ucRefs τ sig \ refs1) (VG m a d)) :=
  (held_combine' d (VG m a d) (VG m a d) rfl (same_9 m a d) (same_10 m a d) (same_11 m a d) rfl (fun _ _ => rfl)).trans
  (congrArg (fun R => iprop(R ∗ held (T d) (ucRefs τ sig \ refs1) (VG m a d))) (combine_all (cts m a) d ((cts m a).o0 d)).symm)

theorem held_VH (d : Dev nD) : (held (T d) (ucRefs τ sig) (VH m a d) : sProp 𝕄)
    = iprop((bigSep Finset.univ fun c : Fin ((K (F := F)).nCore 1) => (P (cts m a)).dn 1 d c) ∗ held (T d) (ucRefs τ sig \ refs1) (VG m a d)) :=
  (held_combine' d (VH m a d) (VG m a d) (VH_off m a d _ (by decide)) ((VH_off m a d _ (by decide)).trans (same_9 m a d))
    ((VH_off m a d _ (by decide)).trans (same_10 m a d)) ((VH_off m a d _ (by decide)).trans (same_11 m a d))
    (VH_20' m a d) (fun b hb => VH_off m a d b fun e => (Finset.mem_sdiff.mp hb).2 (e ▸ by decide))).trans
  (congrArg (fun R => iprop(R ∗ held (T d) (ucRefs τ sig \ refs1) (VG m a d))) (combine_all (cts m a) d (o1 (cts m a) d)).symm)

/-! ## The launch -/

/-- What the launch deals a device's pipelined calls. -/
def G (d : Dev nD) : sProp 𝕄 :=
  iprop((bigSep Finset.univ fun p : Fin 2 => cellsGhost (pin (pcfgs (F := F)) a) EP p d) ∗ bigSep Finset.univ fun p : Fin 2 => toksInit (pin (pcfgs (F := F)) a) EP p d)

/-- The launch's ghost state: the SparseCore calls' handshakes and the pipelines' cells. -/
def u₀ : UU := (initOf (K (F := F)).hsCells (K (F := F)).hsToks,
  (initOf (cells (pin (pcfgs (F := F)) a) (cellOf_inj a)) (launchToks (pin (pcfgs (F := F)) a) (cellOf_inj a)), 1))

theorem noX (X : Cts F) : (BI.emp : sProp 𝕄) ⊢ bigSep Finset.univ fun thr : Thread nD τ => bigSep Finset.univ fun q : Fin 2 => (P X).x q thr := by
  have h : ∀ thr : Thread nD τ, (bigSep Finset.univ fun q : Fin 2 => (P X).x q thr) = (BI.emp : sProp 𝕄) := fun thr => bigSep_emp_const _
  rw [bigSep_congr (fun thr _ => h thr)]
  exact BIBase.Entails.of_eq (bigSep_emp_const _).symm

theorem hu₀ : (ownU (u₀ (F := F) a) : sProp 𝕄)
    ⊢ |={Set.univ}=> iprop(BI.own (EH (initOf (K (F := F)).hsCells (K (F := F)).hsToks)) ∗ (bigSep Finset.univ (G a))
        ∗ bigSep Finset.univ fun thr : Thread nD τ => bigSep Finset.univ fun q : Fin 2 => (P (cts m a)).x q thr) := by
  unfold u₀
  iintro Hu
  ihave H := (ownU_pair (initOf (K (F := F)).hsCells (K (F := F)).hsToks)
    ((initOf (cells (pin (pcfgs (F := F)) a) (cellOf_inj a)) (launchToks (pin (pcfgs (F := F)) a) (cellOf_inj a)), 1) : UP × Counters)) $$ Hu
  icases H with ⟨HH, HR⟩
  ihave H := (own_pair_emb (embR : Emb (UP × Counters) (MT nD τ sig (HIx 2) (Elt F) ℕ UU ℕ))
    (initOf (cells (pin (pcfgs (F := F)) a) (cellOf_inj a)) (launchToks (pin (pcfgs (F := F)) a) (cellOf_inj a))) (1 : Counters)) $$ HR
  icases H with ⟨HP, -⟩
  ihave HP := (show (BI.own (((Emb.inl : Emb UP (UP × Counters)).trans (embR : Emb (UP × Counters) (MT nD τ sig (HIx 2) (Elt F) ℕ UU ℕ)))
      (initOf (cells (pin (pcfgs (F := F)) a) (cellOf_inj a)) (launchToks (pin (pcfgs (F := F)) a) (cellOf_inj a)))) : sProp 𝕄)
    ⊢ BI.own (EP (initOf (cells (pin (pcfgs (F := F)) a) (cellOf_inj a)) (launchToks (pin (pcfgs (F := F)) a) (cellOf_inj a)))) from .rfl) $$ HP
  imod (Pipeline.fund_ghost (pin (pcfgs (F := F)) a) EP (cellOf_inj a)) $$ HP with ⟨Hg, Ht⟩
  imodintro
  isplitl [HH]; · iexact HH
  isplitl [Hg Ht]
  · unfold G
    rw [bigSep_sep']
    isplitl [Hg] <;> iassumption
  iapply (noX (cts m a)); iempintro

/-- The obligations out of the TensorCore's state between the calls, and back. -/
theorem tcSt_open (d : Dev nD) (n : ℕ) :
    ((K (F := F)).tcSt EH d n : sProp 𝕄) ⊢ iprop(owesTc d n ∗ (owesTc d n -∗ (K (F := F)).tcSt EH d n)) := by
  unfold SparseCore.Cfg.tcSt owesTc
  iintro ⟨HO, Hr⟩
  isplitl [HO]; · iexact HO
  iintro HO
  isplitl [HO]; · iexact HO
  iexact Hr

theorem G_eq (d : Dev nD) : (G a d : sProp 𝕄) = iprop((cellsGhost (pin (pcfgs (F := F)) a) EP 0 d ∗ cellsGhost (pin (pcfgs (F := F)) a) EP 1 d)
    ∗ toksInit (pin (pcfgs (F := F)) a) EP 0 d ∗ toksInit (pin (pcfgs (F := F)) a) EP 1 d) := by
  unfold G
  rw [bigSep_fin_two, bigSep_fin_two]
  rfl

theorem launch_held (d : Dev nD) : (unscopedBufs d (fun b => m ((T d : Thread nD τ).loc b)) : sProp 𝕄) = held (T d) (ucRefs τ sig) (V0 m d) :=
  Pipeline.unscopedBufs_held (Ix := HIx 2) (Name := ℕ) (U := UU) (Lvl := ℕ) d (V0 m d)

set_option maxRecDepth 16384 in
/-- @main on a device's TensorCore. -/
theorem hmain [∀ e, Nonempty (Elt F e)] (ρ : Dev nD → PrngReg) (ha : ∀ d k, (a 1).1 k = VE m d (Proc.devRef .tc ((pcfgs (F := F) 1).pre.ref k)))
    (κ : GSem nD τ sig → ℕ) (d : Dev nD) :
    iprop((K (F := F)).ctx EH (P (cts m a)) κ ∗ (K (F := F)).tcSt EH d 0 ∗ (K (F := F)).tcRes m ρ d ∗ G a d)
      ⊢ wp frame (wpE ((K (F := F)).defs (D (F := F))) 𝒱 (SparseCore.T d) none) Set.univ (main d)
          fun _ => iprop((K (F := F)).tcSt EH d 2 ∗ held (T d) (ucRefs τ sig) (VI m a d) ∗ (K (F := F)).tcEnd d) := by
  unfold SparseCore.Cfg.tcRes SparseCore.Cfg.tcEnd
  rw [launch_held m d, G_eq, main_eq]
  iintro ⟨#Hctx, Hst, ⟨Hb, Hh, Hts, -⟩, ⟨Hg0, Hg1⟩, Ht0, Ht1⟩
  ihave #Hlev := ((K (F := F)).ctx_levAts κ) $$ Hctx
  iapply (StableHlo.wp_seq 𝒱 none Set.univ d (ucRefs τ sig) _ opsA opsA_sub opsA_fresh (V0 m d)) $$ [Hb Hh]
  · isplitl [Hb] <;> iassumption
  iintro ⟨Hb, Hh⟩
  ihave Hh := (show (held (d.tc : Thread nD τ) (ucRefs τ sig) (after opsA (V0 m d)) : sProp 𝕄) ⊢ held (T d) (ucRefs τ sig) (VA m d) from .rfl) $$ Hh
  ihave Hb := (show (boundary (d.tc : Thread nD τ) : sProp 𝕄) ⊢ boundary (T d) from .rfl) $$ Hb
  rw [wp_bind]
  ihave H := (tcSt_open d 0) $$ Hst
  icases H with ⟨HO, Hst⟩
  iapply (wp_region0 m a d)
  isplitr [Hb Hh HO Hg0 Ht0]
  rotate_left
  · isplitl [Hb]; · iexact Hb
    isplitl [Hh HO]
    · isplitl [Hh]; · iexact Hh
      iexact HO
    isplitr; · iexact Hlev
    isplitl [Hg0] <;> iassumption
  iintro ⟨Hb, Hh, HO⟩
  ihave Hst := Hst $$ HO
  iapply (StableHlo.wp_seq 𝒱 none Set.univ d (ucRefs τ sig) _ opsB opsB_sub opsB_fresh (VB m d)) $$ [Hb Hh]
  · isplitl [Hb]; · iexact Hb
    iexact Hh
  iintro ⟨Hb, Hh⟩
  ihave Hh := (show (held (d.tc : Thread nD τ) (ucRefs τ sig) (after opsB (VB m d)) : sProp 𝕄) ⊢ held (T d) (ucRefs τ sig) (VC m d) from .rfl) $$ Hh
  ihave Hb := (show (boundary (d.tc : Thread nD τ) : sProp 𝕄) ⊢ boundary (T d) from .rfl) $$ Hb
  ihave Hh := (Entails.of_eq (held_VC m a d)) $$ Hh
  icases Hh with ⟨Hc, Hh⟩
  rw [wp_bind]
  iapply ((K (F := F)).wp_run (D (F := F)) 𝒱 (EH := EH) (P := P (cts m a)) κ d 0)
  isplitr; · iexact Hctx
  isplitl [Hst]; · iexact Hst
  isplitl [Hc]; · iexact Hc
  iintro ⟨Hst, Hc⟩
  ihave Hst := (show ((K (F := F)).tcSt EH d ((0 : Fin 2).val + 1) : sProp 𝕄) ⊢ (K (F := F)).tcSt EH d 1 from .rfl) $$ Hst
  ihave Hh := (Entails.of_eq (held_VD m a d).symm) $$ [Hc Hh]
  · isplitl [Hc] <;> iassumption
  iapply (StableHlo.wp_seq 𝒱 none Set.univ d (ucRefs τ sig) _ opsC opsC_sub opsC_fresh (VD m d)) $$ [Hb Hh]
  · isplitl [Hb] <;> iassumption
  iintro ⟨Hb, Hh⟩
  ihave Hh := (show (held (d.tc : Thread nD τ) (ucRefs τ sig) (after opsC (VD m d)) : sProp 𝕄) ⊢ held (T d) (ucRefs τ sig) (VE m d) from .rfl) $$ Hh
  ihave Hb := (show (boundary (d.tc : Thread nD τ) : sProp 𝕄) ⊢ boundary (T d) from .rfl) $$ Hb
  rw [wp_bind]
  ihave H := (tcSt_open d 1) $$ Hst
  icases H with ⟨HO, Hst⟩
  iapply (wp_region2 m a ha d)
  isplitr [Hb Hh HO Hg1 Ht1]
  rotate_left
  · isplitl [Hb]; · iexact Hb
    isplitl [Hh HO]
    · isplitl [Hh]; · iexact Hh
      iexact HO
    isplitr; · iexact Hlev
    isplitl [Hg1] <;> iassumption
  iintro ⟨Hb, Hh, HO⟩
  ihave Hst := Hst $$ HO
  iapply (StableHlo.wp_seq 𝒱 none Set.univ d (ucRefs τ sig) _ opsD opsD_sub opsD_fresh (VF m a d)) $$ [Hb Hh]
  · isplitl [Hb]; · iexact Hb
    iexact Hh
  iintro ⟨Hb, Hh⟩
  ihave Hh := (show (held (d.tc : Thread nD τ) (ucRefs τ sig) (after opsD (VF m a d)) : sProp 𝕄) ⊢ held (T d) (ucRefs τ sig) (VG m a d) from .rfl) $$ Hh
  ihave Hb := (show (boundary (d.tc : Thread nD τ) : sProp 𝕄) ⊢ boundary (T d) from .rfl) $$ Hb
  ihave Hh := (Entails.of_eq (held_VG m a d)) $$ Hh
  icases Hh with ⟨Hc, Hh⟩
  rw [wp_bind]
  iapply ((K (F := F)).wp_run (D (F := F)) 𝒱 (EH := EH) (P := P (cts m a)) κ d 1)
  isplitr; · iexact Hctx
  isplitl [Hst]; · iexact Hst
  isplitl [Hc]; · iexact Hc
  iintro ⟨Hst, Hc⟩
  ihave Hst := (show ((K (F := F)).tcSt EH d ((1 : Fin 2).val + 1) : sProp 𝕄) ⊢ (K (F := F)).tcSt EH d 2 from .rfl) $$ Hst
  ihave Hh := (Entails.of_eq (held_VH m a d).symm) $$ [Hc Hh]
  · isplitl [Hc] <;> iassumption
  iapply (StableHlo.wp_seq 𝒱 none Set.univ d (ucRefs τ sig) _ opsE opsE_sub opsE_fresh (VH m a d)) $$ [Hb Hh]
  · isplitl [Hb] <;> iassumption
  iintro ⟨Hb, Hh⟩
  ihave Hh := (show (held (d.tc : Thread nD τ) (ucRefs τ sig) (after opsE (VH m a d)) : sProp 𝕄) ⊢ held (T d) (ucRefs τ sig) (VI m a d) from .rfl) $$ Hh
  ihave Hb := (show (boundary (d.tc : Thread nD τ) : sProp 𝕄) ⊢ boundary (T d) from .rfl) $$ Hb
  rw [seq, wp_pure]; imodintro
  isplitl [Hst]; · iexact Hst
  isplitl [Hh]; · iexact Hh
  isplitl [Hb] <;> iassumption

/-- From a launch memory whose routing is in order, with the experts' table at what the program computes: the program runs, and
    leaves every unscoped buffer at `VI`. -/
theorem run_main [∀ e, Nonempty (Elt F e)] (ρ : Dev nD → PrngReg)
    (hR : ∀ d, Routed (VC m d (Proc.devRef .tc main_v9)) (VC m d (Proc.devRef .tc main_v10)) (VC m d (Proc.devRef .tc main_v11)))
    (ha : ∀ d k, (a 1).1 k = VE m d (Proc.devRef .tc ((pcfgs (F := F) 1).pre.ref k))) :
    θ_run (Cert.KernelIdeal.defs (F := F)) (Cert.KernelIdeal.threads (F := F)) ⟨m, fun _ => 0, ρ⟩
      (fun r => (∀ d, ∀ b ∈ ucRefs τ sig, r.2.mem (d, b) = VI m a d b) ∧ r.2.sem = fun _ => 0) :=
  SparseCore.Cfg.θ_run_sc_quiescent (K := K (F := F)) (D := D (F := F)) (𝒱 := 𝒱) (EH := EH) (P := P (cts m a)) (A := ∅) facts v₀
    (fun q hq => match q with | 0 => nomatch hq | 1 => nomatch hq)
    (fun q _ => match q with | 0 => tileObl0 (cts m a) hR | 1 => tileObl1 (cts m a) hR)
    (fun q _ => match q with
      | 0 => SparseCore.Cfg.VecSplit.of_plain (vecSplit0 (cts m a))
      | 1 => SparseCore.Cfg.VecSplit.of_plain (vecSplit1 (cts m a)))
    m ρ main (G a) (fun d => held (T d) (ucRefs τ sig) (VI m a d)) (u₀ (F := F) a) (sep_elim_left.trans (hu₀ m a)) (hmain m a ρ ha)
    (fun d s' => ∀ b ∈ ucRefs τ sig, s'.mem.mem (d, b) = VI m a d b)
    (fun d s' => by
      unfold held
      iintro ⟨Hh, HSI⟩
      ihave Hr := (pointsTo_read_all (ucRefs τ sig) (fun b => ((T d : Thread nD τ).1, b)) (VI m a d) s') $$ [Hh HSI]
      · isplitl [Hh] <;> iassumption
      icases Hr with ⟨%h, -⟩
      ipureintro; exact h)
    _ (fun _ h hz => ⟨h, hz⟩)

end Cert.Proof

end
-- ==== Proof.KernB.lean ====
/-
  The routing at the ideal values: the sorted rows of the tokens are distinct, the blocks' experts are in range.
-/
module

public import proofs.«01_k».proof.Proof.KernA
public import proofs.«01_k».proof.Proof.Start

@[expose] public section

noncomputable section

namespace Cert.Proof

open Cert.KernelIdeal Cert.KernelIdeal.Gen
open Idealize.ShloMosaic hiding ix1 ix2 ix3
open Idealize.ShloMosaic.ValueIdx
open Idealize.ShloMosaic.StableHlo (after after_unwritten)
open Idealize.ShloMosaic.Pipeline (Dat afterRegion arrRef)
open Cert.Proof.Rows Cert.Proof.Tail Cert.Proof.Count

variable (m : (ℓ : Loc nD τ sig) → Buf (Elt Ideal) ℓ) (d : Dev nD)

/-! ## The SparseCore calls' arguments -/

theorem VC_arg (r : Ref sig .tc) (h : r ∉ [main_v9, main_v10, main_v11]) : VC m d (Proc.devRef .tc r) = VB m d (Proc.devRef .tc r) :=
  after_unwritten [main_v9, main_v10, main_v11] rfl h _

theorem VC_9 (i : Fin 8192) : (VC m d (Proc.devRef .tc main_v9) : IVec S8192 32) (ix1 i) = BitVec.ofNat 32 (eK m d i.val) := by
  have h : VC m d (Proc.devRef .tc main_v9) = shapeCast S8192 (VB m d (Proc.devRef .tc main_v8_0) : IVec S8192x1 32) shapeCasts_S8192x1_S8192 := by
    unfold VC opsB
    after_results <;> rfl
  rw [h, VB_modes]
  refine (shapeCast_apply _ _ (ix1 i) (ix2 i (0 : Fin 1)) ?_).trans rfl
  rw [Shape.rowMajor_val_two, Shape.rowMajor_val_one]
  show i.val * 1 + 0 = i.val
  omega

theorem VC_10 (i : Fin 8192) : (VC m d (Proc.devRef .tc main_v10) : IVec S8192 32) (ix1 i) = BitVec.ofNat 32 (cnt (eK m d) (eK m d i.val) i.val) := by
  have h : VC m d (Proc.devRef .tc main_v10) = shapeCast S8192 (VB m d (Proc.devRef .tc main_v8_1) : IVec S8192x1 32) shapeCasts_S8192x1_S8192 := by
    unfold VC opsB
    after_results <;> rfl
  rw [h, VB_ranks]
  refine (shapeCast_apply _ _ (ix1 i) (ix2 i (0 : Fin 1)) ?_).trans rfl
  rw [Shape.rowMajor_val_two, Shape.rowMajor_val_one]
  show i.val * 1 + 0 = i.val
  omega

theorem VC_11 (l : Fin 16) : (VC m d (Proc.devRef .tc main_v11) : IVec S16 32) (ix1 l) = BitVec.ofNat 32 (if l.val < 8 then cnt (eK m d) l.val 8192 else 0) := by
  have h : VC m d (Proc.devRef .tc main_v11) = shapeCast S16 (VB m d (Proc.devRef .tc main_v8_2) : IVec S1x16 32) shapeCasts_S1x16_S16 := by
    unfold VC opsB
    after_results <;> rfl
  rw [h]
  exact (shapeCast_1a_a_apply _ _ l).trans (VB_counts m d l)

/-! ## The tokens' rows -/

theorem pos_eq (i : Fin 8192) : posW (VC m d (Proc.devRef .tc main_v9)) (VC m d (Proc.devRef .tc main_v10)) (VC m d (Proc.devRef .tc main_v11)) (ix1 i)
    = BitVec.ofNat 32 (pos (eK m d) i.val) := by
  have he := eK_lt m d i.val
  have h9 : (VC m d (Proc.devRef .tc main_v9) : IVec S8192 32) (ix1 i) = _ := VC_9 m d i
  have hn : ((VC m d (Proc.devRef .tc main_v9) : IVec S8192 32) (ix1 i)).toNat = eK m d i.val := by
    rw [h9, BitVec.toNat_ofNat, Nat.mod_eq_of_lt (by omega)]
  have hlt : ((VC m d (Proc.devRef .tc main_v9) : IVec S8192 32) (ix1 i)).toNat < 16 := by omega
  unfold posW gsW
  refine (dif_pos hlt).trans ?_
  have hf : (⟨((VC m d (Proc.devRef .tc main_v9) : IVec S8192 32) (ix1 i)).toNat, hlt⟩ : Fin 16) = ⟨eK m d i.val, by omega⟩ := Fin.ext hn
  rw [hf]
  have hs := starts_apply (VC m d (Proc.devRef .tc main_v11) : IVec S16 32) (eK m d) (VC_11 m d) ⟨eK m d i.val, by omega⟩ he
  refine (congrArg₂ (fun a b : BitVec 32 => a + b) (VC_10 m d i) hs).trans ?_
  show BitVec.ofNat 32 (cnt (eK m d) (eK m d i.val) i.val) + BitVec.ofNat 32 (512 * cum (eK m d) (eK m d i.val)) = _
  rw [← BitVec.ofNat_add]
  rfl

theorem pos_toNat (i : Fin 8192) : (posW (VC m d (Proc.devRef .tc main_v9)) (VC m d (Proc.devRef .tc main_v10)) (VC m d (Proc.devRef .tc main_v11)) (ix1 i)).toNat
    = pos (eK m d) i.val := by
  have h := pos_lt (eK m d) (eK_lt m d) i.isLt
  rw [pos_eq, BitVec.toNat_ofNat, Nat.mod_eq_of_lt (by omega)]

theorem routed : Routed (VC m d (Proc.devRef .tc main_v9)) (VC m d (Proc.devRef .tc main_v10)) (VC m d (Proc.devRef .tc main_v11)) where
  mode_lt t := by
    obtain ⟨i, rfl⟩ : ∃ i : Fin 8192, t = ix1 i := ⟨t 0, ValueIdx.eq_ix1 t⟩
    have he := eK_lt m d i.val
    have h9 : (VC m d (Proc.devRef .tc main_v9) : IVec S8192 32) (ix1 i) = _ := VC_9 m d i
    rw [h9, BitVec.toNat_ofNat, Nat.mod_eq_of_lt (by omega)]
    omega
  pos_lt t := by
    obtain ⟨i, rfl⟩ : ∃ i : Fin 8192, t = ix1 i := ⟨t 0, ValueIdx.eq_ix1 t⟩
    rw [pos_toNat]
    have h := pos_lt (eK m d) (eK_lt m d) i.isLt
    omega
  pos_inj t t' h := by
    obtain ⟨i, rfl⟩ : ∃ i : Fin 8192, t = ix1 i := ⟨t 0, ValueIdx.eq_ix1 t⟩
    obtain ⟨j, rfl⟩ : ∃ j : Fin 8192, t' = ix1 j := ⟨t' 0, ValueIdx.eq_ix1 t'⟩
    have h2 := congrArg BitVec.toNat h
    rw [pos_toNat, pos_toNat] at h2
    exact congrArg _ (Fin.ext (pos_inj (eK m d) i.isLt j.isLt h2))

/-! ## The blocks' experts -/

theorem VE_arg (r : Ref sig .tc) (h : r ∉ [main_v13, main_v14, main_v15, main_v16, main_v17]) : VE m d (Proc.devRef .tc r) = VD m d (Proc.devRef .tc r) :=
  after_unwritten [main_v13, main_v14, main_v15, main_v16, main_v17] rfl h _

theorem VE_13 (b : Fin 128) : (VE m d (Proc.devRef .tc main_v13) : IVec S128 32) (ix1 b) = BitVec.ofNat 32 (min (tab (eK m d) b.val) 7) := by
  have h : VE m d (Proc.devRef .tc main_v13) = shapeCast S128 (VD m d (Proc.devRef .tc main_v8_3) : IVec S128x1 32) shapeCasts_S128x1_S128 := by
    unfold VE opsC
    after_results <;> rfl
  have h2 : VD m d (Proc.devRef .tc main_v8_3) = VB m d (Proc.devRef .tc main_v8_3) :=
    (VD_off m d _ (by decide)).trans (VC_arg m d main_v8_3 (by decide))
  rw [h, h2]
  refine (shapeCast_apply _ _ (ix1 b) (ix2 b (0 : Fin 1)) ?_).trans (VB_table m d b)
  rw [Shape.rowMajor_val_two, Shape.rowMajor_val_one]
  show b.val * 1 + 0 = b.val
  omega

theorem off_at : ∀ i : grid2.Coords, (Scalar.indexCast (BitVec.ofNat 32 (i 0).val)).toNat = (i 0).val := by decide +kernel

/-- The table's entry an index map reads. -/
theorem tab_at (pf : pre2.Contents (Elt Ideal)) (i : grid2.Coords) :
    pf.at 0 (Rect.unit (s := S128) ![(Scalar.indexCast (BitVec.ofNat 32 (i 0).val)).toNat] S1.size (k2_off1_inb i)) numel1_S1
      = (pf 0 : IVec S128 32) (ix1 ⟨(i 0).val, (i 0).isLt.trans (by decide)⟩) := by
  have hi : (i 0).val < 24 := (i 0).isLt
  refine congrArg (pf 0) (funext fun a => Fin.ext ?_)
  obtain rfl : a = (0 : Fin 1) := Subsingleton.elim (α := Fin 1) _ _
  exact (congrArg₂ (· + ·) (off_at i) (rfl : 1 * 0 = 0)).trans (Nat.add_zero _)

/-- The entry of grid point `i`. -/
abbrev ent (pf : pre2.Contents (Elt Ideal)) (i : grid2.Coords) : ℕ := ((pf 0 : IVec S128 32) (ix1 ⟨(i 0).val, (i 0).isLt.trans (by decide)⟩)).toNat

theorem tr_1 (pf : pre2.Contents (Elt Ideal)) (i : grid2.Coords) : cc2_transform_1 k2_off1_inb numel1_S1 pf i = ![ent pf i, 0, 0] :=
  congrArg (fun v : BitVec 32 => (![v.toNat, 0, 0] : Fin 3 → ℕ)) (tab_at pf i)
theorem tr_2 (pf : pre2.Contents (Elt Ideal)) (i : grid2.Coords) : cc2_transform_2 k2_off1_inb numel1_S1 pf i = ![ent pf i, 0, 0] :=
  congrArg (fun v : BitVec 32 => (![v.toNat, 0, 0] : Fin 3 → ℕ)) (tab_at pf i)
theorem tr_3 (pf : pre2.Contents (Elt Ideal)) (i : grid2.Coords) : cc2_transform_3 k2_off1_inb numel1_S1 pf i = ![ent pf i, 0, 0] :=
  congrArg (fun v : BitVec 32 => (![v.toNat, 0, 0] : Fin 3 → ℕ)) (tab_at pf i)
theorem tr_4 (pf : pre2.Contents (Elt Ideal)) (i : grid2.Coords) : cc2_transform_4 k2_off1_inb numel1_S1 pf i = ![ent pf i, 0, 0] :=
  congrArg (fun v : BitVec 32 => (![v.toNat, 0, 0] : Fin 3 → ℕ)) (tab_at pf i)
theorem tr_5 (pf : pre2.Contents (Elt Ideal)) (i : grid2.Coords) : cc2_transform_5 k2_off1_inb numel1_S1 pf i = ![ent pf i, 0, 0] :=
  congrArg (fun v : BitVec 32 => (![v.toNat, 0, 0] : Fin 3 → ℕ)) (tab_at pf i)
theorem tr_6 (pf : pre2.Contents (Elt Ideal)) (i : grid2.Coords) : cc2_transform_6 k2_off1_inb numel1_S1 pf i = ![ent pf i, 0, 0] :=
  congrArg (fun v : BitVec 32 => (![v.toNat, 0, 0] : Fin 3 → ℕ)) (tab_at pf i)
theorem tr_7 (pf : pre2.Contents (Elt Ideal)) (i : grid2.Coords) : cc2_transform_7 k2_off1_inb numel1_S1 pf i = ![ent pf i, 0, 0] :=
  congrArg (fun v : BitVec 32 => (![v.toNat, 0, 0] : Fin 3 → ℕ)) (tab_at pf i)
theorem tr_8 (pf : pre2.Contents (Elt Ideal)) (i : grid2.Coords) : cc2_transform_8 k2_off1_inb numel1_S1 pf i = ![ent pf i, 0, 0] :=
  congrArg (fun v : BitVec 32 => (![v.toNat, 0, 0] : Fin 3 → ℕ)) (tab_at pf i)

/-- An expert's block is inside its array. -/
theorem bnd (e b c : ℕ) (he : e < 8) (a : Fin 3) : ((![e, 0, 0] : Fin 3 → ℕ) a + 1) * (![1, b, c] : Fin 3 → ℕ) a ≤ (![8, b, c] : Fin 3 → ℕ) a := by
  match a with
  | ⟨0, _⟩ => show (e + 1) * 1 ≤ 8; omega
  | ⟨1, _⟩ => show (0 + 1) * b ≤ b; omega
  | ⟨2, _⟩ => show (0 + 1) * c ≤ c; omega

theorem ok2_of (pf : pre2.Contents (Elt Ideal)) (h : ∀ b : Fin 128, ((pf 0 : IVec S128 32) (ix1 b)).toNat < 8) : ok2 pf := by
  have he (i : grid2.Coords) : ent pf i < 8 := h _
  exact ⟨fun i => ⟨by rw [tr_1]; exact bnd _ 4096 64 (he i), Or.inl rfl⟩, fun i => ⟨by rw [tr_2]; exact bnd _ 1 64 (he i), Or.inl rfl⟩,
    fun i => ⟨by rw [tr_3]; exact bnd _ 64 64 (he i), Or.inl rfl⟩, fun i => ⟨by rw [tr_4]; exact bnd _ 1 64 (he i), Or.inl rfl⟩,
    fun i => ⟨by rw [tr_5]; exact bnd _ 64 64 (he i), Or.inl rfl⟩, fun i => ⟨by rw [tr_6]; exact bnd _ 1 64 (he i), Or.inl rfl⟩,
    fun i => ⟨by rw [tr_7]; exact bnd _ 64 256 (he i), Or.inl rfl⟩, fun i => ⟨by rw [tr_8]; exact bnd _ 1 256 (he i), Or.inl rfl⟩⟩

/-- The tables the two calls prefetch. -/
def aK : (p : Fin 2) → (pcfgs (F := Ideal) p).Adm
  | ⟨0, _⟩ => cfg0.toPCfg_adm
  | ⟨1, _⟩ => ⟨fun k => VE m 0 (Proc.devRef .tc (pre2.ref k)), ok2_of _ fun b => by
      have h : (VE m 0 (Proc.devRef .tc main_v13) : IVec S128 32) (ix1 b) = _ := VE_13 m 0 b
      show ((VE m 0 (Proc.devRef .tc main_v13) : IVec S128 32) (ix1 b)).toNat < 8
      rw [h, BitVec.toNat_ofNat]
      exact (Nat.mod_le _ _).trans_lt (by omega)⟩

theorem aK_eq (k) : (aK m 1).1 k = VE m d (Proc.devRef .tc ((pcfgs (F := Ideal) 1).pre.ref k)) := by
  obtain rfl : d = 0 := Subsingleton.elim (α := Fin 1) _ _
  rfl

end Cert.Proof

end
-- ==== Proof.KernC.lean ====
/-
  The experts' call at the ideal values: each block of sorted rows through the expert its table entry names; and the program's result.
-/
module

public import proofs.«01_k».proof.Proof.KernB

@[expose] public section

noncomputable section

namespace Cert.Proof

open Cert.KernelIdeal Cert.KernelIdeal.Gen
open Idealize.ShloMosaic hiding ix1 ix2 ix3
open Idealize.ShloMosaic.ValueIdx
open Idealize.ShloMosaic.StableHlo (after after_unwritten)
open Idealize.ShloMosaic.Pipeline (Dat afterRegion arrRef)
open Cert.Proof.Rows Cert.Proof.Tail Cert.Proof.Count
open Combine (outV)

variable (m : (ℓ : Loc nD τ sig) → Buf (Elt Ideal) ℓ) (d : Dev nD)

/-! ## Buffers that come through -/

/-- The program's arguments. -/
def args : List (Ref sig .tc) :=
  [main_arg0, main_arg1, main_arg2, main_arg3, main_arg4, main_arg5, main_arg6, main_arg7, main_arg8, main_arg9, main_arg10, main_arg11, main_arg12,
    main_arg13, main_arg14, main_arg15, main_arg16]

theorem args_A : ∀ r ∈ args, r ∉ [main_v0, main_v1, main_v2, main_v3, main_call0_cst, main_call0_v0, main_v4, main_v5, main_v6, main_v7] := by decide +kernel
theorem args_0 : ∀ r ∈ args, ∀ w, arrRef spec0 w = r → (cfg0.win w).isOut = false := by decide +kernel
theorem args_B : ∀ r ∈ args, r ∉ [main_v9, main_v10, main_v11] := by decide +kernel
theorem args_12 : ∀ r ∈ args, (Proc.devRef .tc r : DevRef τ sig) ≠ Proc.devRef .tc main_v12 := by decide +kernel
theorem args_C : ∀ r ∈ args, r ∉ [main_v13, main_v14, main_v15, main_v16, main_v17] := by decide +kernel
theorem args_2 : ∀ r ∈ args, ∀ w : Fin 10, arrRef spec2 w = r → (spec2 w).isOut = false := by decide +kernel
theorem args_D : ∀ r ∈ args, r ∉ [main_v19] := by decide +kernel
theorem args_20 : ∀ r ∈ args, (Proc.devRef .tc r : DevRef τ sig) ≠ Proc.devRef .tc main_v20 := by decide +kernel
theorem args_E : ∀ r ∈ args, r ∉ [main_v21] := by decide +kernel

theorem VC_args (r : Ref sig .tc) (h : r ∈ args) : VC m d (Proc.devRef .tc r) = m (d, Proc.devRef .tc r) :=
  (VC_arg m d r (args_B r h)).trans ((VB_keeps m d r (args_0 r h)).trans (VA_arg m d r (args_A r h)))

theorem VD_args (r : Ref sig .tc) (h : r ∈ args) : VD m d (Proc.devRef .tc r) = m (d, Proc.devRef .tc r) :=
  (VD_off m d _ (args_12 r h)).trans (VC_args m d r h)

theorem VE_args (r : Ref sig .tc) (h : r ∈ args) : VE m d (Proc.devRef .tc r) = m (d, Proc.devRef .tc r) :=
  (VE_arg m d r (args_C r h)).trans (VD_args m d r h)

/-- The arguments are unchanged at the end. -/
theorem VI_args (a : (p : Fin 2) → (pcfgs (F := Ideal) p).Adm) (r : Ref sig .tc) (h : r ∈ args) : VI m a d (Proc.devRef .tc r) = m (d, Proc.devRef .tc r) :=
  (after_unwritten [main_v21] rfl (args_E r h) _).trans ((VH_off m a d _ (args_20 r h)).trans ((after_unwritten [main_v19] rfl (args_D r h) _).trans
    ((VF_keeps m a d r (args_2 r h)).trans (VE_args m d r h))))

/-! ## Before the experts' call -/

theorem fin_tk (md rk : S8192.Idx → BitVec 32) (ct : S16.Idx → BitVec 32) (p : Fin 12288)
    (i : Fin 8192) (h : tk md rk ct p.val = i.val) (hlt : tk md rk ct p.val < 8192) : (⟨tk md rk ct p.val, hlt⟩ : Fin 8192) = i := by
  generalize tk md rk ct p.val = z at h hlt
  subst h
  rfl

theorem xsV_lt (obs : S8192x4096.Idx → EReal) (md rk : S8192.Idx → BitVec 32) (ct : S16.Idx → BitVec 32) (xs0 : S12288x4096.Idx → EReal) (p : Fin 12288) (k : Fin 4096)
    (hlt : tk md rk ct p.val < 8192) : xsV (F := Ideal) obs md rk ct xs0 (ix2 p k) = obs (ix2 ⟨_, hlt⟩ k) := by
  have hlt' : tk md rk ct ((ix2 p k : S12288x4096.Idx) 0).val < 8192 := hlt
  unfold xsV
  rw [dif_pos hlt']

/-- A row some token goes to. -/
theorem xsV_at (obs : S8192x4096.Idx → EReal) (md rk : S8192.Idx → BitVec 32) (ct : S16.Idx → BitVec 32) (xs0 : S12288x4096.Idx → EReal) (p : Fin 12288) (k : Fin 4096)
    (i : Fin 8192) (h : tk md rk ct p.val = i.val) : xsV (F := Ideal) obs md rk ct xs0 (ix2 p k) = obs (ix2 i k) := by
  have hlt : tk md rk ct p.val < 8192 := by rw [h]; exact i.isLt
  rw [xsV_lt _ _ _ _ _ _ _ hlt, fin_tk _ _ _ _ _ h]

/-- The sorted array holds a token's row at its place. -/
theorem VE_12 (i : Fin 8192) (p : Fin 12288) (hp : p.val = pos (eK m d) i.val) (k : Fin 4096) :
    (VE m d (Proc.devRef .tc main_v12) : FVec Ideal S12288x4096 .f32) (ix2 p k) = A0 m d (ix2 i k) := by
  have h : VE m d (Proc.devRef .tc main_v12) = xsV (VC m d (Proc.devRef .tc main_arg0)) (VC m d (Proc.devRef .tc main_v9)) (VC m d (Proc.devRef .tc main_v10))
      (VC m d (Proc.devRef .tc main_v11)) (VC m d (Proc.devRef .tc main_v12)) :=
    (VE_arg m d main_v12 (by decide)).trans (Function.update_self _ _ _)
  rw [h, VC_args m d main_arg0 (by decide)]
  have hpos := pos_toNat m d i
  have ht : tk (VC m d (Proc.devRef .tc main_v9)) (VC m d (Proc.devRef .tc main_v10)) (VC m d (Proc.devRef .tc main_v11)) p.val = i.val := by
    rw [hp, ← hpos]
    exact tk_pos (routed m d) i.val i.isLt
  exact xsV_at _ _ _ _ _ p k i ht

theorem VE_14 (e : Fin 8) (n : Fin 64) : (VE m d (Proc.devRef .tc main_v14) : FVec Ideal S8x1x64 .f32) (ix3 e (0 : Fin 1) n) = A10 m d (ix2 e n) := by
  have h : VE m d (Proc.devRef .tc main_v14) = shapeCast S8x1x64 (VD m d (Proc.devRef .tc main_arg10) : FVec Ideal S8x64 .f32) shapeCasts_S8x64_S8x1x64 := by
    unfold VE opsC
    after_results <;> rfl
  rw [h, VD_args m d main_arg10 (by decide)]
  refine shapeCast_apply _ _ (ix3 e (0 : Fin 1) n) (ix2 e n) ?_
  rw [Shape.rowMajor_val_two, Shape.rowMajor_val_three]
  show e.val * 64 + n.val = (e.val * 1 + 0) * 64 + n.val
  omega

theorem VE_15 (e : Fin 8) (n : Fin 64) : (VE m d (Proc.devRef .tc main_v15) : FVec Ideal S8x1x64 .f32) (ix3 e (0 : Fin 1) n) = A12 m d (ix2 e n) := by
  have h : VE m d (Proc.devRef .tc main_v15) = shapeCast S8x1x64 (VD m d (Proc.devRef .tc main_arg12) : FVec Ideal S8x64 .f32) shapeCasts_S8x64_S8x1x64 := by
    unfold VE opsC
    after_results <;> rfl
  rw [h, VD_args m d main_arg12 (by decide)]
  refine shapeCast_apply _ _ (ix3 e (0 : Fin 1) n) (ix2 e n) ?_
  rw [Shape.rowMajor_val_two, Shape.rowMajor_val_three]
  show e.val * 64 + n.val = (e.val * 1 + 0) * 64 + n.val
  omega

theorem VE_16 (e : Fin 8) (n : Fin 64) : (VE m d (Proc.devRef .tc main_v16) : FVec Ideal S8x1x64 .f32) (ix3 e (0 : Fin 1) n) = A14 m d (ix2 e n) := by
  have h : VE m d (Proc.devRef .tc main_v16) = shapeCast S8x1x64 (VD m d (Proc.devRef .tc main_arg14) : FVec Ideal S8x64 .f32) shapeCasts_S8x64_S8x1x64 := by
    unfold VE opsC
    after_results <;> rfl
  rw [h, VD_args m d main_arg14 (by decide)]
  refine shapeCast_apply _ _ (ix3 e (0 : Fin 1) n) (ix2 e n) ?_
  rw [Shape.rowMajor_val_two, Shape.rowMajor_val_three]
  show e.val * 64 + n.val = (e.val * 1 + 0) * 64 + n.val
  omega

theorem VE_17 (e : Fin 8) (n : Fin 256) : (VE m d (Proc.devRef .tc main_v17) : FVec Ideal S8x1x256 .f32) (ix3 e (0 : Fin 1) n) = A16 m d (ix2 e n) := by
  have h : VE m d (Proc.devRef .tc main_v17) = shapeCast S8x1x256 (VD m d (Proc.devRef .tc main_arg16) : FVec Ideal S8x256 .f32) shapeCasts_S8x256_S8x1x256 := by
    unfold VE opsC
    after_results <;> rfl
  rw [h, VD_args m d main_arg16 (by decide)]
  refine shapeCast_apply _ _ (ix3 e (0 : Fin 1) n) (ix2 e n) ?_
  rw [Shape.rowMajor_val_two, Shape.rowMajor_val_three]
  show e.val * 256 + n.val = (e.val * 1 + 0) * 256 + n.val
  omega

/-! ## The experts' blocks -/

theorem coord2 : ∀ t : Fin grid2.N, (grid2.coords t 0).val = t.val := by decide +kernel

theorem at3 {b c : ℕ} (y : (⟨3, ![8, b, c]⟩ : Shape).Idx) (e : Fin 8) (k : Fin b) (n : Fin c) (E : ℕ) (hE : E = e.val)
    (h : ∀ x, (y x).val = (![E, 0, 0] : Fin 3 → ℕ) x * (⟨3, ![1, b, c]⟩ : Shape).size x + 1 * ((ix3 (0 : Fin 1) k n : (⟨3, ![1, b, c]⟩ : Shape).Idx) x).val) :
    y = ix3 e k n := by
  refine funext fun x => Fin.ext ((h x).trans ?_)
  match x with
  | ⟨0, _⟩ => show E * 1 + 1 * 0 = e.val; omega
  | ⟨1, _⟩ => show 0 * b + 1 * k.val = k.val; omega
  | ⟨2, _⟩ => show 0 * c + 1 * n.val = n.val; omega

theorem at2 {b : ℕ} (y : (⟨2, ![12288, b]⟩ : Shape).Idx) (p : Fin 12288) (r : Fin 512) (k : Fin b) (E : ℕ) (hE : p.val = 512 * E + r.val)
    (h : ∀ x, (y x).val = (![E, 0] : Fin 2 → ℕ) x * (⟨2, ![512, b]⟩ : Shape).size x + 1 * ((ix2 r k : (⟨2, ![512, b]⟩ : Shape).Idx) x).val) :
    y = ix2 p k := by
  refine funext fun x => Fin.ext ((h x).trans ?_)
  match x with
  | ⟨0, _⟩ => show E * 512 + 1 * r.val = p.val; omega
  | ⟨1, _⟩ => show 0 * b + 1 * k.val = k.val; omega

variable (a : (p : Fin 2) → (pcfgs (F := Ideal) p).Adm)

theorem N2 : (cfg2 (F := Ideal) (a 1)).N = 24 := rfl

/-- Row `r` of block `t`. -/
abbrev rowOf2 (t : Fin (cfg2 (F := Ideal) (a 1)).N) (r : Fin 512) : Fin 12288 := ⟨512 * t.val + r.val, by have h : t.val < 24 := t.isLt; have := r.isLt; omega⟩

theorem tr_0 : ∀ i : grid2.Coords, cc2_transform_0 i = ![(i 0).val, 0] := by decide +kernel
theorem tr_9 : ∀ i : grid2.Coords, cc2_transform_9 i = ![(i 0).val, 0] := by decide +kernel

variable (W : Dev nD → Valuation τ sig (Elt Ideal)) (t : Fin (cfg2 (F := Ideal) (a 1)).N)

theorem b0_apply (r : Fin 512) (k : Fin 4096) :
    Experts.x0 W a d t (ix2 r k) = (W d (Proc.devRef .tc main_v12) : FVec Ideal S12288x4096 .f32) (ix2 (rowOf2 a t r) k) := by
  have hy : ((((cfg2 (F := Ideal) (a 1)).win 0).blk t).view.emb (ix2 r k) : S12288x4096.Idx) = ix2 (rowOf2 a t r) k := by
    refine at2 _ (rowOf2 a t r) r k t.val rfl fun x => ?_
    have e : ((((((cfg2 (F := Ideal) (a 1)).win 0).blk t).view.emb (ix2 r k) : S12288x4096.Idx) x).val) = cc2_transform_0 (grid2.coords t) x * S512x4096.size x + 1 * ((ix2 r k : S512x4096.Idx) x).val := rfl
    exact e.trans (by rw [tr_0, coord2])
  show (W d (Proc.devRef .tc main_v12) : FVec Ideal S12288x4096 .f32) ((((cfg2 (F := Ideal) (a 1)).win 0).blk t).view.emb (ix2 r k)) = _
  rw [hy]

theorem b1_apply (e : Fin 8) (he : ent (a 1).1 (grid2.coords t) = e.val) (k : Fin 4096) (n : Fin 64) :
    Experts.x1 W a d t (ix3 (0 : Fin 1) k n) = (W d (Proc.devRef .tc main_arg9) : FVec Ideal S8x4096x64 .f32) (ix3 e k n) := by
  show (W d (Proc.devRef .tc main_arg9) : FVec Ideal S8x4096x64 .f32) ((((cfg2 (F := Ideal) (a 1)).win 1).blk t).view.emb (ix3 (0 : Fin 1) k n)) = _
  refine congrArg _ (at3 _ e k n _ he fun x => ?_)
  have h : ((((((cfg2 (F := Ideal) (a 1)).win 1).blk t).view.emb (ix3 (0 : Fin 1) k n) : S8x4096x64.Idx) x).val)
      = cc2_transform_1 k2_off1_inb numel1_S1 (a 1).1 (grid2.coords t) x * S1x4096x64.size x + 1 * ((ix3 (0 : Fin 1) k n : S1x4096x64.Idx) x).val := rfl
  rw [h, tr_1]

theorem b2_apply (e : Fin 8) (he : ent (a 1).1 (grid2.coords t) = e.val) (k : Fin 1) (n : Fin 64) :
    Experts.x2 W a d t (ix3 (0 : Fin 1) k n) = (W d (Proc.devRef .tc main_v14) : FVec Ideal S8x1x64 .f32) (ix3 e k n) := by
  show (W d (Proc.devRef .tc main_v14) : FVec Ideal S8x1x64 .f32) ((((cfg2 (F := Ideal) (a 1)).win 2).blk t).view.emb (ix3 (0 : Fin 1) k n)) = _
  refine congrArg _ (at3 _ e k n _ he fun x => ?_)
  have h : ((((((cfg2 (F := Ideal) (a 1)).win 2).blk t).view.emb (ix3 (0 : Fin 1) k n) : S8x1x64.Idx) x).val)
      = cc2_transform_2 k2_off1_inb numel1_S1 (a 1).1 (grid2.coords t) x * S1x1x64.size x + 1 * ((ix3 (0 : Fin 1) k n : S1x1x64.Idx) x).val := rfl
  rw [h, tr_2]

theorem b3_apply (e : Fin 8) (he : ent (a 1).1 (grid2.coords t) = e.val) (k : Fin 64) (n : Fin 64) :
    Experts.x3 W a d t (ix3 (0 : Fin 1) k n) = (W d (Proc.devRef .tc main_arg11) : FVec Ideal S8x64x64 .f32) (ix3 e k n) := by
  show (W d (Proc.devRef .tc main_arg11) : FVec Ideal S8x64x64 .f32) ((((cfg2 (F := Ideal) (a 1)).win 3).blk t).view.emb (ix3 (0 : Fin 1) k n)) = _
  refine congrArg _ (at3 _ e k n _ he fun x => ?_)
  have h : ((((((cfg2 (F := Ideal) (a 1)).win 3).blk t).view.emb (ix3 (0 : Fin 1) k n) : S8x64x64.Idx) x).val)
      = cc2_transform_3 k2_off1_inb numel1_S1 (a 1).1 (grid2.coords t) x * S1x64x64.size x + 1 * ((ix3 (0 : Fin 1) k n : S1x64x64.Idx) x).val := rfl
  rw [h, tr_3]

theorem b4_apply (e : Fin 8) (he : ent (a 1).1 (grid2.coords t) = e.val) (k : Fin 1) (n : Fin 64) :
    Experts.x4 W a d t (ix3 (0 : Fin 1) k n) = (W d (Proc.devRef .tc main_v15) : FVec Ideal S8x1x64 .f32) (ix3 e k n) := by
  show (W d (Proc.devRef .tc main_v15) : FVec Ideal S8x1x64 .f32) ((((cfg2 (F := Ideal) (a 1)).win 4).blk t).view.emb (ix3 (0 : Fin 1) k n)) = _
  refine congrArg _ (at3 _ e k n _ he fun x => ?_)
  have h : ((((((cfg2 (F := Ideal) (a 1)).win 4).blk t).view.emb (ix3 (0 : Fin 1) k n) : S8x1x64.Idx) x).val)
      = cc2_transform_4 k2_off1_inb numel1_S1 (a 1).1 (grid2.coords t) x * S1x1x64.size x + 1 * ((ix3 (0 : Fin 1) k n : S1x1x64.Idx) x).val := rfl
  rw [h, tr_4]

theorem b5_apply (e : Fin 8) (he : ent (a 1).1 (grid2.coords t) = e.val) (k : Fin 64) (n : Fin 64) :
    Experts.x5 W a d t (ix3 (0 : Fin 1) k n) = (W d (Proc.devRef .tc main_arg13) : FVec Ideal S8x64x64 .f32) (ix3 e k n) := by
  show (W d (Proc.devRef .tc main_arg13) : FVec Ideal S8x64x64 .f32) ((((cfg2 (F := Ideal) (a 1)).win 5).blk t).view.emb (ix3 (0 : Fin 1) k n)) = _
  refine congrArg _ (at3 _ e k n _ he fun x => ?_)
  have h : ((((((cfg2 (F := Ideal) (a 1)).win 5).blk t).view.emb (ix3 (0 : Fin 1) k n) : S8x64x64.Idx) x).val)
      = cc2_transform_5 k2_off1_inb numel1_S1 (a 1).1 (grid2.coords t) x * S1x64x64.size x + 1 * ((ix3 (0 : Fin 1) k n : S1x64x64.Idx) x).val := rfl
  rw [h, tr_5]

theorem b6_apply (e : Fin 8) (he : ent (a 1).1 (grid2.coords t) = e.val) (k : Fin 1) (n : Fin 64) :
    Experts.x6 W a d t (ix3 (0 : Fin 1) k n) = (W d (Proc.devRef .tc main_v16) : FVec Ideal S8x1x64 .f32) (ix3 e k n) := by
  show (W d (Proc.devRef .tc main_v16) : FVec Ideal S8x1x64 .f32) ((((cfg2 (F := Ideal) (a 1)).win 6).blk t).view.emb (ix3 (0 : Fin 1) k n)) = _
  refine congrArg _ (at3 _ e k n _ he fun x => ?_)
  have h : ((((((cfg2 (F := Ideal) (a 1)).win 6).blk t).view.emb (ix3 (0 : Fin 1) k n) : S8x1x64.Idx) x).val)
      = cc2_transform_6 k2_off1_inb numel1_S1 (a 1).1 (grid2.coords t) x * S1x1x64.size x + 1 * ((ix3 (0 : Fin 1) k n : S1x1x64.Idx) x).val := rfl
  rw [h, tr_6]

theorem b7_apply (e : Fin 8) (he : ent (a 1).1 (grid2.coords t) = e.val) (k : Fin 64) (n : Fin 256) :
    Experts.x7 W a d t (ix3 (0 : Fin 1) k n) = (W d (Proc.devRef .tc main_arg15) : FVec Ideal S8x64x256 .f32) (ix3 e k n) := by
  show (W d (Proc.devRef .tc main_arg15) : FVec Ideal S8x64x256 .f32) ((((cfg2 (F := Ideal) (a 1)).win 7).blk t).view.emb (ix3 (0 : Fin 1) k n)) = _
  refine congrArg _ (at3 _ e k n _ he fun x => ?_)
  have h : ((((((cfg2 (F := Ideal) (a 1)).win 7).blk t).view.emb (ix3 (0 : Fin 1) k n) : S8x64x256.Idx) x).val)
      = cc2_transform_7 k2_off1_inb numel1_S1 (a 1).1 (grid2.coords t) x * S1x64x256.size x + 1 * ((ix3 (0 : Fin 1) k n : S1x64x256.Idx) x).val := rfl
  rw [h, tr_7]

theorem b8_apply (e : Fin 8) (he : ent (a 1).1 (grid2.coords t) = e.val) (k : Fin 1) (n : Fin 256) :
    Experts.x8 W a d t (ix3 (0 : Fin 1) k n) = (W d (Proc.devRef .tc main_v17) : FVec Ideal S8x1x256 .f32) (ix3 e k n) := by
  show (W d (Proc.devRef .tc main_v17) : FVec Ideal S8x1x256 .f32) ((((cfg2 (F := Ideal) (a 1)).win 8).blk t).view.emb (ix3 (0 : Fin 1) k n)) = _
  refine congrArg _ (at3 _ e k n _ he fun x => ?_)
  have h : ((((((cfg2 (F := Ideal) (a 1)).win 8).blk t).view.emb (ix3 (0 : Fin 1) k n) : S8x1x256.Idx) x).val)
      = cc2_transform_8 k2_off1_inb numel1_S1 (a 1).1 (grid2.coords t) x * S1x1x256.size x + 1 * ((ix3 (0 : Fin 1) k n : S1x1x256.Idx) x).val := rfl
  rw [h, tr_8]

theorem emb9 (r : Fin 512) (n : Fin 256) : ((((cfg2 (F := Ideal) (a 1)).win 9).blk t).view.emb (ix2 r n) : S12288x256.Idx) = ix2 (rowOf2 a t r) n := by
  refine at2 _ (rowOf2 a t r) r n t.val rfl fun x => ?_
  have e : ((((((cfg2 (F := Ideal) (a 1)).win 9).blk t).view.emb (ix2 r n) : S12288x256.Idx) x).val) = cc2_transform_9 (grid2.coords t) x * S512x256.size x + 1 * ((ix2 r n : S512x256.Idx) x).val := rfl
  rw [e, tr_9, coord2]

end Cert.Proof

end
-- ==== Proof.KernD.lean ====
/-
  The program's result at the ideal values: each token's row through the expert of its mode.
-/
module

public import proofs.«01_k».proof.Proof.KernC
public import Idealize.ShloMosaic.Lib.Pipeline.Covers

@[expose] public section

noncomputable section

namespace Cert.Proof

open Cert.KernelIdeal Cert.KernelIdeal.Gen
open Idealize.ShloMosaic hiding ix1 ix2 ix3
open Idealize.ShloMosaic.ValueIdx
open Idealize.ShloMosaic.StableHlo (after after_unwritten)
open Idealize.ShloMosaic.Pipeline (Dat afterRegion arrRef)
open Cert.Proof.Rows Cert.Proof.Tail Cert.Proof.Count
open Combine (outV)

section Blocks

variable (W : Dev nD → Valuation τ sig (Elt Ideal)) (a : (p : Fin 2) → (pcfgs (F := Ideal) p).Adm) (d : Dev nD)

/-- What the experts' body leaves at point `t`. -/
def blockV (t : Fin (cfg2 (F := Ideal) (a 1)).N) : S512x256.Idx → EReal :=
  Experts.bodyV (F := Ideal) (Experts.x0 W a d t) (Experts.x1 W a d t) (Experts.x2 W a d t) (Experts.x3 W a d t) (Experts.x4 W a d t) (Experts.x5 W a d t)
    (Experts.x6 W a d t) (Experts.x7 W a d t) (Experts.x8 W a d t)

/-- The point of a row. -/
def ptOf (p : Fin 12288) : Fin (cfg2 (F := Ideal) (a 1)).N := ⟨p.val / 512, by show p.val / 512 < 24; have := p.isLt; omega⟩

/-- The experts' rows. -/
def rowsV (x : S12288x256.Idx) : EReal :=
  blockV W a d (ptOf a (x 0)) (ix2 (⟨(x 0).val % 512, Nat.mod_lt _ (by norm_num)⟩ : Fin 512) (x 1))

theorem rowsV_apply (t : Fin (cfg2 (F := Ideal) (a 1)).N) (r : Fin 512) (n : Fin 256) :
    rowsV W a d (ix2 (rowOf2 a t r) n) = blockV W a d t (ix2 r n) := by
  have hr := r.isLt
  have ht : ptOf a (rowOf2 a t r) = t := Fin.ext (by show (512 * t.val + r.val) / 512 = t.val; omega)
  have hm : (⟨(rowOf2 a t r).val % 512, Nat.mod_lt _ (by norm_num)⟩ : Fin 512) = r := Fin.ext (by show (512 * t.val + r.val) % 512 = r.val; omega)
  show blockV W a d (ptOf a (rowOf2 a t r)) (ix2 (⟨(rowOf2 a t r).val % 512, Nat.mod_lt _ (by norm_num)⟩ : Fin 512) n) = _
  rw [ht, hm]

theorem covers9 : ((cfg2 (F := Ideal) (a 1)).win 9).Covers :=
  ((cfg2 (F := Ideal) (a 1)).win 9).covers_of_index_surj rfl (by decide : ∀ x : Fin 2, 0 < S512x256.size x) fun β => by
    have e0 : ((cfg2 (F := Ideal) (a 1)).win 9).nblk (0 : Fin 2) = 24 := (by decide : (12288 + 512 - 1) / 512 = 24)
    have e1 : ((cfg2 (F := Ideal) (a 1)).win 9).nblk (1 : Fin 2) = 1 := (by decide : (256 + 256 - 1) / 256 = 1)
    have h0 : (β (0 : Fin 2)).val < 24 := lt_of_lt_of_eq (β (0 : Fin 2)).isLt e0
    have h1 : (β (1 : Fin 2)).val < 1 := lt_of_lt_of_eq (β (1 : Fin 2)).isLt e1
    refine ⟨⟨(β (0 : Fin 2)).val, h0⟩, fun x => ?_⟩
    have e : ((cfg2 (F := Ideal) (a 1)).win 9).index ⟨(β (0 : Fin 2)).val, h0⟩ x = cc2_transform_9 (grid2.coords ⟨(β (0 : Fin 2)).val, h0⟩) x := rfl
    refine e.trans ?_
    rw [tr_9, coord2]
    match x with
    | ⟨0, _⟩ => rfl
    | ⟨1, _⟩ => show 0 = (β (1 : Fin 2)).val; omega

theorem arr9 : (Experts.dat W a d).arrAt 9 (cfg2 (F := Ideal) (a 1)).N = rowsV W a d := by
  refine (Experts.dat W a d).arrAt_eq_of_covers 9 _ (covers9 a) fun t hf y => ?_
  show blockV W a d t y = rowsV W a d ((((cfg2 (F := Ideal) (a 1)).win 9).blk t).view.emb y : S12288x256.Idx)
  obtain ⟨r, n, rfl⟩ : ∃ (r : Fin 512) (n : Fin 256), y = ix2 r n := ⟨_, _, ValueIdx.eq_ix2 y⟩
  rw [emb9 a t r n, rowsV_apply]

/-- A row of a block whose expert is `e`. -/
theorem blockV_apply (t : Fin (cfg2 (F := Ideal) (a 1)).N) (e : Fin 8) (he : ent (a 1).1 (grid2.coords t) = e.val) (r : Fin 512) (n : Fin 256) :
    blockV W a d t (ix2 r n)
      = net (fun k => (W d (Proc.devRef .tc main_v12) : FVec Ideal S12288x4096 .f32) (ix2 (rowOf2 a t r) k))
        (fun k n => (W d (Proc.devRef .tc main_arg9) : FVec Ideal S8x4096x64 .f32) (ix3 e k n))
        (fun n => (W d (Proc.devRef .tc main_v14) : FVec Ideal S8x1x64 .f32) (ix3 e (0 : Fin 1) n))
        (fun k n => (W d (Proc.devRef .tc main_arg11) : FVec Ideal S8x64x64 .f32) (ix3 e k n))
        (fun n => (W d (Proc.devRef .tc main_v15) : FVec Ideal S8x1x64 .f32) (ix3 e (0 : Fin 1) n))
        (fun k n => (W d (Proc.devRef .tc main_arg13) : FVec Ideal S8x64x64 .f32) (ix3 e k n))
        (fun n => (W d (Proc.devRef .tc main_v16) : FVec Ideal S8x1x64 .f32) (ix3 e (0 : Fin 1) n))
        (fun k n => (W d (Proc.devRef .tc main_arg15) : FVec Ideal S8x64x256 .f32) (ix3 e k n))
        (fun n => (W d (Proc.devRef .tc main_v17) : FVec Ideal S8x1x256 .f32) (ix3 e (0 : Fin 1) n)) n := by
  refine (Experts.bodyV_apply _ _ _ _ _ _ _ _ _ r n).trans ?_
  simp only [b0_apply, b1_apply d a W t e he, b2_apply d a W t e he, b3_apply d a W t e he, b4_apply d a W t e he, b5_apply d a W t e he, b6_apply d a W t e he,
    b7_apply d a W t e he, b8_apply d a W t e he]

end Blocks

variable (m : (ℓ : Loc nD τ sig) → Buf (Elt Ideal) ℓ) (d : Dev nD)

theorem eK_fin (i : Fin 8192) : eK m d i.val = (modeK m d i).val := dif_pos i.isLt

/-- The block of a token's row goes through the expert of its mode. -/
theorem ent_eq (i : Fin 8192) (t : Fin (cfg2 (F := Ideal) (aK m 1)).N) (ht : t.val = pos (eK m d) i.val / 512) :
    ent (aK m 1).1 (grid2.coords t) = (modeK m d i).val := by
  obtain rfl : d = 0 := Subsingleton.elim (α := Fin 1) _ _
  have hc : (grid2.coords t 0).val = t.val := coord2 t
  have hlt : (grid2.coords t 0).val < 128 := (grid2.coords t 0).isLt.trans (by decide)
  have h : (VE m 0 (Proc.devRef .tc main_v13) : IVec S128 32) (ix1 ⟨(grid2.coords t 0).val, hlt⟩) = _ := VE_13 m 0 _
  show ((VE m 0 (Proc.devRef .tc main_v13) : IVec S128 32) (ix1 ⟨(grid2.coords t 0).val, hlt⟩)).toNat = _
  rw [h]
  show (BitVec.ofNat 32 (min (tab (eK m 0) (grid2.coords t 0).val) 7)).toNat = _
  rw [hc, ht, tab_pos _ (eK_lt m 0) i.isLt, eK_fin]
  have := (modeK m 0 i).isLt
  rw [BitVec.toNat_ofNat, Nat.min_eq_left (by omega), Nat.mod_eq_of_lt (by omega)]

/-- A token's row through the expert of its mode. -/
def netK (e : Fin 8) (i : Fin 8192) : Fin 256 → EReal :=
  net (fun k => A0 m d (ix2 i k)) (fun k n => A9 m d (ix3 e k n)) (fun n => A10 m d (ix2 e n)) (fun k n => A11 m d (ix3 e k n)) (fun n => A12 m d (ix2 e n))
    (fun k n => A13 m d (ix3 e k n)) (fun n => A14 m d (ix2 e n)) (fun k n => A15 m d (ix3 e k n)) (fun n => A16 m d (ix2 e n))

theorem VF_18 (i : Fin 8192) (p : Fin 12288) (hp : p.val = pos (eK m d) i.val) (n : Fin 256) :
    (VF m (aK m) d (Proc.devRef .tc main_v18) : FVec Ideal S12288x256 .f32) (ix2 p n) = netK m d (modeK m d i) i n := by
  have h : VF m (aK m) d (Proc.devRef .tc main_v18) = rowsV (VE m) (aK m) d :=
    (Pipeline.afterRegion_arr (Experts.dat (VE m) (aK m) d) (VE m d) (launch2 (F := Ideal)).win.arr_inj 9).trans (arr9 (VE m) (aK m) d)
  rw [h]
  have hlt := p.isLt
  obtain ⟨t, r, hp2⟩ : ∃ (t : Fin (cfg2 (F := Ideal) (aK m 1)).N) (r : Fin 512), p = rowOf2 (aK m) t r :=
    ⟨ptOf (aK m) p, ⟨p.val % 512, Nat.mod_lt _ (by norm_num)⟩, Fin.ext (by show p.val = 512 * (p.val / 512) + p.val % 512; omega)⟩
  have ht : t.val = pos (eK m d) i.val / 512 := by
    rw [← hp, hp2]
    have := r.isLt
    show t.val = (512 * t.val + r.val) / 512
    omega
  rw [hp2, rowsV_apply, blockV_apply (VE m) (aK m) d t (modeK m d i) (ent_eq m d i t ht), ← hp2]
  unfold netK
  have h14 := funext (VE_14 m d (modeK m d i))
  have h15 := funext (VE_15 m d (modeK m d i))
  have h16 := funext (VE_16 m d (modeK m d i))
  have h17 := funext (VE_17 m d (modeK m d i))
  rw [h14, h15, h16, h17]
  simp only [VE_12 m d i p hp, VE_args m d main_arg9 (by decide), VE_args m d main_arg11 (by decide), VE_args m d main_arg13 (by decide),
    VE_args m d main_arg15 (by decide)]

theorem VG_19 (p : Fin 12288) (h : Fin 2) (c : Fin 128) (n : Fin 256) (hn : n.val = h.val * 128 + c.val) :
    (VG m (aK m) d (Proc.devRef .tc main_v19) : FVec Ideal S12288x2x128 .f32) (ix3 p h c)
      = (VF m (aK m) d (Proc.devRef .tc main_v18) : FVec Ideal S12288x256 .f32) (ix2 p n) := by
  have e : VG m (aK m) d (Proc.devRef .tc main_v19) = shapeCast S12288x2x128 (VF m (aK m) d (Proc.devRef .tc main_v18) : FVec Ideal S12288x256 .f32) shapeCasts_S12288x256_S12288x2x128 := by
    unfold VG opsD
    after_results <;> rfl
  rw [e]
  refine shapeCast_apply _ _ (ix3 p h c) (ix2 p n) ?_
  rw [Shape.rowMajor_val_two, Shape.rowMajor_val_three]
  show p.val * 256 + n.val = (p.val * 2 + h.val) * 128 + c.val
  omega

theorem VH_20_apply (i : Fin 8192) (h : Fin 2) (c : Fin 128) (n : Fin 256) (hn : n.val = h.val * 128 + c.val) :
    (VH m (aK m) d (Proc.devRef .tc main_v20) : FVec Ideal S8192x2x128 .f32) (ix3 i h c) = netK m d (modeK m d i) i n := by
  rw [VH_20, same_9, same_10, same_11]
  have hpos := pos_toNat m d i
  have hlt := pos_lt (eK m d) (eK_lt m d) i.isLt
  have hp : min (posW (VC m d (Proc.devRef .tc main_v9)) (VC m d (Proc.devRef .tc main_v10)) (VC m d (Proc.devRef .tc main_v11)) (ix1 i)).toNat 12287 = pos (eK m d) i.val := by
    rw [hpos]; omega
  unfold outV
  refine (VG_19 m d _ h c n hn).trans ?_
  exact VF_18 m d i _ hp n

theorem result (i : Fin 8192) (n : Fin 256) :
    (VI m (aK m) d (Proc.devRef .tc main_v21) : FVec Ideal S8192x256 .f32) (ix2 i n) = netK m d (modeK m d i) i n := by
  have e : VI m (aK m) d (Proc.devRef .tc main_v21) = shapeCast S8192x256 (VH m (aK m) d (Proc.devRef .tc main_v20) : FVec Ideal S8192x2x128 .f32) shapeCasts_S8192x2x128_S8192x256 := by
    unfold VI opsE
    after_results <;> rfl
  rw [e]
  have hn := n.isLt
  refine (shapeCast_apply _ _ (ix2 i n) (ix3 i (⟨n.val / 128, by omega⟩ : Fin 2) (⟨n.val % 128, Nat.mod_lt _ (by norm_num)⟩ : Fin 128)) ?_).trans
    (VH_20_apply m d i _ _ n (by show n.val = n.val / 128 * 128 + n.val % 128; omega))
  rw [Shape.rowMajor_val_two, Shape.rowMajor_val_three]
  show (i.val * 2 + n.val / 128) * 128 + n.val % 128 = i.val * 256 + n.val
  omega

end Cert.Proof

end
-- ==== Proof.RefRun.lean ====
/-
  The reference's run: its host operations in order, in eleven steps, and what each step leaves in the array it computes.
-/
module

public import proofs.«01_k».proof.Proof.Gen.ReferenceIdeal
public import Idealize.ShloMosaic.Lib.StableHlo.RunRead
public import Idealize.ShloMosaic.Lib.StableHlo.RunHlo
public import Idealize.ShloMosaic.Lib.Quiescent
public import Idealize.ShloMosaic.Lib.Pipeline.FrameTail

@[expose] public section

noncomputable section

namespace Cert.Proof.Ref

open Cert.ReferenceIdeal Cert.ReferenceIdeal.Gen
open Idealize.ShloMosaic
open Idealize.ShloMosaic.TcCoe
open Idealize.ShloMosaic.StableHlo (seq after after_unwritten launchContents)
open Idealize.SL Idealize.SL.Sem

variable {F : FTy → Type} [FloatOps F]

/-- The classifier's first layer. -/
def ops1 : List (HloOp τ sig (Elt F)) :=
  [ StableHlo.binary main_arg0 main_arg1 main_v0 ((fun l r => Host.dotGeneral dot_S8192x4096_S4096x64_S8192x64_1_0_0_1_n_n none l r) : (⟨S8192x4096, .f32⟩ : BufTy).Contents (Elt F) → (⟨S4096x64, .f32⟩ : BufTy).Contents (Elt F) → (⟨S8192x64, .f32⟩ : BufTy).Contents (Elt F)),
    StableHlo.unary main_arg2 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S8192x64 ![0, 1] bcast_S1x64_S8192x64_0_1 : (⟨S1x64, .f32⟩ : BufTy).Contents (Elt F) → (⟨S8192x64, .f32⟩ : BufTy).Contents (Elt F)),
    StableHlo.binary main_v0 main_v2 main_v3 (addf : (⟨S8192x64, .f32⟩ : BufTy).Contents (Elt F) → (⟨S8192x64, .f32⟩ : BufTy).Contents (Elt F) → (⟨S8192x64, .f32⟩ : BufTy).Contents (Elt F)),
    StableHlo.TRef.nullary main_call0.cst (constant S_ .f32 0x00000000#32),
    StableHlo.TRef.unary main_call0.cst main_call0.v0 (broadcastInDim S8192x64 ![] bcast_S_S8192x64),
    StableHlo.TRef.binary (.of main_v3) main_call0.v0 main_call0.v1 maximumf ]

/-- Its second layer. -/
def ops2 : List (HloOp τ sig (Elt F)) :=
  [ StableHlo.binary main_v4 main_arg3 main_v5 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg4 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S8192x64 ![0, 1] bcast_S1x64_S8192x64_0_1 : (⟨S1x64, .f32⟩ : BufTy).Contents (Elt F) → (⟨S8192x64, .f32⟩ : BufTy).Contents (Elt F)),
    StableHlo.binary main_v5 main_v7 main_v8 (addf : (⟨S8192x64, .f32⟩ : BufTy).Contents (Elt F) → (⟨S8192x64, .f32⟩ : BufTy).Contents (Elt F) → (⟨S8192x64, .f32⟩ : BufTy).Contents (Elt F)),
    StableHlo.TRef.nullary main_call1.cst (constant S_ .f32 0x00000000#32),
    StableHlo.TRef.unary main_call1.cst main_call1.v0 (broadcastInDim S8192x64 ![] bcast_S_S8192x64),
    StableHlo.TRef.binary (.of main_v8) main_call1.v0 main_call1.v1 maximumf ]

/-- Its third layer. -/
def ops3 : List (HloOp τ sig (Elt F)) :=
  [ StableHlo.binary main_v9 main_arg5 main_v10 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    StableHlo.unary main_arg6 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S8192x64 ![0, 1] bcast_S1x64_S8192x64_0_1 : (⟨S1x64, .f32⟩ : BufTy).Contents (Elt F) → (⟨S8192x64, .f32⟩ : BufTy).Contents (Elt F)),
    StableHlo.binary main_v10 main_v12 main_v13 (addf : (⟨S8192x64, .f32⟩ : BufTy).Contents (Elt F) → (⟨S8192x64, .f32⟩ : BufTy).Contents (Elt F) → (⟨S8192x64, .f32⟩ : BufTy).Contents (Elt F)),
    StableHlo.TRef.nullary main_call2.cst (constant S_ .f32 0x00000000#32),
    StableHlo.TRef.unary main_call2.cst main_call2.v0 (broadcastInDim S8192x64 ![] bcast_S_S8192x64),
    StableHlo.TRef.binary (.of main_v13) main_call2.v0 main_call2.v1 maximumf ]

/-- Its logits. -/
def ops4 : List (HloOp τ sig (Elt F)) :=
  [ StableHlo.binary main_v14 main_arg7 main_v15 ((fun l r => Host.dotGeneral dot_S8192x64_S64x8_S8192x8_1_0_0_1_n_n none l r) : (⟨S8192x64, .f32⟩ : BufTy).Contents (Elt F) → (⟨S64x8, .f32⟩ : BufTy).Contents (Elt F) → (⟨S8192x8, .f32⟩ : BufTy).Contents (Elt F)),
    StableHlo.unary main_arg8 main_v16 (broadcastInDim S1x8 ![1] bcast_S8_S1x8_1 : (⟨S8, .f32⟩ : BufTy).Contents (Elt F) → (⟨S1x8, .f32⟩ : BufTy).Contents (Elt F)),
    StableHlo.unary main_v16 main_v17 (broadcastInDim S8192x8 ![0, 1] bcast_S1x8_S8192x8_0_1 : (⟨S1x8, .f32⟩ : BufTy).Contents (Elt F) → (⟨S8192x8, .f32⟩ : BufTy).Contents (Elt F)),
    StableHlo.binary main_v15 main_v17 main_v18 (addf : (⟨S8192x8, .f32⟩ : BufTy).Contents (Elt F) → (⟨S8192x8, .f32⟩ : BufTy).Contents (Elt F) → (⟨S8192x8, .f32⟩ : BufTy).Contents (Elt F)) ]

/-- Their softmax. -/
def ops5 : List (HloOp τ sig (Elt F)) :=
  [ StableHlo.nullary main_cst (constant S_ .f32 0xFF800000#32),
    StableHlo.binary main_v18 main_cst main_v19 ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v20 (broadcastInDim S8192 ![] bcast_S_S8192 : (⟨S_, .f32⟩ : BufTy).Contents (Elt F) → (⟨S8192, .f32⟩ : BufTy).Contents (Elt F)),
    StableHlo.binary main_v20 main_v19 main_v21 (maximumf : (⟨S8192, .f32⟩ : BufTy).Contents (Elt F) → (⟨S8192, .f32⟩ : BufTy).Contents (Elt F) → (⟨S8192, .f32⟩ : BufTy).Contents (Elt F)),
    StableHlo.unary main_v21 main_v22 (broadcastInDim S8192x1 ![0] bcast_S8192_S8192x1_0 : (⟨S8192, .f32⟩ : BufTy).Contents (Elt F) → (⟨S8192x1, .f32⟩ : BufTy).Contents (Elt F)),
    StableHlo.unary main_v22 main_v23 (broadcastInDim S8192x8 ![0, 1] bcast_S8192x1_S8192x8_0_1 : (⟨S8192x1, .f32⟩ : BufTy).Contents (Elt F) → (⟨S8192x8, .f32⟩ : BufTy).Contents (Elt F)),
    StableHlo.binary main_v18 main_v23 main_v24 (subf : (⟨S8192x8, .f32⟩ : BufTy).Contents (Elt F) → (⟨S8192x8, .f32⟩ : BufTy).Contents (Elt F) → (⟨S8192x8, .f32⟩ : BufTy).Contents (Elt F)),
    StableHlo.unary main_v24 main_v25 (Host.exp : (⟨S8192x8, .f32⟩ : BufTy).Contents (Elt F) → (⟨S8192x8, .f32⟩ : BufTy).Contents (Elt F)),
    StableHlo.nullary main_cst_1 (constant S_ .f32 0x00000000#32),
    StableHlo.binary main_v25 main_cst_1 main_v26 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v26 main_v27 (broadcastInDim S8192x1 ![0] bcast_S8192_S8192x1_0 : (⟨S8192, .f32⟩ : BufTy).Contents (Elt F) → (⟨S8192x1, .f32⟩ : BufTy).Contents (Elt F)),
    StableHlo.unary main_v27 main_v28 (broadcastInDim S8192x8 ![0, 1] bcast_S8192x1_S8192x8_0_1 : (⟨S8192x1, .f32⟩ : BufTy).Contents (Elt F) → (⟨S8192x8, .f32⟩ : BufTy).Contents (Elt F)),
    StableHlo.binary main_v25 main_v28 main_v29 (Host.divf : (⟨S8192x8, .f32⟩ : BufTy).Contents (Elt F) → (⟨S8192x8, .f32⟩ : BufTy).Contents (Elt F) → (⟨S8192x8, .f32⟩ : BufTy).Contents (Elt F)) ]

/-- The modes. -/
def ops6 : List (HloOp τ sig (Elt F)) :=
  [ StableHlo.TRef.nullary main_call3.v0 (iotaInDim S8192x8 32 1),
    StableHlo.TRef.nullary main_call3.cst (constant S_ .f32 0xFF800000#32),
    StableHlo.TRef.nullary main_call3.c (constantI S_ 32 0#32),
    StableHlo.TRef.quaternary (.of main_v29) main_call3.v0 main_call3.cst main_call3.c main_call3.v1_0 (fun x y u v j => (Host.argReduce reducer_argmax_f32_i32 x y u v reducesTo_S8192x8_S8192_d1 h_S_ j).1),
    StableHlo.TRef.quaternary (.of main_v29) main_call3.v0 main_call3.cst main_call3.c main_call3.v1_1 (fun x y u v j => (Host.argReduce reducer_argmax_f32_i32 x y u v reducesTo_S8192x8_S8192_d1 h_S_ j).2) ]

/-- The experts' first layer. -/
def ops7 : List (HloOp τ sig (Elt F)) :=
  [ StableHlo.binary main_arg9 main_arg0 main_v31 ((fun l r => Host.dotGeneral dot_S8x4096x64_S8192x4096_S8x64x8192_1_1_02_0_n_n none l r) : (⟨S8x4096x64, .f32⟩ : BufTy).Contents (Elt F) → (⟨S8192x4096, .f32⟩ : BufTy).Contents (Elt F) → (⟨S8x64x8192, .f32⟩ : BufTy).Contents (Elt F)),
    StableHlo.unary main_v31 main_v32 ((transpose S8x8192x64 [0, 2, 1] · transposes_S8x64x8192_S8x8192x64_0_2_1) : (⟨S8x64x8192, .f32⟩ : BufTy).Contents (Elt F) → (⟨S8x8192x64, .f32⟩ : BufTy).Contents (Elt F)),
    StableHlo.unary main_arg10 main_v33 (broadcastInDim S8x1x64 ![0, 2] bcast_S8x64_S8x1x64_0_2 : (⟨S8x64, .f32⟩ : BufTy).Contents (Elt F) → (⟨S8x1x64, .f32⟩ : BufTy).Contents (Elt F)),
    StableHlo.unary main_v33 main_v34 (broadcastInDim S8x8192x64 ![0, 1, 2] bcast_S8x1x64_S8x8192x64_0_1_2 : (⟨S8x1x64, .f32⟩ : BufTy).Contents (Elt F) → (⟨S8x8192x64, .f32⟩ : BufTy).Contents (Elt F)),
    StableHlo.binary main_v32 main_v34 main_v35 (addf : (⟨S8x8192x64, .f32⟩ : BufTy).Contents (Elt F) → (⟨S8x8192x64, .f32⟩ : BufTy).Contents (Elt F) → (⟨S8x8192x64, .f32⟩ : BufTy).Contents (Elt F)),
    StableHlo.TRef.nullary main_call4.cst (constant S_ .f32 0x00000000#32),
    StableHlo.TRef.unary main_call4.cst main_call4.v0 (broadcastInDim S8x8192x64 ![] bcast_S_S8x8192x64),
    StableHlo.TRef.binary (.of main_v35) main_call4.v0 main_call4.v1 maximumf ]

/-- Their second layer. -/
def ops8 : List (HloOp τ sig (Elt F)) :=
  [ StableHlo.binary main_v36 main_arg11 main_v37 ((fun l r => Host.dotGeneral dot_S8x8192x64_S8x64x64_S8x8192x64_2_1_1_2_0_0 none l r) : (⟨S8x8192x64, .f32⟩ : BufTy).Contents (Elt F) → (⟨S8x64x64, .f32⟩ : BufTy).Contents (Elt F) → (⟨S8x8192x64, .f32⟩ : BufTy).Contents (Elt F)),
    StableHlo.unary main_arg12 main_v38 (broadcastInDim S8x1x64 ![0, 2] bcast_S8x64_S8x1x64_0_2 : (⟨S8x64, .f32⟩ : BufTy).Contents (Elt F) → (⟨S8x1x64, .f32⟩ : BufTy).Contents (Elt F)),
    StableHlo.unary main_v38 main_v39 (broadcastInDim S8x8192x64 ![0, 1, 2] bcast_S8x1x64_S8x8192x64_0_1_2 : (⟨S8x1x64, .f32⟩ : BufTy).Contents (Elt F) → (⟨S8x8192x64, .f32⟩ : BufTy).Contents (Elt F)),
    StableHlo.binary main_v37 main_v39 main_v40 (addf : (⟨S8x8192x64, .f32⟩ : BufTy).Contents (Elt F) → (⟨S8x8192x64, .f32⟩ : BufTy).Contents (Elt F) → (⟨S8x8192x64, .f32⟩ : BufTy).Contents (Elt F)),
    StableHlo.TRef.nullary main_call5.cst (constant S_ .f32 0x00000000#32),
    StableHlo.TRef.unary main_call5.cst main_call5.v0 (broadcastInDim S8x8192x64 ![] bcast_S_S8x8192x64),
    StableHlo.TRef.binary (.of main_v40) main_call5.v0 main_call5.v1 maximumf ]

/-- Their third layer. -/
def ops9 : List (HloOp τ sig (Elt F)) :=
  [ StableHlo.binary main_v41 main_arg13 main_v42 ((fun l r => Host.dotGeneral dot_S8x8192x64_S8x64x64_S8x8192x64_2_1_1_2_0_0 none l r) : (⟨S8x8192x64, .f32⟩ : BufTy).Contents (Elt F) → (⟨S8x64x64, .f32⟩ : BufTy).Contents (Elt F) → (⟨S8x8192x64, .f32⟩ : BufTy).Contents (Elt F)),
    StableHlo.unary main_arg14 main_v43 (broadcastInDim S8x1x64 ![0, 2] bcast_S8x64_S8x1x64_0_2 : (⟨S8x64, .f32⟩ : BufTy).Contents (Elt F) → (⟨S8x1x64, .f32⟩ : BufTy).Contents (Elt F)),
    StableHlo.unary main_v43 main_v44 (broadcastInDim S8x8192x64 ![0, 1, 2] bcast_S8x1x64_S8x8192x64_0_1_2 : (⟨S8x1x64, .f32⟩ : BufTy).Contents (Elt F) → (⟨S8x8192x64, .f32⟩ : BufTy).Contents (Elt F)),
    StableHlo.binary main_v42 main_v44 main_v45 (addf : (⟨S8x8192x64, .f32⟩ : BufTy).Contents (Elt F) → (⟨S8x8192x64, .f32⟩ : BufTy).Contents (Elt F) → (⟨S8x8192x64, .f32⟩ : BufTy).Contents (Elt F)),
    StableHlo.TRef.nullary main_call6.cst (constant S_ .f32 0x00000000#32),
    StableHlo.TRef.unary main_call6.cst main_call6.v0 (broadcastInDim S8x8192x64 ![] bcast_S_S8x8192x64),
    StableHlo.TRef.binary (.of main_v45) main_call6.v0 main_call6.v1 maximumf ]

/-- Their outputs. -/
def ops10 : List (HloOp τ sig (Elt F)) :=
  [ StableHlo.binary main_v46 main_arg15 main_v47 ((fun l r => Host.dotGeneral dot_S8x8192x64_S8x64x256_S8x8192x256_2_1_1_2_0_0 none l r) : (⟨S8x8192x64, .f32⟩ : BufTy).Contents (Elt F) → (⟨S8x64x256, .f32⟩ : BufTy).Contents (Elt F) → (⟨S8x8192x256, .f32⟩ : BufTy).Contents (Elt F)),
    StableHlo.unary main_arg16 main_v48 (broadcastInDim S8x1x256 ![0, 2] bcast_S8x256_S8x1x256_0_2 : (⟨S8x256, .f32⟩ : BufTy).Contents (Elt F) → (⟨S8x1x256, .f32⟩ : BufTy).Contents (Elt F)),
    StableHlo.unary main_v48 main_v49 (broadcastInDim S8x8192x256 ![0, 1, 2] bcast_S8x1x256_S8x8192x256_0_1_2 : (⟨S8x1x256, .f32⟩ : BufTy).Contents (Elt F) → (⟨S8x8192x256, .f32⟩ : BufTy).Contents (Elt F)),
    StableHlo.binary main_v47 main_v49 main_v50 (addf : (⟨S8x8192x256, .f32⟩ : BufTy).Contents (Elt F) → (⟨S8x8192x256, .f32⟩ : BufTy).Contents (Elt F) → (⟨S8x8192x256, .f32⟩ : BufTy).Contents (Elt F)) ]

/-- Each token's row of its mode's expert. -/
def ops11 : List (HloOp τ sig (Elt F)) :=
  [ StableHlo.nullary main_v51 (iotaInDim S8192 32 0),
    StableHlo.nullary main_c (constantI S_ 32 0#32),
    StableHlo.unary main_c main_v52 (broadcastInDim S8192 ![] bcast_S_S8192 : (⟨S_, .i32⟩ : BufTy).Contents (Elt F) → (⟨S8192, .i32⟩ : BufTy).Contents (Elt F)),
    StableHlo.binary main_v30 main_v52 main_v53 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 8#32),
    StableHlo.unary main_c_2 main_v54 (broadcastInDim S8192 ![] bcast_S_S8192 : (⟨S_, .i32⟩ : BufTy).Contents (Elt F) → (⟨S8192, .i32⟩ : BufTy).Contents (Elt F)),
    StableHlo.binary main_v30 main_v54 main_v55 (addi : (⟨S8192, .i32⟩ : BufTy).Contents (Elt F) → (⟨S8192, .i32⟩ : BufTy).Contents (Elt F) → (⟨S8192, .i32⟩ : BufTy).Contents (Elt F)),
    StableHlo.ternary main_v53 main_v55 main_v30 main_v56 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_3 (constantI S_ 32 0#32),
    StableHlo.unary main_c_3 main_v57 (broadcastInDim S8192 ![] bcast_S_S8192 : (⟨S_, .i32⟩ : BufTy).Contents (Elt F) → (⟨S8192, .i32⟩ : BufTy).Contents (Elt F)),
    StableHlo.binary main_v51 main_v57 main_v58 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v59 (broadcastInDim S8192 ![] bcast_S_S8192 : (⟨S_, .i32⟩ : BufTy).Contents (Elt F) → (⟨S8192, .i32⟩ : BufTy).Contents (Elt F)),
    StableHlo.binary main_v51 main_v59 main_v60 (addi : (⟨S8192, .i32⟩ : BufTy).Contents (Elt F) → (⟨S8192, .i32⟩ : BufTy).Contents (Elt F) → (⟨S8192, .i32⟩ : BufTy).Contents (Elt F)),
    StableHlo.ternary main_v58 main_v60 main_v51 main_v61 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v56 main_v62 (broadcastInDim S8192x1 ![0] bcast_S8192_S8192x1_0 : (⟨S8192, .i32⟩ : BufTy).Contents (Elt F) → (⟨S8192x1, .i32⟩ : BufTy).Contents (Elt F)),
    StableHlo.unary main_v61 main_v63 (broadcastInDim S8192x1 ![0] bcast_S8192_S8192x1_0 : (⟨S8192, .i32⟩ : BufTy).Contents (Elt F) → (⟨S8192x1, .i32⟩ : BufTy).Contents (Elt F)),
    StableHlo.binary main_v62 main_v63 main_v64 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v50 main_v64 main_v65 ((fun x i => Host.gather gather_S8x8192x256_S8192x2_S8192x256_1_01_n_n_01_1_11256 x i) : (⟨S8x8192x256, .f32⟩ : BufTy).Contents (Elt F) → (⟨S8192x2, .i32⟩ : BufTy).Contents (Elt F) → (⟨S8192x256, .f32⟩ : BufTy).Contents (Elt F)) ]

set_option maxHeartbeats 4000000 in
theorem main_eq (d : Dev nD) : main (F := F) d = seq (ops1 ++ (ops2 ++ (ops3 ++ (ops4 ++ (ops5 ++ (ops6 ++ (ops7 ++ (ops8 ++ (ops9 ++ (ops10 ++ ops11)))))))))) := by
  simp only [StableHlo.seq_append]
  unfold ops1 ops2 ops3 ops4 ops5 ops6 ops7 ops8 ops9 ops10 ops11
  simp only [main, main_part0, main_part1, fn_relu.body, fn_argmax.body, fn_relu_0.body, seq, bind_assoc, pure_bind]

variable (V : Valuation τ sig (Elt F))

/-- After step 1. -/
def V1 : Valuation τ sig (Elt F) := after ops1 V
/-- After step 2. -/
def V2 : Valuation τ sig (Elt F) := after ops2 (V1 V)
/-- After step 3. -/
def V3 : Valuation τ sig (Elt F) := after ops3 (V2 V)
/-- After step 4. -/
def V4 : Valuation τ sig (Elt F) := after ops4 (V3 V)
/-- After step 5. -/
def V5 : Valuation τ sig (Elt F) := after ops5 (V4 V)
/-- After step 6. -/
def V6 : Valuation τ sig (Elt F) := after ops6 (V5 V)
/-- After step 7. -/
def V7 : Valuation τ sig (Elt F) := after ops7 (V6 V)
/-- After step 8. -/
def V8 : Valuation τ sig (Elt F) := after ops8 (V7 V)
/-- After step 9. -/
def V9 : Valuation τ sig (Elt F) := after ops9 (V8 V)
/-- After step 10. -/
def V10 : Valuation τ sig (Elt F) := after ops10 (V9 V)
/-- After step 11. -/
def V11 : Valuation τ sig (Elt F) := after ops11 (V10 V)

theorem keep1 {r : Ref sig .tc} (h : r ∉ [main_v0, main_v1, main_v2, main_v3, main_call0_cst, main_call0_v0, main_v4]) : V1 V (Proc.devRef .tc r) = V (Proc.devRef .tc r) :=
  after_unwritten [main_v0, main_v1, main_v2, main_v3, main_call0_cst, main_call0_v0, main_v4] rfl h _
theorem keep2 {r : Ref sig .tc} (h : r ∉ [main_v5, main_v6, main_v7, main_v8, main_call1_cst, main_call1_v0, main_v9]) : V2 V (Proc.devRef .tc r) = V1 V (Proc.devRef .tc r) :=
  after_unwritten [main_v5, main_v6, main_v7, main_v8, main_call1_cst, main_call1_v0, main_v9] rfl h _
theorem keep3 {r : Ref sig .tc} (h : r ∉ [main_v10, main_v11, main_v12, main_v13, main_call2_cst, main_call2_v0, main_v14]) : V3 V (Proc.devRef .tc r) = V2 V (Proc.devRef .tc r) :=
  after_unwritten [main_v10, main_v11, main_v12, main_v13, main_call2_cst, main_call2_v0, main_v14] rfl h _
theorem keep4 {r : Ref sig .tc} (h : r ∉ [main_v15, main_v16, main_v17, main_v18]) : V4 V (Proc.devRef .tc r) = V3 V (Proc.devRef .tc r) :=
  after_unwritten [main_v15, main_v16, main_v17, main_v18] rfl h _
theorem keep5 {r : Ref sig .tc} (h : r ∉ [main_cst, main_v19, main_cst_0, main_v20, main_v21, main_v22, main_v23, main_v24, main_v25, main_cst_1, main_v26, main_v27, main_v28, main_v29]) : V5 V (Proc.devRef .tc r) = V4 V (Proc.devRef .tc r) :=
  after_unwritten [main_cst, main_v19, main_cst_0, main_v20, main_v21, main_v22, main_v23, main_v24, main_v25, main_cst_1, main_v26, main_v27, main_v28, main_v29] rfl h _
theorem keep6 {r : Ref sig .tc} (h : r ∉ [main_call3_v0, main_call3_cst, main_call3_c, main_call3_v1_0, main_v30]) : V6 V (Proc.devRef .tc r) = V5 V (Proc.devRef .tc r) :=
  after_unwritten [main_call3_v0, main_call3_cst, main_call3_c, main_call3_v1_0, main_v30] rfl h _
theorem keep7 {r : Ref sig .tc} (h : r ∉ [main_v31, main_v32, main_v33, main_v34, main_v35, main_call4_cst, main_call4_v0, main_v36]) : V7 V (Proc.devRef .tc r) = V6 V (Proc.devRef .tc r) :=
  after_unwritten [main_v31, main_v32, main_v33, main_v34, main_v35, main_call4_cst, main_call4_v0, main_v36] rfl h _
theorem keep8 {r : Ref sig .tc} (h : r ∉ [main_v37, main_v38, main_v39, main_v40, main_call5_cst, main_call5_v0, main_v41]) : V8 V (Proc.devRef .tc r) = V7 V (Proc.devRef .tc r) :=
  after_unwritten [main_v37, main_v38, main_v39, main_v40, main_call5_cst, main_call5_v0, main_v41] rfl h _
theorem keep9 {r : Ref sig .tc} (h : r ∉ [main_v42, main_v43, main_v44, main_v45, main_call6_cst, main_call6_v0, main_v46]) : V9 V (Proc.devRef .tc r) = V8 V (Proc.devRef .tc r) :=
  after_unwritten [main_v42, main_v43, main_v44, main_v45, main_call6_cst, main_call6_v0, main_v46] rfl h _
theorem keep10 {r : Ref sig .tc} (h : r ∉ [main_v47, main_v48, main_v49, main_v50]) : V10 V (Proc.devRef .tc r) = V9 V (Proc.devRef .tc r) :=
  after_unwritten [main_v47, main_v48, main_v49, main_v50] rfl h _
theorem keep11 {r : Ref sig .tc} (h : r ∉ [main_v51, main_c, main_v52, main_v53, main_c_2, main_v54, main_v55, main_v56, main_c_3, main_v57, main_v58, main_c_4, main_v59, main_v60, main_v61, main_v62, main_v63, main_v64, main_v65]) : V11 V (Proc.devRef .tc r) = V10 V (Proc.devRef .tc r) :=
  after_unwritten [main_v51, main_c, main_v52, main_v53, main_c_2, main_v54, main_v55, main_v56, main_c_3, main_v57, main_v58, main_c_4, main_v59, main_v60, main_v61, main_v62, main_v63, main_v64, main_v65] rfl h _

/-! ## The steps' functions -/

/-- A dense layer over the tokens, of each kind the classifier has. -/
abbrev denseA (x : FVec F S8192x4096 .f32) (w : FVec F S4096x64 .f32) (b : FVec F S64 .f32) : FVec F S8192x64 .f32 :=
  addf (Host.dotGeneral dot_S8192x4096_S4096x64_S8192x64_1_0_0_1_n_n none x w) (broadcastInDim S8192x64 ![0, 1] bcast_S1x64_S8192x64_0_1 (broadcastInDim S1x64 ![1] bcast_S64_S1x64_1 b))
abbrev denseB (x : FVec F S8192x64 .f32) (w : FVec F S64x64 .f32) (b : FVec F S64 .f32) : FVec F S8192x64 .f32 :=
  addf (Host.dotGeneral dot_S8192x64_S64x64_S8192x64_1_0_0_1_n_n none x w) (broadcastInDim S8192x64 ![0, 1] bcast_S1x64_S8192x64_0_1 (broadcastInDim S1x64 ![1] bcast_S64_S1x64_1 b))
abbrev denseC (x : FVec F S8192x64 .f32) (w : FVec F S64x8 .f32) (b : FVec F S8 .f32) : FVec F S8192x8 .f32 :=
  addf (Host.dotGeneral dot_S8192x64_S64x8_S8192x8_1_0_0_1_n_n none x w) (broadcastInDim S8192x8 ![0, 1] bcast_S1x8_S8192x8_0_1 (broadcastInDim S1x8 ![1] bcast_S8_S1x8_1 b))
abbrev reluB (x : FVec F S8192x64 .f32) : FVec F S8192x64 .f32 := maximumf x (broadcastInDim S8192x64 ![] bcast_S_S8192x64 (constant S_ .f32 0x00000000#32))
/-- The exponentials of the logits less their row's greatest. -/
abbrev expsV (z : FVec F S8192x8 .f32) : FVec F S8192x8 .f32 :=
  Host.exp (subf z (broadcastInDim S8192x8 ![0, 1] bcast_S8192x1_S8192x8_0_1 (broadcastInDim S8192x1 ![0] bcast_S8192_S8192x1_0
    (maximumf (broadcastInDim S8192 ![] bcast_S_S8192 (constant S_ .f32 0xFF800000#32)) (Host.reduce FloatOps.maximumf z (constant S_ .f32 0xFF800000#32) reducesTo_S8192x8_S8192_d1 h_S_)))))
/-- The softmax of the logits. -/
abbrev softV (z : FVec F S8192x8 .f32) : FVec F S8192x8 .f32 :=
  Host.divf (expsV z) (broadcastInDim S8192x8 ![0, 1] bcast_S8192x1_S8192x8_0_1 (broadcastInDim S8192x1 ![0] bcast_S8192_S8192x1_0
    (Host.reduceAdd (expsV z) (constant S_ .f32 0x00000000#32) reducesTo_S8192x8_S8192_d1 h_S_)))
/-- The modes of the softmaxes. -/
abbrev argV (p : FVec F S8192x8 .f32) : IVec S8192 32 := fun j => (Host.argReduce reducer_argmax_f32_i32 p (iotaInDim S8192x8 32 1) (constant S_ .f32 0xFF800000#32) (constantI S_ 32 0#32) reducesTo_S8192x8_S8192_d1 h_S_ j).2
/-- A dense layer of the eight experts over the tokens, of each kind they have. -/
abbrev denseP (x : FVec F S8192x4096 .f32) (w : FVec F S8x4096x64 .f32) (b : FVec F S8x64 .f32) : FVec F S8x8192x64 .f32 :=
  addf (transpose S8x8192x64 [0, 2, 1] (Host.dotGeneral dot_S8x4096x64_S8192x4096_S8x64x8192_1_1_02_0_n_n none w x) transposes_S8x64x8192_S8x8192x64_0_2_1)
    (broadcastInDim S8x8192x64 ![0, 1, 2] bcast_S8x1x64_S8x8192x64_0_1_2 (broadcastInDim S8x1x64 ![0, 2] bcast_S8x64_S8x1x64_0_2 b))
abbrev denseQ (x : FVec F S8x8192x64 .f32) (w : FVec F S8x64x64 .f32) (b : FVec F S8x64 .f32) : FVec F S8x8192x64 .f32 :=
  addf (Host.dotGeneral dot_S8x8192x64_S8x64x64_S8x8192x64_2_1_1_2_0_0 none x w)
    (broadcastInDim S8x8192x64 ![0, 1, 2] bcast_S8x1x64_S8x8192x64_0_1_2 (broadcastInDim S8x1x64 ![0, 2] bcast_S8x64_S8x1x64_0_2 b))
abbrev denseR (x : FVec F S8x8192x64 .f32) (w : FVec F S8x64x256 .f32) (b : FVec F S8x256 .f32) : FVec F S8x8192x256 .f32 :=
  addf (Host.dotGeneral dot_S8x8192x64_S8x64x256_S8x8192x256_2_1_1_2_0_0 none x w)
    (broadcastInDim S8x8192x256 ![0, 1, 2] bcast_S8x1x256_S8x8192x256_0_1_2 (broadcastInDim S8x1x256 ![0, 2] bcast_S8x256_S8x1x256_0_2 b))
abbrev reluP (x : FVec F S8x8192x64 .f32) : FVec F S8x8192x64 .f32 := maximumf x (broadcastInDim S8x8192x64 ![] bcast_S_S8x8192x64 (constant S_ .f32 0x00000000#32))
/-- Each token's row of the expert of its mode; a negative index counts from the end. -/
abbrev pickIx (md : IVec S8192 32) : IVec S8192x2 32 :=
  concatenate S8192x2 1 [⟨S8192x1, broadcastInDim S8192x1 ![0] bcast_S8192_S8192x1_0 (select (cmpi .slt md (broadcastInDim S8192 ![] bcast_S_S8192 (constantI S_ 32 0#32))) (addi md (broadcastInDim S8192 ![] bcast_S_S8192 (constantI S_ 32 8#32))) md)⟩,
    ⟨S8192x1, broadcastInDim S8192x1 ![0] bcast_S8192_S8192x1_0 (select (cmpi .slt (iotaInDim S8192 32 0) (broadcastInDim S8192 ![] bcast_S_S8192 (constantI S_ 32 0#32))) (addi (iotaInDim S8192 32 0) (broadcastInDim S8192 ![] bcast_S_S8192 (constantI S_ 32 8192#32))) (iotaInDim S8192 32 0))⟩] concatenates_S8192x1_S8192x1_S8192x2_d1
abbrev pickV (y : FVec F S8x8192x256 .f32) (md : IVec S8192 32) : FVec F S8192x256 .f32 :=
  Host.gather gather_S8x8192x256_S8192x2_S8192x256_1_01_n_n_01_1_11256 y (pickIx md)

theorem val1 : V1 V (Proc.devRef .tc main_v4) = reluB (denseA (V (Proc.devRef .tc main_arg0)) (V (Proc.devRef .tc main_arg1)) (V (Proc.devRef .tc main_arg2))) := by
  unfold V1 ops1
  after_results <;> rfl

theorem val2 : V2 V (Proc.devRef .tc main_v9) = reluB (denseB (V1 V (Proc.devRef .tc main_v4)) (V1 V (Proc.devRef .tc main_arg3)) (V1 V (Proc.devRef .tc main_arg4))) := by
  unfold V2 ops2
  after_results <;> rfl

theorem val3 : V3 V (Proc.devRef .tc main_v14) = reluB (denseB (V2 V (Proc.devRef .tc main_v9)) (V2 V (Proc.devRef .tc main_arg5)) (V2 V (Proc.devRef .tc main_arg6))) := by
  unfold V3 ops3
  after_results <;> rfl

theorem val4 : V4 V (Proc.devRef .tc main_v18) = denseC (V3 V (Proc.devRef .tc main_v14)) (V3 V (Proc.devRef .tc main_arg7)) (V3 V (Proc.devRef .tc main_arg8)) := by
  unfold V4 ops4
  after_results <;> rfl

theorem val5 : V5 V (Proc.devRef .tc main_v29) = softV (V4 V (Proc.devRef .tc main_v18)) := by
  unfold V5 ops5
  after_results <;> rfl

theorem val6 : V6 V (Proc.devRef .tc main_v30) = argV (V5 V (Proc.devRef .tc main_v29)) := by
  unfold V6 ops6
  after_results <;> rfl

theorem val7 : V7 V (Proc.devRef .tc main_v36) = reluP (denseP (V6 V (Proc.devRef .tc main_arg0)) (V6 V (Proc.devRef .tc main_arg9)) (V6 V (Proc.devRef .tc main_arg10))) := by
  unfold V7 ops7
  after_results <;> rfl

theorem val8 : V8 V (Proc.devRef .tc main_v41) = reluP (denseQ (V7 V (Proc.devRef .tc main_v36)) (V7 V (Proc.devRef .tc main_arg11)) (V7 V (Proc.devRef .tc main_arg12))) := by
  unfold V8 ops8
  after_results <;> rfl

theorem val9 : V9 V (Proc.devRef .tc main_v46) = reluP (denseQ (V8 V (Proc.devRef .tc main_v41)) (V8 V (Proc.devRef .tc main_arg13)) (V8 V (Proc.devRef .tc main_arg14))) := by
  unfold V9 ops9
  after_results <;> rfl

theorem val10 : V10 V (Proc.devRef .tc main_v50) = denseR (V9 V (Proc.devRef .tc main_v46)) (V9 V (Proc.devRef .tc main_arg15)) (V9 V (Proc.devRef .tc main_arg16)) := by
  unfold V10 ops10
  after_results <;> rfl

theorem val11 : V11 V (Proc.devRef .tc main_v65) = pickV (V10 V (Proc.devRef .tc main_v50)) (V10 V (Proc.devRef .tc main_v30)) := by
  unfold V11 ops11
  after_results <;> rfl

/-! ## The run -/

theorem hR : (Finset.univ.filter fun b : Ref sig .tc => b.isScoped) = ∅ := by decide
theorem hC : (Finset.univ.filter fun sm : SemLoc sig => sm.isScoped .tc) = ∅ := by decide

theorem hS : ∀ _ : Dev nD, List.Forall (fun op : HloOp τ sig (Elt F) => op.bufs ⊆ StableHlo.tcRefs τ sig) (ops1 (F := F) ++ (ops2 ++ (ops3 ++ (ops4 ++ (ops5 ++ (ops6 ++ (ops7 ++ (ops8 ++ (ops9 ++ (ops10 ++ ops11)))))))))) := by
  intro _
  simp only [List.forall_append]
  refine ⟨?_, ?_, ?_, ?_, ?_, ?_, ?_, ?_, ?_, ?_, ?_⟩
  · simp [ops1]
  · simp [ops2]
  · simp [ops3]
  · simp [ops4]
  · simp [ops5]
  · simp [ops6]
  · simp [ops7]
  · simp [ops8]
  · simp [ops9]
  · simp [ops10]
  · simp [ops11]

theorem hfresh : List.Forall (fun op : HloOp τ sig (Elt F) => op.fresh = ∅) (ops1 (F := F) ++ (ops2 ++ (ops3 ++ (ops4 ++ (ops5 ++ (ops6 ++ (ops7 ++ (ops8 ++ (ops9 ++ (ops10 ++ ops11)))))))))) :=
  StableHlo.forall_fresh_of_map rfl

theorem run (m : (ℓ : Loc nD τ sig) → Buf (Elt F) ℓ) (ρ) :
    θ_run (Cert.ReferenceIdeal.defs (F := F)) (onTc (τ := τ) main) ⟨m, fun _ => 0, ρ⟩
      (fun r => (∀ d b, r.2.mem ((d.tc : Thread nD τ).loc b) = V11 (launchContents m d) (Proc.devRef .tc b)) ∧ r.2.sem = fun _ => 0) := by
  refine θ_run_mono (StableHlo.run_seq hR hC _ main _ main_eq hS m ρ (fun _ op h => List.forall_iff_forall_mem.1 hfresh op h)) ?_
  intro r h
  refine ⟨fun d b => (h d b).trans ?_, sem_eq_zero_of_no_sems (by decide) _⟩
  simp only [StableHlo.after_append]
  rfl

theorem V11_arg (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V11 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep11 V (by decide)).trans ((keep10 V (by decide)).trans ((keep9 V (by decide)).trans ((keep8 V (by decide)).trans ((keep7 V (by decide)).trans ((keep6 V (by decide)).trans ((keep5 V (by decide)).trans ((keep4 V (by decide)).trans ((keep3 V (by decide)).trans ((keep2 V (by decide)).trans (keep1 V (by decide)))))))))))

end Cert.Proof.Ref
-- ==== Proof.RefVal.lean ====
/-
  The reference's steps at the ideal values, read row by row.
-/
module

public import proofs.«01_k».proof.Proof.RefRun
public import proofs.«01_k».proof.Proof.Rows
public import Idealize.ShloMosaic.Lib.Pointwise.Contract
public import Idealize.ShloMosaic.Lib.Layout
public import Idealize.ShloMosaic.Lib.Pipeline.Value

@[expose] public section

noncomputable section

namespace Cert.Proof.Ref

open Cert.ReferenceIdeal Cert.ReferenceIdeal.Gen
open Idealize.ShloMosaic hiding ix1 ix2 ix3
open Idealize.ShloMosaic.WordCmp
open Idealize.ShloMosaic.ValueIdx
open Cert.Proof.Rows

theorem ix2_same {a b : ℕ} (i : Fin a) (j : Fin b) : Idealize.ShloMosaic.ix2 i j = ix2 i j := ValueIdx.eq_ix2 _
theorem ix3_same {a b c : ℕ} (i : Fin a) (j : Fin b) (k : Fin c) : Idealize.ShloMosaic.ix3 i j k = ix3 i j k := ValueIdx.eq_ix3 _

theorem bias64 (b : FVec Ideal S64 .f32) (i : Fin 8192) (n : Fin 64) :
    broadcastInDim S8192x64 ![0, 1] bcast_S1x64_S8192x64_0_1 (broadcastInDim S1x64 ![1] bcast_S64_S1x64_1 b) (ix2 i n) = b (ix1 n) := by
  rw [broadcastInDim_apply _ _ _ _ (ix2 (0 : Fin 1) n) (fun a => by match a with | ⟨0, _⟩ => rfl | ⟨1, _⟩ => rfl),
    broadcastInDim_apply _ _ _ _ (ix1 n) (fun a => by match a with | ⟨0, _⟩ => rfl)]

theorem bias8 (b : FVec Ideal S8 .f32) (i : Fin 8192) (n : Fin 8) :
    broadcastInDim S8192x8 ![0, 1] bcast_S1x8_S8192x8_0_1 (broadcastInDim S1x8 ![1] bcast_S8_S1x8_1 b) (ix2 i n) = b (ix1 n) := by
  rw [broadcastInDim_apply _ _ _ _ (ix2 (0 : Fin 1) n) (fun a => by match a with | ⟨0, _⟩ => rfl | ⟨1, _⟩ => rfl),
    broadcastInDim_apply _ _ _ _ (ix1 n) (fun a => by match a with | ⟨0, _⟩ => rfl)]

theorem bias8x64 (b : FVec Ideal S8x64 .f32) (e : Fin 8) (i : Fin 8192) (n : Fin 64) :
    broadcastInDim S8x8192x64 ![0, 1, 2] bcast_S8x1x64_S8x8192x64_0_1_2 (broadcastInDim S8x1x64 ![0, 2] bcast_S8x64_S8x1x64_0_2 b) (ix3 e i n) = b (ix2 e n) := by
  rw [broadcastInDim_apply _ _ _ _ (ix3 e (0 : Fin 1) n) (fun a => by match a with | ⟨0, _⟩ => rfl | ⟨1, _⟩ => rfl | ⟨2, _⟩ => rfl),
    broadcastInDim_apply _ _ _ _ (ix2 e n) (fun a => by match a with | ⟨0, _⟩ => rfl | ⟨1, _⟩ => rfl)]

theorem bias8x256 (b : FVec Ideal S8x256 .f32) (e : Fin 8) (i : Fin 8192) (n : Fin 256) :
    broadcastInDim S8x8192x256 ![0, 1, 2] bcast_S8x1x256_S8x8192x256_0_1_2 (broadcastInDim S8x1x256 ![0, 2] bcast_S8x256_S8x1x256_0_2 b) (ix3 e i n) = b (ix2 e n) := by
  rw [broadcastInDim_apply _ _ _ _ (ix3 e (0 : Fin 1) n) (fun a => by match a with | ⟨0, _⟩ => rfl | ⟨1, _⟩ => rfl | ⟨2, _⟩ => rfl),
    broadcastInDim_apply _ _ _ _ (ix2 e n) (fun a => by match a with | ⟨0, _⟩ => rfl | ⟨1, _⟩ => rfl)]

theorem denseA_apply (x : FVec Ideal S8192x4096 .f32) (w : FVec Ideal S4096x64 .f32) (b : FVec Ideal S64 .f32) (i : Fin 8192) (n : Fin 64) :
    denseA x w b (ix2 i n) = lin (fun k => x (ix2 i k)) (fun k n => w (ix2 k n)) (fun n => b (ix1 n)) n := by
  refine congrArg₂ (fun a b : EReal => a + b) ?_ (bias64 b i n)
  simp only [pointwise, zero_add, ix2_same, ix3_same]

theorem denseB_apply (x : FVec Ideal S8192x64 .f32) (w : FVec Ideal S64x64 .f32) (b : FVec Ideal S64 .f32) (i : Fin 8192) (n : Fin 64) :
    denseB x w b (ix2 i n) = lin (fun k => x (ix2 i k)) (fun k n => w (ix2 k n)) (fun n => b (ix1 n)) n := by
  refine congrArg₂ (fun a b : EReal => a + b) ?_ (bias64 b i n)
  simp only [pointwise, zero_add, ix2_same, ix3_same]

theorem denseC_apply (x : FVec Ideal S8192x64 .f32) (w : FVec Ideal S64x8 .f32) (b : FVec Ideal S8 .f32) (i : Fin 8192) (n : Fin 8) :
    denseC x w b (ix2 i n) = lin (fun k => x (ix2 i k)) (fun k n => w (ix2 k n)) (fun n => b (ix1 n)) n := by
  refine congrArg₂ (fun a b : EReal => a + b) ?_ (bias8 b i n)
  simp only [pointwise, zero_add, ix2_same, ix3_same]

theorem denseP_apply (x : FVec Ideal S8192x4096 .f32) (w : FVec Ideal S8x4096x64 .f32) (b : FVec Ideal S8x64 .f32) (e : Fin 8) (i : Fin 8192) (n : Fin 64) :
    denseP x w b (ix3 e i n) = lin (fun k => x (ix2 i k)) (fun k n => w (ix3 e k n)) (fun n => b (ix2 e n)) n := by
  refine congrArg₂ (fun a b : EReal => a + b) ?_ (bias8x64 b e i n)
  refine (transpose_ix3_021_apply _ _ e i n).trans ?_
  simp only [pointwise, zero_add, ix2_same, ix3_same]
  exact Finset.sum_congr rfl fun k _ => mul_comm _ _

theorem denseQ_apply (x : FVec Ideal S8x8192x64 .f32) (w : FVec Ideal S8x64x64 .f32) (b : FVec Ideal S8x64 .f32) (e : Fin 8) (i : Fin 8192) (n : Fin 64) :
    denseQ x w b (ix3 e i n) = lin (fun k => x (ix3 e i k)) (fun k n => w (ix3 e k n)) (fun n => b (ix2 e n)) n := by
  refine congrArg₂ (fun a b : EReal => a + b) ?_ (bias8x64 b e i n)
  simp only [pointwise, zero_add, ix2_same, ix3_same]

theorem denseR_apply (x : FVec Ideal S8x8192x64 .f32) (w : FVec Ideal S8x64x256 .f32) (b : FVec Ideal S8x256 .f32) (e : Fin 8) (i : Fin 8192) (n : Fin 256) :
    denseR x w b (ix3 e i n) = lin (fun k => x (ix3 e i k)) (fun k n => w (ix3 e k n)) (fun n => b (ix2 e n)) n := by
  refine congrArg₂ (fun a b : EReal => a + b) ?_ (bias8x256 b e i n)
  simp only [pointwise, zero_add, ix2_same, ix3_same]

theorem reluB_apply (x : FVec Ideal S8192x64 .f32) (i : Fin 8192) (n : Fin 64) : reluB x (ix2 i n) = rl (fun k => x (ix2 i k)) n := by
  show max (x (ix2 i n) : EReal) (Ideal.ofBits .f32 0x00000000#32) = max (x (ix2 i n) : EReal) 0
  rw [Ideal.ofBits_zero_f32]

theorem reluP_apply (x : FVec Ideal S8x8192x64 .f32) (e : Fin 8) (i : Fin 8192) (n : Fin 64) : reluP x (ix3 e i n) = rl (fun k => x (ix3 e i k)) n := by
  show max (x (ix3 e i n) : EReal) (Ideal.ofBits .f32 0x00000000#32) = max (x (ix3 e i n) : EReal) 0
  rw [Ideal.ofBits_zero_f32]

/-! ## The softmax -/

theorem reduces_row : S8192x8.Reduces [1] S8192 := by decide

theorem lift_row (i : Fin 8192) (k : Fin 8) : reduces_row.lift (ix1 i) k = ix2 i k := by
  funext a; apply Fin.ext
  match a with
  | ⟨0, _⟩ => rfl
  | ⟨1, _⟩ => rfl

theorem spread_row (v : FVec Ideal S8192 .f32) (i : Fin 8192) (k : Fin 8) :
    broadcastInDim S8192x8 ![0, 1] bcast_S8192x1_S8192x8_0_1 (broadcastInDim S8192x1 ![0] bcast_S8192_S8192x1_0 v) (ix2 i k) = v (ix1 i) := by
  rw [broadcastInDim_apply _ _ _ _ (ix2 i (0 : Fin 1)) (fun a => by match a with | ⟨0, _⟩ => rfl | ⟨1, _⟩ => rfl),
    broadcastInDim_apply _ _ _ _ (ix1 i) (fun a => by match a with | ⟨0, _⟩ => rfl)]

theorem expsV_apply (z : FVec Ideal S8192x8 .f32) (i : Fin 8192) (k : Fin 8) :
    (expsV z (ix2 i k) : EReal) = Ideal.exp ((z (ix2 i k) : EReal) - top (fun k => z (ix2 i k))) := by
  refine congrArg (fun m => Ideal.exp ((z (ix2 i k) : EReal) - m)) ((spread_row _ i k).trans ?_)
  refine (congrArg (fun m => max (Ideal.ofBits .f32 0xFF800000#32) m) ?_).trans (max_bot_top _)
  refine (Host.reduce_eq_fold_single _ _ _ _ reduces_row _ _).trans ?_
  exact Finset.fold_congr fun k _ => congrArg z (lift_row i k)

theorem div_row (x : FVec Ideal S8192x8 .f32) (v : FVec Ideal S8192 .f32) (i : Fin 8192) (k : Fin 8) :
    Host.divf x (broadcastInDim S8192x8 ![0, 1] bcast_S8192x1_S8192x8_0_1 (broadcastInDim S8192x1 ![0] bcast_S8192_S8192x1_0 v)) (ix2 i k) = Ideal.div (x (ix2 i k)) (v (ix1 i)) :=
  congrArg (Ideal.div _) (spread_row v i k)

theorem softV_apply (z : FVec Ideal S8192x8 .f32) (i : Fin 8192) (k : Fin 8) :
    softV z (ix2 i k) = soft (fun k => z (ix2 i k)) k := by
  have h1 : softV z (ix2 i k) = Ideal.div (expsV z (ix2 i k)) (Host.reduceAdd (expsV z) (constant S_ .f32 0x00000000#32) reducesTo_S8192x8_S8192_d1 h_S_ (ix1 i)) :=
    div_row _ _ i k
  have h2 : Host.reduceAdd (expsV z) (constant (F := Ideal) S_ .f32 0x00000000#32) reducesTo_S8192x8_S8192_d1 h_S_ (ix1 i) = ∑ k, Ideal.exp ((z (ix2 i k) : EReal) - top (fun k => z (ix2 i k))) := by
    refine (hostReduceAdd_apply _ _ _ _ _).trans ?_
    refine (Ideal.hostReduceAdd_single _ reduces_row _ _ _).trans ?_
    refine (congrArg₂ (fun a b : EReal => a + b) Ideal.ofBits_zero_f32 rfl).trans ((zero_add _).trans ?_)
    exact Finset.sum_congr rfl fun k _ => (congrArg (expsV z) (lift_row i k)).trans (expsV_apply z i k)
  rw [h1, h2, expsV_apply]
  rfl

/-! ## The modes -/

theorem reducer_step (a b : EReal × BitVec 32) : reducer_argmax_f32_i32 (F := Ideal) a b = step a b := by
  have h1 : (FloatOps.cmpf (F := Ideal) (φ := .f32) .une a.1 a.1) = 0#1 := by simp [Ideal.cmpf_def, Ideal.cmp]
  have h2 : FloatOps.cmpf (F := Ideal) (φ := .f32) .ogt a.1 b.1 = BitVec.ofBool (decide (b.1 < a.1)) := by simp [Ideal.cmpf_def, Ideal.cmp]
  have h3 : FloatOps.cmpf (F := Ideal) (φ := .f32) .oeq a.1 b.1 = BitVec.ofBool (decide (a.1 = b.1)) := by simp [Ideal.cmpf_def, Ideal.cmp]
  have h4 : IntOp.cmpi .slt a.2 b.2 = BitVec.ofBool (decide (a.2.toInt < b.2.toInt)) := by simp [IntOp.cmpi, BitVec.slt_eq_decide]
  unfold reducer_argmax_f32_i32 step
  simp only [h1, h2, h3, h4]
  by_cases c1 : b.1 < a.1 <;> by_cases c2 : a.1 = b.1 <;> by_cases c3 : a.2.toInt < b.2.toInt <;> simp [c1, c2, c3, IntOp.ori, IntOp.andi, Scalar.select]

theorem argV_apply (p : FVec Ideal S8192x8 .f32) (i : Fin 8192) :
    argV p (ix1 i) = BitVec.ofNat 32 (modeOf (fun k => p (ix2 i k))).val := by
  have h1 := congrFun (Ideal.argReduce_eq_reduce2 (reducer_argmax_f32_i32 (F := Ideal)) p (iotaInDim S8192x8 32 1) (constant (F := Ideal) S_ .f32 0xFF800000#32) (constantI S_ 32 0#32)
    reducesTo_S8192x8_S8192_d1 h_S_) (ix1 i)
  have h2 := Host.reduce2_eq_foldl_fiber (reducer_argmax_f32_i32 (F := Ideal)) p (iotaInDim S8192x8 32 1) (constant (F := Ideal) S_ .f32 0xFF800000#32) (constantI S_ 32 0#32)
    reducesTo_S8192x8_S8192_d1 h_S_ (ix1 i)
  refine (congrArg Prod.snd (h1.trans h2)).trans ?_
  have h3 : (reducer_argmax_f32_i32 (F := Ideal)) = step := funext fun a => funext fun b => reducer_step a b
  rw [h3]
  have h4 : ((constant (F := Ideal) S_ .f32 0xFF800000#32) (Shape.Idx.first h_S_), (constantI S_ 32 0#32) (Shape.Idx.first h_S_)) = ((⊥ : EReal), 0#32) :=
    Prod.ext bits_bot rfl
  rw [h4]
  refine foldl_step (fun k => p (ix2 i k)) _ (fun x hx => ?_) (fun j => ?_)
  · unfold Host.argReduceFiber at hx
    obtain ⟨n, hn, rfl⟩ := List.mem_map.mp hx
    have hd := (List.mem_filter.mp hn).2
    generalize S8192x8.rowMajor.symm n = q at hd ⊢
    have hd : reducesTo_S8192x8_S8192_d1.drop q = ix1 i := by simpa using hd
    rw [Shape.ReducesTo.drop_eq_drop reducesTo_S8192x8_S8192_d1 reduces_row] at hd
    have h5 : q 0 = i := congrFun hd 0
    refine ⟨q 1, ?_⟩
    have h6 : q = ix2 i (q 1) := by rw [← h5]; exact ValueIdx.eq_ix2 q
    exact Prod.ext (congrArg p h6) rfl
  · unfold Host.argReduceFiber
    refine List.mem_map.mpr ⟨S8192x8.rowMajor (ix2 i j), List.mem_filter.mpr ⟨List.mem_finRange _, ?_⟩, ?_⟩
    · rw [Equiv.symm_apply_apply]
      have h7 : reducesTo_S8192x8_S8192_d1.drop (ix2 i j) = ix1 i := by
        rw [Shape.ReducesTo.drop_eq_drop reducesTo_S8192x8_S8192_d1 reduces_row]
        funext a
        match a with
        | ⟨0, _⟩ => rfl
      simpa using h7
    · rw [Equiv.symm_apply_apply]; rfl

/-! ## The choice of each token's row -/

theorem spread_ix (v : IVec S8192 32) (i : Fin 8192) : broadcastInDim S8192x1 ![0] bcast_S8192_S8192x1_0 v (ix2 i (0 : Fin 1)) = v (ix1 i) :=
  broadcastInDim_apply _ _ _ _ (ix1 i) (fun a => by match a with | ⟨0, _⟩ => rfl)

theorem keep_word (n : ℕ) (hn : n < 2 ^ 31) (c : BitVec 32) :
    Scalar.select (IntOp.cmpi .slt (BitVec.ofNat 32 n) 0#32) (BitVec.ofNat 32 n + c) (BitVec.ofNat 32 n) = BitVec.ofNat 32 n := by
  have h : IntOp.cmpi .slt (BitVec.ofNat 32 n) 0#32 = 0#1 := by
    show BitVec.ofBool ((BitVec.ofNat 32 n).slt 0#32) = 0#1
    rw [BitVec.slt_eq_decide, toInt_ofNat_of_lt hn, decide_eq_false (by simp)]
    rfl
  rw [h]; rfl

theorem pickIx_zero (md : IVec S8192 32) (i : Fin 8192) (e : ℕ) (he : e < 8) (h : md (ix1 i) = BitVec.ofNat 32 e) :
    pickIx md (ix2 i (0 : Fin 2)) = BitVec.ofNat 32 e := by
  refine (concatenate_pair_apply_left (t := S8192x2) (s₁ := S8192x1) (s₂ := S8192x1) 1 _ _ _ (ix2 i (0 : Fin 2)) rfl (ix2 i (0 : Fin 1)) (fun b => by match b with | ⟨0, _⟩ => rfl | ⟨1, _⟩ => rfl)).trans ?_
  refine (spread_ix _ i).trans ?_
  show Scalar.select (IntOp.cmpi .slt (md (ix1 i)) 0#32) (md (ix1 i) + 8#32) (md (ix1 i)) = _
  rw [h, keep_word e (lt_trans he (by norm_num))]

theorem pickIx_one (md : IVec S8192 32) (i : Fin 8192) : pickIx md (ix2 i (1 : Fin 2)) = BitVec.ofNat 32 i.val := by
  refine (concatenate_pair_apply_right (t := S8192x2) (s₁ := S8192x1) (s₂ := S8192x1) 1 _ _ _ (ix2 i (1 : Fin 2)) rfl rfl (ix2 i (0 : Fin 1)) (fun b hb => by match b with | ⟨0, _⟩ => rfl | ⟨1, _⟩ => exact absurd rfl hb) rfl).trans ?_
  refine (spread_ix _ i).trans ?_
  show Scalar.select (IntOp.cmpi .slt (BitVec.ofNat 32 i.val) 0#32) (BitVec.ofNat 32 i.val + 8192#32) (BitVec.ofNat 32 i.val) = _
  rw [keep_word i.val (lt_trans i.isLt (by norm_num))]

theorem pickV_apply (y : FVec Ideal S8x8192x256 .f32) (md : IVec S8192 32) (i : Fin 8192) (e : Fin 8) (h : md (ix1 i) = BitVec.ofNat 32 e.val) (n : Fin 256) :
    pickV y md (ix2 i n) = y (ix3 e i n) := by
  let d := gather_S8x8192x256_S8192x2_S8192x256_1_01_n_n_01_1_11256
  refine congrArg y (funext fun a => Fin.ext ?_)
  show d.start (ix2 i n) (pickIx md) a + d.batchCoord (ix2 i n) a + d.offCoord (ix2 i n) a = _
  have hs0 : ∀ hl, d.siIdx (ix2 i n) ⟨0, hl⟩ = ix2 i (0 : Fin 2) := fun hl => by
    funext b; refine Fin.ext ?_
    match b with
    | ⟨0, _⟩ => rfl
    | ⟨1, _⟩ => rfl
  have hs1 : ∀ hl, d.siIdx (ix2 i n) ⟨1, hl⟩ = ix2 i (1 : Fin 2) := fun hl => by
    funext b; refine Fin.ext ?_
    match b with
    | ⟨0, _⟩ => rfl
    | ⟨1, _⟩ => rfl
  rw [GatherDims.batchCoord_eq_zero _ _ _ (fun h => by exact absurd h List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide)]
    unfold GatherDims.start
    rw [dif_pos (show (0 : Fin 3) ∈ d.startIndexMap from List.mem_cons_self)]
    have h1 : d.siIdx (ix2 i n) ⟨List.idxOf (0 : Fin 3) d.startIndexMap, List.idxOf_lt_length_iff.2 List.mem_cons_self⟩ = ix2 i (0 : Fin 2) := hs0 _
    rw [h1, pickIx_zero md i e.val e.isLt h, toInt_ofNat_of_lt (lt_trans e.isLt (by norm_num))]
    show min ((e.val : ℤ).toNat) 7 + 0 + 0 = e.val
    have := e.isLt
    omega
  · rw [GatherDims.offCoord_eq_zero _ _ _ (by decide)]
    unfold GatherDims.start
    rw [dif_pos (show (1 : Fin 3) ∈ d.startIndexMap from List.mem_cons_of_mem _ List.mem_cons_self)]
    have h1 : d.siIdx (ix2 i n) ⟨List.idxOf (1 : Fin 3) d.startIndexMap, List.idxOf_lt_length_iff.2 (List.mem_cons_of_mem _ List.mem_cons_self)⟩ = ix2 i (1 : Fin 2) := hs1 _
    rw [h1, pickIx_one md i, toInt_ofNat_of_lt (lt_trans i.isLt (by norm_num))]
    show min ((i.val : ℤ).toNat) 8191 + 0 + 0 = i.val
    have := i.isLt
    omega
  · unfold GatherDims.start
    rw [dif_neg (show (2 : Fin 3) ∉ d.startIndexMap by decide)]
    unfold GatherDims.offCoord
    rw [dif_pos (show (2 : Fin 3) ∈ d.sKept by decide)]
    show 0 + 0 + n.val = n.val
    omega

/-! ## The reference's value -/

variable (V : Valuation τ sig (Elt Ideal))

abbrev a0 : FVec Ideal S8192x4096 .f32 := V (Proc.devRef .tc main_arg0)
abbrev a1 : FVec Ideal S4096x64 .f32 := V (Proc.devRef .tc main_arg1)
abbrev a2 : FVec Ideal S64 .f32 := V (Proc.devRef .tc main_arg2)
abbrev a3 : FVec Ideal S64x64 .f32 := V (Proc.devRef .tc main_arg3)
abbrev a4 : FVec Ideal S64 .f32 := V (Proc.devRef .tc main_arg4)
abbrev a5 : FVec Ideal S64x64 .f32 := V (Proc.devRef .tc main_arg5)
abbrev a6 : FVec Ideal S64 .f32 := V (Proc.devRef .tc main_arg6)
abbrev a7 : FVec Ideal S64x8 .f32 := V (Proc.devRef .tc main_arg7)
abbrev a8 : FVec Ideal S8 .f32 := V (Proc.devRef .tc main_arg8)
abbrev a9 : FVec Ideal S8x4096x64 .f32 := V (Proc.devRef .tc main_arg9)
abbrev a10 : FVec Ideal S8x64 .f32 := V (Proc.devRef .tc main_arg10)
abbrev a11 : FVec Ideal S8x64x64 .f32 := V (Proc.devRef .tc main_arg11)
abbrev a12 : FVec Ideal S8x64 .f32 := V (Proc.devRef .tc main_arg12)
abbrev a13 : FVec Ideal S8x64x64 .f32 := V (Proc.devRef .tc main_arg13)
abbrev a14 : FVec Ideal S8x64 .f32 := V (Proc.devRef .tc main_arg14)
abbrev a15 : FVec Ideal S8x64x256 .f32 := V (Proc.devRef .tc main_arg15)
abbrev a16 : FVec Ideal S8x256 .f32 := V (Proc.devRef .tc main_arg16)

/-- A token's mode. -/
def modeR (i : Fin 8192) : Fin 8 :=
  modeOf (soft (logits (rl (lin (fun k => a0 V (ix2 i k)) (fun k n => a1 V (ix2 k n)) (fun n => a2 V (ix1 n)))) (fun k n => a3 V (ix2 k n)) (fun n => a4 V (ix1 n))
    (fun k n => a5 V (ix2 k n)) (fun n => a6 V (ix1 n)) (fun k n => a7 V (ix2 k n)) (fun n => a8 V (ix1 n))))
/-- An expert's outputs of a token. -/
def netR (e : Fin 8) (i : Fin 8192) : Fin 256 → EReal :=
  net (fun k => a0 V (ix2 i k)) (fun k n => a9 V (ix3 e k n)) (fun n => a10 V (ix2 e n)) (fun k n => a11 V (ix3 e k n)) (fun n => a12 V (ix2 e n))
    (fun k n => a13 V (ix3 e k n)) (fun n => a14 V (ix2 e n)) (fun k n => a15 V (ix3 e k n)) (fun n => a16 V (ix2 e n))

theorem arg_at1 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V1 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact keep1 V (by decide)
theorem arg_at2 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V2 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep2 V (by decide)).trans (keep1 V (by decide))
theorem arg_at3 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V3 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep3 V (by decide)).trans ((keep2 V (by decide)).trans (keep1 V (by decide)))
theorem arg_at4 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V4 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep4 V (by decide)).trans ((keep3 V (by decide)).trans ((keep2 V (by decide)).trans (keep1 V (by decide))))
theorem arg_at5 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V5 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep5 V (by decide)).trans ((keep4 V (by decide)).trans ((keep3 V (by decide)).trans ((keep2 V (by decide)).trans (keep1 V (by decide)))))
theorem arg_at6 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V6 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep6 V (by decide)).trans ((keep5 V (by decide)).trans ((keep4 V (by decide)).trans ((keep3 V (by decide)).trans ((keep2 V (by decide)).trans (keep1 V (by decide))))))
theorem arg_at7 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V7 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep7 V (by decide)).trans ((keep6 V (by decide)).trans ((keep5 V (by decide)).trans ((keep4 V (by decide)).trans ((keep3 V (by decide)).trans ((keep2 V (by decide)).trans (keep1 V (by decide)))))))
theorem arg_at8 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V8 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep8 V (by decide)).trans ((keep7 V (by decide)).trans ((keep6 V (by decide)).trans ((keep5 V (by decide)).trans ((keep4 V (by decide)).trans ((keep3 V (by decide)).trans ((keep2 V (by decide)).trans (keep1 V (by decide))))))))
theorem arg_at9 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V9 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep9 V (by decide)).trans ((keep8 V (by decide)).trans ((keep7 V (by decide)).trans ((keep6 V (by decide)).trans ((keep5 V (by decide)).trans ((keep4 V (by decide)).trans ((keep3 V (by decide)).trans ((keep2 V (by decide)).trans (keep1 V (by decide)))))))))
theorem arg_at10 (b : Ref sig .tc) (hb : b ∈ [main_arg0, main_arg1, main_arg2, main_arg3, main_arg4, main_arg5, main_arg6, main_arg7, main_arg8, main_arg9, main_arg10, main_arg11, main_arg12, main_arg13, main_arg14, main_arg15, main_arg16]) : V10 V (Proc.devRef .tc b) = V (Proc.devRef .tc b) := by
  revert b
  refine List.forall_iff_forall_mem.1 ?_
  refine ⟨?_, ?_, ?_, ?_, ?_, ?_, ?_, ?_, ?_, ?_, ?_, ?_, ?_, ?_, ?_, ?_, ?_⟩ <;>
    exact (keep10 V (by decide)).trans ((keep9 V (by decide)).trans ((keep8 V (by decide)).trans ((keep7 V (by decide)).trans ((keep6 V (by decide)).trans ((keep5 V (by decide)).trans ((keep4 V (by decide)).trans ((keep3 V (by decide)).trans ((keep2 V (by decide)).trans (keep1 V (by decide))))))))))

theorem row1 (i : Fin 8192) (n : Fin 64) : (V1 V (Proc.devRef .tc main_v4) : FVec Ideal S8192x64 .f32) (ix2 i n) = rl (lin (fun k => a0 V (ix2 i k)) (fun k n => a1 V (ix2 k n)) (fun n => a2 V (ix1 n))) n := by
  rw [val1, reluB_apply]
  simp only [denseA_apply]

theorem row2 (i : Fin 8192) (n : Fin 64) : (V2 V (Proc.devRef .tc main_v9) : FVec Ideal S8192x64 .f32) (ix2 i n) = rl (lin (rl (lin (fun k => a0 V (ix2 i k)) (fun k n => a1 V (ix2 k n)) (fun n => a2 V (ix1 n)))) (fun k n => a3 V (ix2 k n)) (fun n => a4 V (ix1 n))) n := by
  rw [val2, reluB_apply, arg_at1 V main_arg3 (by decide), arg_at1 V main_arg4 (by decide)]
  exact congrArg (fun f => rl f n) (funext fun j => (denseB_apply _ _ _ i j).trans (congrArg (fun f => lin f _ _ j) (funext fun k => row1 V i k)))

theorem row3 (i : Fin 8192) (n : Fin 64) : (V3 V (Proc.devRef .tc main_v14) : FVec Ideal S8192x64 .f32) (ix2 i n) = rl (lin (rl (lin (rl (lin (fun k => a0 V (ix2 i k)) (fun k n => a1 V (ix2 k n)) (fun n => a2 V (ix1 n)))) (fun k n => a3 V (ix2 k n)) (fun n => a4 V (ix1 n)))) (fun k n => a5 V (ix2 k n)) (fun n => a6 V (ix1 n))) n := by
  rw [val3, reluB_apply, arg_at2 V main_arg5 (by decide), arg_at2 V main_arg6 (by decide)]
  exact congrArg (fun f => rl f n) (funext fun j => (denseB_apply _ _ _ i j).trans (congrArg (fun f => lin f _ _ j) (funext fun k => row2 V i k)))

theorem row4 (i : Fin 8192) (n : Fin 8) : (V4 V (Proc.devRef .tc main_v18) : FVec Ideal S8192x8 .f32) (ix2 i n) = lin (rl (lin (rl (lin (rl (lin (fun k => a0 V (ix2 i k)) (fun k n => a1 V (ix2 k n)) (fun n => a2 V (ix1 n)))) (fun k n => a3 V (ix2 k n)) (fun n => a4 V (ix1 n)))) (fun k n => a5 V (ix2 k n)) (fun n => a6 V (ix1 n)))) (fun k n => a7 V (ix2 k n)) (fun n => a8 V (ix1 n)) n := by
  rw [val4, denseC_apply, arg_at3 V main_arg7 (by decide), arg_at3 V main_arg8 (by decide)]
  exact congrArg (fun f => lin f _ _ n) (funext fun k => row3 V i k)

theorem row6 (i : Fin 8192) : (V6 V (Proc.devRef .tc main_v30) : IVec S8192 32) (ix1 i) = BitVec.ofNat 32 (modeR V i).val := by
  rw [val6, val5, argV_apply]
  exact congrArg (fun f => BitVec.ofNat 32 (modeOf f).val) (funext fun k => (softV_apply _ i k).trans (congrArg (fun z => soft z k) (funext fun j => row4 V i j)))

theorem row7 (e : Fin 8) (i : Fin 8192) (n : Fin 64) : (V7 V (Proc.devRef .tc main_v36) : FVec Ideal S8x8192x64 .f32) (ix3 e i n) = rl (lin (fun k => a0 V (ix2 i k)) (fun k n => a9 V (ix3 e k n)) (fun n => a10 V (ix2 e n))) n := by
  rw [val7, reluP_apply, arg_at6 V main_arg0 (by decide), arg_at6 V main_arg9 (by decide), arg_at6 V main_arg10 (by decide)]
  simp only [denseP_apply]

theorem row8 (e : Fin 8) (i : Fin 8192) (n : Fin 64) : (V8 V (Proc.devRef .tc main_v41) : FVec Ideal S8x8192x64 .f32) (ix3 e i n) = rl (lin (rl (lin (fun k => a0 V (ix2 i k)) (fun k n => a9 V (ix3 e k n)) (fun n => a10 V (ix2 e n)))) (fun k n => a11 V (ix3 e k n)) (fun n => a12 V (ix2 e n))) n := by
  rw [val8, reluP_apply, arg_at7 V main_arg11 (by decide), arg_at7 V main_arg12 (by decide)]
  exact congrArg (fun f => rl f n) (funext fun j => (denseQ_apply _ _ _ e i j).trans (congrArg (fun f => lin f _ _ j) (funext fun k => row7 V e i k)))

theorem row9 (e : Fin 8) (i : Fin 8192) (n : Fin 64) : (V9 V (Proc.devRef .tc main_v46) : FVec Ideal S8x8192x64 .f32) (ix3 e i n) = rl (lin (rl (lin (rl (lin (fun k => a0 V (ix2 i k)) (fun k n => a9 V (ix3 e k n)) (fun n => a10 V (ix2 e n)))) (fun k n => a11 V (ix3 e k n)) (fun n => a12 V (ix2 e n)))) (fun k n => a13 V (ix3 e k n)) (fun n => a14 V (ix2 e n))) n := by
  rw [val9, reluP_apply, arg_at8 V main_arg13 (by decide), arg_at8 V main_arg14 (by decide)]
  exact congrArg (fun f => rl f n) (funext fun j => (denseQ_apply _ _ _ e i j).trans (congrArg (fun f => lin f _ _ j) (funext fun k => row8 V e i k)))

theorem row10 (e : Fin 8) (i : Fin 8192) (n : Fin 256) : (V10 V (Proc.devRef .tc main_v50) : FVec Ideal S8x8192x256 .f32) (ix3 e i n) = netR V e i n := by
  rw [val10, denseR_apply, arg_at9 V main_arg15 (by decide), arg_at9 V main_arg16 (by decide)]
  exact congrArg (fun f => lin f _ _ n) (funext fun k => row9 V e i k)

/-- The reference's result: each token's outputs of the expert of its mode. -/
theorem result (i : Fin 8192) (n : Fin 256) : (V11 V (Proc.devRef .tc main_v65) : FVec Ideal S8192x256 .f32) (ix2 i n) = netR V (modeR V i) i n := by
  have h : (V10 V (Proc.devRef .tc main_v30) : IVec S8192 32) (ix1 i) = BitVec.ofNat 32 (modeR V i).val := by
    have hk : V10 V (Proc.devRef .tc main_v30) = V6 V (Proc.devRef .tc main_v30) :=
      (keep10 V (by decide)).trans ((keep9 V (by decide)).trans ((keep8 V (by decide)).trans (keep7 V (by decide))))
    rw [hk]
    exact row6 V i
  rw [val11, pickV_apply _ _ i (modeR V i) h, row10]

end Cert.Proof.Ref
-- ==== Proof.lean ====
/-
  The certificate's claims: the kernel and the reference run, leave their arguments unchanged and end quiescent, and
  the kernel's result is the reference's, at the ideal values.
-/
module

public import proofs.«01_k».proof.Defs
public import proofs.«01_k».proof.Proof.KernD
public import proofs.«01_k».proof.Proof.RefVal

@[expose] public section

noncomputable section

namespace Cert.Proof

open Idealize.ShloMosaic hiding ix1 ix2 ix3
open Idealize.ShloMosaic.ValueIdx
open Idealize.SL.Sem

/-- The kernel's run. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (Cert.KernelIdeal.threads (F := Ideal)) ⟨m, fun _ => 0, g⟩
      (fun r => (∀ d, ∀ b ∈ Pipeline.ucRefs Cert.KernelIdeal.τ Cert.KernelIdeal.sig, r.2.mem (d, b) = VI m (aK m) d b) ∧ r.2.sem = fun _ => 0) :=
  run_main m (aK m) g (routed m) (aK_eq m)

/-- An argument after the kernel's run. -/
theorem kernel_arg (m mem : (ℓ : Loc Cert.KernelIdeal.nD Cert.KernelIdeal.τ Cert.KernelIdeal.sig) → Buf (Elt Ideal) ℓ)
    (h : ∀ d, ∀ b ∈ Pipeline.ucRefs Cert.KernelIdeal.τ Cert.KernelIdeal.sig, mem (d, b) = VI m (aK m) d b) (d : Dev Cert.KernelIdeal.nD)
    (r : Ref Cert.KernelIdeal.sig .tc) (hu : Proc.devRef .tc r ∈ Pipeline.ucRefs Cert.KernelIdeal.τ Cert.KernelIdeal.sig) (hr : r ∈ args) :
    mem ((d.tc : Thread Cert.KernelIdeal.nD Cert.KernelIdeal.τ).loc r) = m ((d.tc : Thread Cert.KernelIdeal.nD Cert.KernelIdeal.τ).loc r) :=
  (h d _ hu).trans (VI_args m d (aK m) r hr)

/-- The kernel's arguments after its run. -/
theorem kernel_args (m mem : (ℓ : Loc Cert.KernelIdeal.nD Cert.KernelIdeal.τ Cert.KernelIdeal.sig) → Buf (Elt Ideal) ℓ)
    (h : ∀ d, ∀ b ∈ Pipeline.ucRefs Cert.KernelIdeal.τ Cert.KernelIdeal.sig, mem (d, b) = VI m (aK m) d b) (c : Dev Cert.KernelIdeal.nD) :
    mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ mem ((c.tc : Thread Cert.KernelIdeal.nD Cert.KernelIdeal.τ).loc Cert.KernelIdeal.main_arg16) = m ((c.tc : Thread Cert.KernelIdeal.nD Cert.KernelIdeal.τ).loc Cert.KernelIdeal.main_arg16) :=
  ⟨kernel_arg m mem h c Cert.KernelIdeal.main_arg0 (Pipeline.devRef_mem_ucRefs rfl) (by decide),
    kernel_arg m mem h c Cert.KernelIdeal.main_arg1 (Pipeline.devRef_mem_ucRefs rfl) (by decide),
    kernel_arg m mem h c Cert.KernelIdeal.main_arg2 (Pipeline.devRef_mem_ucRefs rfl) (by decide),
    kernel_arg m mem h c Cert.KernelIdeal.main_arg3 (Pipeline.devRef_mem_ucRefs rfl) (by decide),
    kernel_arg m mem h c Cert.KernelIdeal.main_arg4 (Pipeline.devRef_mem_ucRefs rfl) (by decide),
    kernel_arg m mem h c Cert.KernelIdeal.main_arg5 (Pipeline.devRef_mem_ucRefs rfl) (by decide),
    kernel_arg m mem h c Cert.KernelIdeal.main_arg6 (Pipeline.devRef_mem_ucRefs rfl) (by decide),
    kernel_arg m mem h c Cert.KernelIdeal.main_arg7 (Pipeline.devRef_mem_ucRefs rfl) (by decide),
    kernel_arg m mem h c Cert.KernelIdeal.main_arg8 (Pipeline.devRef_mem_ucRefs rfl) (by decide),
    kernel_arg m mem h c Cert.KernelIdeal.main_arg9 (Pipeline.devRef_mem_ucRefs rfl) (by decide),
    kernel_arg m mem h c Cert.KernelIdeal.main_arg10 (Pipeline.devRef_mem_ucRefs rfl) (by decide),
    kernel_arg m mem h c Cert.KernelIdeal.main_arg11 (Pipeline.devRef_mem_ucRefs rfl) (by decide),
    kernel_arg m mem h c Cert.KernelIdeal.main_arg12 (Pipeline.devRef_mem_ucRefs rfl) (by decide),
    kernel_arg m mem h c Cert.KernelIdeal.main_arg13 (Pipeline.devRef_mem_ucRefs rfl) (by decide),
    kernel_arg m mem h c Cert.KernelIdeal.main_arg14 (Pipeline.devRef_mem_ucRefs rfl) (by decide),
    kernel_arg m mem h c Cert.KernelIdeal.main_arg15 (Pipeline.devRef_mem_ucRefs rfl) (by decide),
    kernel_arg m mem h c Cert.KernelIdeal.main_arg16 (Pipeline.devRef_mem_ucRefs rfl) (by decide)⟩

/-- An argument after the reference's run. -/
theorem reference_arg (m mem : (ℓ : Loc Cert.ReferenceIdeal.nD Cert.ReferenceIdeal.τ Cert.ReferenceIdeal.sig) → Buf (Elt Ideal) ℓ)
    (h : ∀ (d : Dev Cert.ReferenceIdeal.nD) b, mem ((d.tc : Thread Cert.ReferenceIdeal.nD Cert.ReferenceIdeal.τ).loc b) = Ref.V11 (StableHlo.launchContents m d) (Proc.devRef .tc b))
    (d : Dev Cert.ReferenceIdeal.nD) (r : Ref Cert.ReferenceIdeal.sig .tc)
    (hr : r ∈ [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15, Cert.ReferenceIdeal.main_arg16]) :
    mem ((d.tc : Thread Cert.ReferenceIdeal.nD Cert.ReferenceIdeal.τ).loc r) = m ((d.tc : Thread Cert.ReferenceIdeal.nD Cert.ReferenceIdeal.τ).loc r) :=
  (h d r).trans (Ref.V11_arg _ r hr)

/-- The reference's arguments after its run. -/
theorem reference_args (m mem : (ℓ : Loc Cert.ReferenceIdeal.nD Cert.ReferenceIdeal.τ Cert.ReferenceIdeal.sig) → Buf (Elt Ideal) ℓ)
    (h : ∀ (d : Dev Cert.ReferenceIdeal.nD) b, mem ((d.tc : Thread Cert.ReferenceIdeal.nD Cert.ReferenceIdeal.τ).loc b) = Ref.V11 (StableHlo.launchContents m d) (Proc.devRef .tc b))
    (c : Dev Cert.ReferenceIdeal.nD) :
    mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16) :=
  ⟨reference_arg m mem h c Cert.ReferenceIdeal.main_arg0 (by decide),
    reference_arg m mem h c Cert.ReferenceIdeal.main_arg1 (by decide),
    reference_arg m mem h c Cert.ReferenceIdeal.main_arg2 (by decide),
    reference_arg m mem h c Cert.ReferenceIdeal.main_arg3 (by decide),
    reference_arg m mem h c Cert.ReferenceIdeal.main_arg4 (by decide),
    reference_arg m mem h c Cert.ReferenceIdeal.main_arg5 (by decide),
    reference_arg m mem h c Cert.ReferenceIdeal.main_arg6 (by decide),
    reference_arg m mem h c Cert.ReferenceIdeal.main_arg7 (by decide),
    reference_arg m mem h c Cert.ReferenceIdeal.main_arg8 (by decide),
    reference_arg m mem h c Cert.ReferenceIdeal.main_arg9 (by decide),
    reference_arg m mem h c Cert.ReferenceIdeal.main_arg10 (by decide),
    reference_arg m mem h c Cert.ReferenceIdeal.main_arg11 (by decide),
    reference_arg m mem h c Cert.ReferenceIdeal.main_arg12 (by decide),
    reference_arg m mem h c Cert.ReferenceIdeal.main_arg13 (by decide),
    reference_arg m mem h c Cert.ReferenceIdeal.main_arg14 (by decide),
    reference_arg m mem h c Cert.ReferenceIdeal.main_arg15 (by decide),
    reference_arg m mem h c Cert.ReferenceIdeal.main_arg16 (by decide)⟩

/-- From the same arguments the two results are equal. -/
theorem results_eq (m : (ℓ : Loc Cert.KernelIdeal.nD Cert.KernelIdeal.τ Cert.KernelIdeal.sig) → Buf (Elt Ideal) ℓ) (d : Dev Cert.KernelIdeal.nD)
    (V : Valuation Cert.ReferenceIdeal.τ Cert.ReferenceIdeal.sig (Elt Ideal))
    (h0 : Ref.a0 V = A0 m d)
    (h1 : Ref.a1 V = A1 m d)
    (h2 : Ref.a2 V = A2 m d)
    (h3 : Ref.a3 V = A3 m d)
    (h4 : Ref.a4 V = A4 m d)
    (h5 : Ref.a5 V = A5 m d)
    (h6 : Ref.a6 V = A6 m d)
    (h7 : Ref.a7 V = A7 m d)
    (h8 : Ref.a8 V = A8 m d)
    (h9 : Ref.a9 V = A9 m d)
    (h10 : Ref.a10 V = A10 m d)
    (h11 : Ref.a11 V = A11 m d)
    (h12 : Ref.a12 V = A12 m d)
    (h13 : Ref.a13 V = A13 m d)
    (h14 : Ref.a14 V = A14 m d)
    (h15 : Ref.a15 V = A15 m d)
    (h16 : Ref.a16 V = A16 m d) :
    (Ref.V11 V (Proc.devRef .tc Cert.ReferenceIdeal.main_v65) : FVec Ideal Cert.KernelIdeal.S8192x256 .f32)
      = (VI m (aK m) d (Proc.devRef .tc Cert.KernelIdeal.main_v21) : FVec Ideal Cert.KernelIdeal.S8192x256 .f32) := by
  funext y
  obtain ⟨i, n, rfl⟩ : ∃ (i : Fin 8192) (n : Fin 256), y = ix2 i n := ⟨_, _, ValueIdx.eq_ix2 y⟩
  have hm : Ref.modeR V i = modeK m d i := by
    unfold Ref.modeR modeK zK
    rw [h0, h1, h2, h3, h4, h5, h6, h7, h8]
  have hn (e : Fin 8) : Ref.netR V e i = netK m d e i := by
    unfold Ref.netR netK
    rw [h0, h9, h10, h11, h12, h13, h14, h15, h16]
  refine (Ref.result V i n).trans (Eq.trans ?_ (result m d i n).symm)
  rw [hm, hn]

theorem claim : Cert.Claim := by
  refine ⟨Cert.KernelIdeal.Gen.facts, Cert.ReferenceIdeal.Gen.facts, ?_, ?_, ?_⟩
  · intro m g _
    exact θ_run_mono (kernel_run m g) fun r h => ⟨kernel_args m r.2.mem h.1, h.2⟩
  · intro m g _
    exact θ_run_mono (Ref.run m g) fun r h => ⟨reference_args m r.2.mem h.1, h.2⟩
  · intro m g m' g' _ ha
    refine ⟨fun c => VI m (aK m) c (Proc.devRef .tc Cert.KernelIdeal.main_v21), ?_, ?_⟩
    · exact θ_run_mono (kernel_run m g) fun r h c => ⟨h.1 c _ (Pipeline.devRef_mem_ucRefs rfl), kernel_args m r.2.mem h.1 c⟩
    · refine θ_run_mono (Ref.run m' g') fun r h c => ⟨(h.1 c _).trans ?_, reference_args m' r.2.mem h.1 c⟩
      obtain ⟨h0, h1, h2, h3, h4, h5, h6, h7, h8, h9, h10, h11, h12, h13, h14, h15, h16⟩ := ha c
      exact results_eq m c (StableHlo.launchContents m' c) h0 h1 h2 h3 h4 h5 h6 h7 h8 h9 h10 h11 h12 h13 h14 h15 h16

end Cert.Proof

end
